-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_experts : Cert.Pre_experts.Facts] (m : (ℓ : Loc Cert.Kernel4.nD Cert.Kernel4.τ Cert.Kernel4.sig) → Buf (Elt Bits) ℓ) : Prop :=
  ∀ c : Dev Cert.Kernel4.nD,
    (Cert.Pre_experts.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5))) = (fun _ => 1#1)

def Pre_Kernel4Ideal [hPre_experts : Cert.Pre_experts.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_experts.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_experts [hPre_experts : Cert.Pre_experts.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_experts.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_ctx [hPre_finite_ctx : Cert.Pre_finite_ctx.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_ctx.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_ctx [hPre_finite_ctx : Cert.Pre_finite_ctx.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_ctx.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] [hPre_experts : Cert.Pre_experts.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] [hPre_experts : Cert.Pre_experts.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_experts [hReference4Ideal : Cert.Reference4Ideal.Facts] [hPre_experts : Cert.Pre_experts.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_experts m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite_ctx [hKernel6Ideal : Cert.Kernel6Ideal.Facts] [hPre_finite_ctx : Cert.Pre_finite_ctx.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_ctx m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_ctx [hReference6Ideal : Cert.Reference6Ideal.Facts] [hPre_finite_ctx : Cert.Pre_finite_ctx.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_ctx m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] [hPre_experts : Cert.Pre_experts.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v49_0)) (v1 : (c : Dev Cert.Kernel5Ideal.nD) → Buf (Elt Ideal) ((c.tc : Thread Cert.Kernel5Ideal.nD Cert.Kernel5Ideal.τ).loc Cert.Kernel5Ideal.main_v49_1)) (v2 : (c : Dev Cert.Kernel5Ideal.nD) → Buf (Elt Ideal) ((c.tc : Thread Cert.Kernel5Ideal.nD Cert.Kernel5Ideal.τ).loc Cert.Kernel5Ideal.main_v49_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v49_0) = v0 c
          ∧ r.2.mem ((c.tc : Thread Cert.Kernel5Ideal.nD Cert.Kernel5Ideal.τ).loc Cert.Kernel5Ideal.main_v49_1) = v1 c
          ∧ r.2.mem ((c.tc : Thread Cert.Kernel5Ideal.nD Cert.Kernel5Ideal.τ).loc Cert.Kernel5Ideal.main_v49_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v122) = v0 c
          ∧ r.2.mem ((c.tc : Thread Cert.Reference5Ideal.nD Cert.Reference5Ideal.τ).loc Cert.Reference5Ideal.main_v124) = v1 c
          ∧ r.2.mem ((c.tc : Thread Cert.Reference5Ideal.nD Cert.Reference5Ideal.τ).loc Cert.Reference5Ideal.main_v126) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite_ctx [hKernel6Ideal : Cert.Kernel6Ideal.Facts] [hReference6Ideal : Cert.Reference6Ideal.Facts] [hPre_finite_ctx : Cert.Pre_finite_ctx.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_ctx m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v45) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v20_0)) (v1 : (c : Dev Cert.Kernel8Ideal.nD) → Buf (Elt Ideal) ((c.tc : Thread Cert.Kernel8Ideal.nD Cert.Kernel8Ideal.τ).loc Cert.Kernel8Ideal.main_v20_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v20_0) = v0 c
          ∧ r.2.mem ((c.tc : Thread Cert.Kernel8Ideal.nD Cert.Kernel8Ideal.τ).loc Cert.Kernel8Ideal.main_v20_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v35) = v0 c
          ∧ r.2.mem ((c.tc : Thread Cert.Reference8Ideal.nD Cert.Reference8Ideal.τ).loc Cert.Reference8Ideal.main_v36) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v49_0)) (v1 : (c : Dev Cert.Kernel9Ideal.nD) → Buf (Elt Ideal) ((c.tc : Thread Cert.Kernel9Ideal.nD Cert.Kernel9Ideal.τ).loc Cert.Kernel9Ideal.main_v49_1)) (v2 : (c : Dev Cert.Kernel9Ideal.nD) → Buf (Elt Ideal) ((c.tc : Thread Cert.Kernel9Ideal.nD Cert.Kernel9Ideal.τ).loc Cert.Kernel9Ideal.main_v49_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v49_0) = v0 c
          ∧ r.2.mem ((c.tc : Thread Cert.Kernel9Ideal.nD Cert.Kernel9Ideal.τ).loc Cert.Kernel9Ideal.main_v49_1) = v1 c
          ∧ r.2.mem ((c.tc : Thread Cert.Kernel9Ideal.nD Cert.Kernel9Ideal.τ).loc Cert.Kernel9Ideal.main_v49_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v43) = v0 c
          ∧ r.2.mem ((c.tc : Thread Cert.Reference9Ideal.nD Cert.Reference9Ideal.τ).loc Cert.Reference9Ideal.main_v45) = v1 c
          ∧ r.2.mem ((c.tc : Thread Cert.Reference9Ideal.nD Cert.Reference9Ideal.τ).loc Cert.Reference9Ideal.main_v47) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_experts : Cert.Pre_experts.Facts) (hPre_finite_ctx : Cert.Pre_finite_ctx.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_experts := hPre_experts)
    ∧ quiescent_Kernel4Ideal (hKernel4Ideal := hKernel4Ideal) (hPre_experts := hPre_experts)
    ∧ quiescent_Reference4Ideal (hReference4Ideal := hReference4Ideal)
    ∧ quiescent_Reference4Ideal_pre_experts (hReference4Ideal := hReference4Ideal) (hPre_experts := hPre_experts)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_ctx (hKernel6Ideal := hKernel6Ideal) (hPre_finite_ctx := hPre_finite_ctx)
    ∧ quiescent_Reference6Ideal (hReference6Ideal := hReference6Ideal)
    ∧ quiescent_Reference6Ideal_pre_finite_ctx (hReference6Ideal := hReference6Ideal) (hPre_finite_ctx := hPre_finite_ctx)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_experts := hPre_experts)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_ctx (hKernel6Ideal := hKernel6Ideal) (hReference6Ideal := hReference6Ideal) (hPre_finite_ctx := hPre_finite_ctx)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_experts.lean ====
abbrev S162 : Shape := ⟨1, ![162]⟩
abbrev S1 : Shape := ⟨1, ![1]⟩
abbrev S41472x2048 : Shape := ⟨2, ![41472, 2048]⟩
abbrev S32x2048x512 : Shape := ⟨3, ![32, 2048, 512]⟩
abbrev S32x512x2048 : Shape := ⟨3, ![32, 512, 2048]⟩
abbrev S_ : Shape := ⟨0, ![]⟩

class Facts : Prop where
  bcast_S_S162 : S_.BroadcastsInDim S162 (![] : Fin 0 → Fin S162.rank)
  reducesTo_S162_S_d0 : S162.ReducesTo [0] S_
  h_S_ : 0 < S_.numel

variable [Facts]

def fn {F : FTy → Type} [FloatOps F] (main_arg0 : IVec S162 32) (main_arg1 : IVec S1 32) (main_arg2 : FVec F S41472x2048 .bf16) (main_arg3 : FVec F S32x2048x512 .f32) (main_arg4 : FVec F S32x2048x512 .f32) (main_arg5 : FVec F S32x512x2048 .f32) : IVec S_ 1 :=
  let main_c : IVec S_ 32 := constantI S_ 32 0#32
  let main_v0 : IVec S162 32 := broadcastInDim S162 ![] bcast_S_S162 main_c
  let main_v1 : IVec S162 1 := cmpi .sge main_arg0 main_v0
  let main_c_0 : IVec S_ 32 := constantI S_ 32 32#32
  let main_v2 : IVec S162 32 := broadcastInDim S162 ![] bcast_S_S162 main_c_0
  let main_v3 : IVec S162 1 := cmpi .slt main_arg0 main_v2
  let main_v4 : IVec S162 1 := andi main_v1 main_v3
  let main_c_1 : IVec S_ 1 := constantI S_ 1 1#1
  let main_v5 : IVec S_ 1 := (fun x v => Host.reduce IntOp.andi x v reducesTo_S162_S_d0 h_S_) main_v4 main_c_1
  main_v5
-- ==== Pre_finite.lean ====
abbrev S1x1 : Shape := ⟨2, ![1, 1]⟩
abbrev S2x16384x512 : Shape := ⟨3, ![2, 16384, 512]⟩
abbrev S16384x512 : Shape := ⟨2, ![16384, 512]⟩
abbrev S4x32x128x512 : Shape := ⟨4, ![4, 32, 128, 512]⟩
abbrev S256x512 : Shape := ⟨2, ![256, 512]⟩
abbrev S4x1x128x256 : Shape := ⟨4, ![4, 1, 128, 256]⟩
abbrev S128x1 : Shape := ⟨2, ![128, 1]⟩
abbrev S_ : Shape := ⟨0, ![]⟩

class Facts : Prop where
  bcast_S_S1x1 : S_.BroadcastsInDim S1x1 (![] : Fin 0 → Fin S1x1.rank)
  reducesTo_S1x1_S_d0_1 : S1x1.ReducesTo [0, 1] S_
  h_S_ : 0 < S_.numel
  bcast_S_S2x16384x512 : S_.BroadcastsInDim S2x16384x512 (![] : Fin 0 → Fin S2x16384x512.rank)
  reducesTo_S2x16384x512_S_d0_1_2 : S2x16384x512.ReducesTo [0, 1, 2] S_
  bcast_S_S16384x512 : S_.BroadcastsInDim S16384x512 (![] : Fin 0 → Fin S16384x512.rank)
  reducesTo_S16384x512_S_d0_1 : S16384x512.ReducesTo [0, 1] S_
  bcast_S_S4x32x128x512 : S_.BroadcastsInDim S4x32x128x512 (![] : Fin 0 → Fin S4x32x128x512.rank)
  reducesTo_S4x32x128x512_S_d0_1_2_3 : S4x32x128x512.ReducesTo [0, 1, 2, 3] S_
  bcast_S_S256x512 : S_.BroadcastsInDim S256x512 (![] : Fin 0 → Fin S256x512.rank)
  reducesTo_S256x512_S_d0_1 : S256x512.ReducesTo [0, 1] S_
  bcast_S_S4x1x128x256 : S_.BroadcastsInDim S4x1x128x256 (![] : Fin 0 → Fin S4x1x128x256.rank)
  reducesTo_S4x1x128x256_S_d0_1_2_3 : S4x1x128x256.ReducesTo [0, 1, 2, 3] S_

variable [Facts]

def fn_part1 {F : FTy → Type} [FloatOps F] (main_arg4 : FVec F S256x512 .bf16) (main_arg5 : FVec F S4x1x128x256 .bf16) (main_v13 : IVec S_ 1) (main_v16 : IVec S4x32x128x512 1) : IVec S_ 1 :=
  let main_c_5 : IVec S_ 1 := constantI S_ 1 1#1
  let main_v17 : IVec S_ 1 := (fun x v => Host.reduce IntOp.andi x v reducesTo_S4x32x128x512_S_d0_1_2_3 h_S_) main_v16 main_c_5
  let main_v18 : IVec S_ 1 := andi main_v13 main_v17
  let main_v19 : FVec F S256x512 .bf16 := Host.absf main_arg4
  let main_cst_6 : FVec F S_ .bf16 := constant S_ .bf16 0x7F80#16
  let main_v20 : FVec F S256x512 .bf16 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S4x1x128x256 .bf16 := Host.absf main_arg5
  let main_cst_8 : FVec F S_ .bf16 := constant S_ .bf16 0x7F80#16
  let main_v25 : FVec F S4x1x128x256 .bf16 := broadcastInDim S4x1x128x256 ![] bcast_S_S4x1x128x256 main_cst_8
  let main_v26 : IVec S4x1x128x256 1 := cmpf .olt main_v24 main_v25
  let main_c_9 : IVec S_ 1 := constantI S_ 1 1#1
  let main_v27 : IVec S_ 1 := (fun x v => Host.reduce IntOp.andi x v reducesTo_S4x1x128x256_S_d0_1_2_3 h_S_) main_v26 main_c_9
  let main_v28 : IVec S_ 1 := andi main_v23 main_v27
  main_v28

def fn {F : FTy → Type} [FloatOps F] (main_arg0 : FVec F S1x1 .f32) (main_arg1 : FVec F S2x16384x512 .bf16) (main_arg2 : FVec F S16384x512 .bf16) (main_arg3 : FVec F S4x32x128x512 .bf16) (main_arg4 : FVec F S256x512 .bf16) (main_arg5 : FVec F S4x1x128x256 .bf16) (main_arg6 : FVec F S128x1 .f32) : IVec S_ 1 :=
  let main_v0 : FVec F S1x1 .f32 := Host.absf main_arg0
  let main_cst : FVec F S_ .f32 := constant S_ .f32 0x7F800000#32
  let main_v1 : FVec F S1x1 .f32 := broadcastInDim S1x1 ![] bcast_S_S1x1 main_cst
  let main_v2 : IVec S1x1 1 := cmpf .olt main_v0 main_v1
  let main_c : IVec S_ 1 := constantI S_ 1 1#1
  let main_v3 : IVec S_ 1 := (fun x v => Host.reduce IntOp.andi x v reducesTo_S1x1_S_d0_1 h_S_) main_v2 main_c
  let main_v4 : FVec F S2x16384x512 .bf16 := Host.absf main_arg1
  let main_cst_0 : FVec F S_ .bf16 := constant S_ .bf16 0x7F80#16
  let main_v5 : FVec F S2x16384x512 .bf16 := broadcastInDim S2x16384x512 ![] bcast_S_S2x16384x512 main_cst_0
  let main_v6 : IVec S2x16384x512 1 := cmpf .olt main_v4 main_v5
  let main_c_1 : IVec S_ 1 := constantI S_ 1 1#1
  let main_v7 : IVec S_ 1 := (fun x v => Host.reduce IntOp.andi x v reducesTo_S2x16384x512_S_d0_1_2 h_S_) main_v6 main_c_1
  let main_v8 : IVec S_ 1 := andi main_v3 main_v7
  let main_v9 : FVec F S16384x512 .bf16 := Host.absf main_arg2
  let main_cst_2 : FVec F S_ .bf16 := constant S_ .bf16 0x7F80#16
  let main_v10 : FVec F S16384x512 .bf16 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S4x32x128x512 .bf16 := Host.absf main_arg3
  let main_cst_4 : FVec F S_ .bf16 := constant S_ .bf16 0x7F80#16
  let main_v15 : FVec F S4x32x128x512 .bf16 := broadcastInDim S4x32x128x512 ![] bcast_S_S4x32x128x512 main_cst_4
  let main_v16 : IVec S4x32x128x512 1 := cmpf .olt main_v14 main_v15
  fn_part1 (F := F) main_arg4 main_arg5 main_v13 main_v16
-- ==== Pre_finite_ctx.lean ====
abbrev S1x1 : Shape := ⟨2, ![1, 1]⟩
abbrev S2x256x512 : Shape := ⟨3, ![2, 256, 512]⟩
abbrev S256x512 : Shape := ⟨2, ![256, 512]⟩
abbrev S4x1x128x256 : Shape := ⟨4, ![4, 1, 128, 256]⟩
abbrev S128x1 : Shape := ⟨2, ![128, 1]⟩
abbrev S_ : Shape := ⟨0, ![]⟩

class Facts : Prop where
  bcast_S_S1x1 : S_.BroadcastsInDim S1x1 (![] : Fin 0 → Fin S1x1.rank)
  reducesTo_S1x1_S_d0_1 : S1x1.ReducesTo [0, 1] S_
  h_S_ : 0 < S_.numel
  bcast_S_S2x256x512 : S_.BroadcastsInDim S2x256x512 (![] : Fin 0 → Fin S2x256x512.rank)
  reducesTo_S2x256x512_S_d0_1_2 : S2x256x512.ReducesTo [0, 1, 2] S_
  bcast_S_S256x512 : S_.BroadcastsInDim S256x512 (![] : Fin 0 → Fin S256x512.rank)
  reducesTo_S256x512_S_d0_1 : S256x512.ReducesTo [0, 1] S_
  bcast_S_S4x1x128x256 : S_.BroadcastsInDim S4x1x128x256 (![] : Fin 0 → Fin S4x1x128x256.rank)
  reducesTo_S4x1x128x256_S_d0_1_2_3 : S4x1x128x256.ReducesTo [0, 1, 2, 3] S_

variable [Facts]

def fn_part1 {F : FTy → Type} [FloatOps F] (main_v13 : IVec S_ 1) (main_v16 : IVec S4x1x128x256 1) : IVec S_ 1 :=
  let main_c_5 : IVec S_ 1 := constantI S_ 1 1#1
  let main_v17 : IVec S_ 1 := (fun x v => Host.reduce IntOp.andi x v reducesTo_S4x1x128x256_S_d0_1_2_3 h_S_) main_v16 main_c_5
  let main_v18 : IVec S_ 1 := andi main_v13 main_v17
  main_v18

def fn {F : FTy → Type} [FloatOps F] (main_arg0 : FVec F S1x1 .f32) (main_arg1 : FVec F S2x256x512 .bf16) (main_arg2 : FVec F S256x512 .bf16) (main_arg3 : FVec F S4x1x128x256 .bf16) (main_arg4 : FVec F S128x1 .f32) : IVec S_ 1 :=
  let main_v0 : FVec F S1x1 .f32 := Host.absf main_arg0
  let main_cst : FVec F S_ .f32 := constant S_ .f32 0x7F800000#32
  let main_v1 : FVec F S1x1 .f32 := broadcastInDim S1x1 ![] bcast_S_S1x1 main_cst
  let main_v2 : IVec S1x1 1 := cmpf .olt main_v0 main_v1
  let main_c : IVec S_ 1 := constantI S_ 1 1#1
  let main_v3 : IVec S_ 1 := (fun x v => Host.reduce IntOp.andi x v reducesTo_S1x1_S_d0_1 h_S_) main_v2 main_c
  let main_v4 : FVec F S2x256x512 .bf16 := Host.absf main_arg1
  let main_cst_0 : FVec F S_ .bf16 := constant S_ .bf16 0x7F80#16
  let main_v5 : FVec F S2x256x512 .bf16 := broadcastInDim S2x256x512 ![] bcast_S_S2x256x512 main_cst_0
  let main_v6 : IVec S2x256x512 1 := cmpf .olt main_v4 main_v5
  let main_c_1 : IVec S_ 1 := constantI S_ 1 1#1
  let main_v7 : IVec S_ 1 := (fun x v => Host.reduce IntOp.andi x v reducesTo_S2x256x512_S_d0_1_2 h_S_) main_v6 main_c_1
  let main_v8 : IVec S_ 1 := andi main_v3 main_v7
  let main_v9 : FVec F S256x512 .bf16 := Host.absf main_arg2
  let main_cst_2 : FVec F S_ .bf16 := constant S_ .bf16 0x7F80#16
  let main_v10 : FVec F S256x512 .bf16 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S4x1x128x256 .bf16 := Host.absf main_arg3
  let main_cst_4 : FVec F S_ .bf16 := constant S_ .bf16 0x7F80#16
  let main_v15 : FVec F S4x1x128x256 .bf16 := broadcastInDim S4x1x128x256 ![] bcast_S_S4x1x128x256 main_cst_4
  let main_v16 : IVec S4x1x128x256 1 := cmpf .olt main_v14 main_v15
  fn_part1 (F := F) main_v13 main_v16
-- ==== Kernel.lean ====
abbrev S1x1 : Shape := ⟨2, ![1, 1]⟩
abbrev S2x16384x512 : Shape := ⟨3, ![2, 16384, 512]⟩
abbrev S16384x512 : Shape := ⟨2, ![16384, 512]⟩
abbrev S4x32x128x512 : Shape := ⟨4, ![4, 32, 128, 512]⟩
abbrev S256x512 : Shape := ⟨2, ![256, 512]⟩
abbrev S4x1x128x256 : Shape := ⟨4, ![4, 1, 128, 256]⟩
abbrev S128x1 : Shape := ⟨2, ![128, 1]⟩
abbrev S2x512x128 : Shape := ⟨3, ![2, 512, 128]⟩
abbrev S16384x128 : Shape := ⟨2, ![16384, 128]⟩
abbrev S1x32x128x512 : Shape := ⟨4, ![1, 32, 128, 512]⟩
abbrev S256x128 : Shape := ⟨2, ![256, 128]⟩
abbrev S1x1x128x256 : Shape := ⟨4, ![1, 1, 128, 256]⟩
abbrev S512x128 : Shape := ⟨2, ![512, 128]⟩
abbrev S1x1024 : Shape := ⟨2, ![1, 1024]⟩
abbrev S128x1024 : Shape := ⟨2, ![128, 1024]⟩
abbrev S1024x128 : Shape := ⟨2, ![1024, 128]⟩
abbrev S1x1x128x512 : Shape := ⟨4, ![1, 1, 128, 512]⟩
abbrev S128x512 : Shape := ⟨2, ![128, 512]⟩
abbrev S512x1024 : Shape := ⟨2, ![512, 1024]⟩
abbrev S1024 : Shape := ⟨1, ![1024]⟩
abbrev S128x256 : Shape := ⟨2, ![128, 256]⟩
abbrev S256x1024 : Shape := ⟨2, ![256, 1024]⟩
abbrev S1x512 : Shape := ⟨2, ![1, 512]⟩
abbrev S512 : Shape := ⟨1, ![512]⟩

abbrev nBuf : Space → Nat
  | .hbm => 8
  | .vmem => 16
  | .smem => 1
  | _ => 0

abbrev bufTy : (tb : Table) → Fin (tcTables nBuf tb) → BufTy
  | .hbm, ⟨0, _⟩ => ⟨S1x1, .f32⟩
  | .hbm, ⟨1, _⟩ => ⟨S2x16384x512, .bf16⟩
  | .hbm, ⟨2, _⟩ => ⟨S16384x512, .bf16⟩
  | .hbm, ⟨3, _⟩ => ⟨S4x32x128x512, .bf16⟩
  | .hbm, ⟨4, _⟩ => ⟨S256x512, .bf16⟩
  | .hbm, ⟨5, _⟩ => ⟨S4x1x128x256, .bf16⟩
  | .hbm, ⟨6, _⟩ => ⟨S128x1, .f32⟩
  | .hbm, ⟨7, _⟩ => ⟨S16384x512, .f32⟩
  | .local _ .vmem, ⟨0, _⟩ => ⟨S2x512x128, .bf16⟩
  | .local _ .vmem, ⟨1, _⟩ => ⟨S2x512x128, .bf16⟩
  | .local _ .vmem, ⟨2, _⟩ => ⟨S16384x128, .bf16⟩
  | .local _ .vmem, ⟨3, _⟩ => ⟨S16384x128, .bf16⟩
  | .local _ .vmem, ⟨4, _⟩ => ⟨S1x32x128x512, .bf16⟩
  | .local _ .vmem, ⟨5, _⟩ => ⟨S1x32x128x512, .bf16⟩
  | .local _ .vmem, ⟨6, _⟩ => ⟨S256x128, .bf16⟩
  | .local _ .vmem, ⟨7, _⟩ => ⟨S256x128, .bf16⟩
  | .local _ .vmem, ⟨8, _⟩ => ⟨S1x1x128x256, .bf16⟩
  | .local _ .vmem, ⟨9, _⟩ => ⟨S1x1x128x256, .bf16⟩
  | .local _ .vmem, ⟨10, _⟩ => ⟨S128x1, .f32⟩
  | .local _ .vmem, ⟨11, _⟩ => ⟨S512x128, .f32⟩
  | .local _ .vmem, ⟨12, _⟩ => ⟨S512x128, .f32⟩
  | .local _ .vmem, ⟨13, _⟩ => ⟨S1x1024, .f32⟩
  | .local _ .vmem, ⟨14, _⟩ => ⟨S1x1024, .f32⟩
  | .local _ .vmem, ⟨15, _⟩ => ⟨S128x1024, .f32⟩
  | .local _ .smem, ⟨0, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 32], ![false, false]⟩

@[reducible] def k0_t1_loop : Scf.Loop 32 :=
  let c0_i32 : BitVec 32 := 0#32
  let c32_i32 : BitVec 32 := 32#32
  let v14 : BitVec 32 := Scalar.addi c0_i32 c32_i32
  let c1_i32 : BitVec 32 := 1#32
  ⟨c0_i32, v14, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v79 : BitVec 32 := Scalar.muli arg13 c512_i32
  v79
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c512_i32 : BitVec 32 := 512#32
  let v79 : BitVec 32 := Scalar.muli arg13 c512_i32
  let v80 : BitVec 32 := v79
  let v81 : Index := Scalar.indexCast v80
  let c0_47 : Index := 0#32
  ![v81.toNat, 0]
def k0_off2 (k0_t1 : Fin k0_t1_loop.trips) : Fin 4 → Nat :=
  let c0_48 : Index := 0#32
  let c0_i32 : BitVec 32 := 0#32
  let c1_i32 : BitVec 32 := 1#32
  let arg13 : BitVec 32 := Scf.iv c0_i32 c1_i32 k0_t1
  let v83 : Index := Scalar.indexCast arg13
  let c0_49 : Index := 0#32
  let c0_50 : Index := 0#32
  ![0, v83.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S1x1 : Shape := ⟨2, ![1, 1]⟩
abbrev S2x16384x512 : Shape := ⟨3, ![2, 16384, 512]⟩
abbrev S16384x512 : Shape := ⟨2, ![16384, 512]⟩
abbrev S4x32x128x512 : Shape := ⟨4, ![4, 32, 128, 512]⟩
abbrev S256x512 : Shape := ⟨2, ![256, 512]⟩
abbrev S4x1x128x256 : Shape := ⟨4, ![4, 1, 128, 256]⟩
abbrev S128x1 : Shape := ⟨2, ![128, 1]⟩
abbrev S2x16384x4x128 : Shape := ⟨4, ![2, 16384, 4, 128]⟩
abbrev S16640x512 : Shape := ⟨2, ![16640, 512]⟩
abbrev S16640x4x128 : Shape := ⟨3, ![16640, 4, 128]⟩
abbrev S4x1x256x128 : Shape := ⟨4, ![4, 1, 256, 128]⟩
abbrev S4x256x128 : Shape := ⟨3, ![4, 256, 128]⟩
abbrev S4x32x512x128 : Shape := ⟨4, ![4, 32, 512, 128]⟩
abbrev S4x16384x128 : Shape := ⟨3, ![4, 16384, 128]⟩
abbrev S4x16640x128 : Shape := ⟨3, ![4, 16640, 128]⟩
abbrev S4x2x16384x16640 : Shape := ⟨4, ![4, 2, 16384, 16640]⟩
abbrev S_ : Shape := ⟨0, ![]⟩
abbrev S4x2x16384 : Shape := ⟨3, ![4, 2, 16384]⟩
abbrev S4x2x16384x1 : Shape := ⟨4, ![4, 2, 16384, 1]⟩
abbrev S4x1x16384x16640 : Shape := ⟨4, ![4, 1, 16384, 16640]⟩
abbrev S4x16384x16640 : Shape := ⟨3, ![4, 16384, 16640]⟩
abbrev S4x128x16384 : Shape := ⟨3, ![4, 128, 16384]⟩
abbrev S16384x4x128 : Shape := ⟨3, ![16384, 4, 128]⟩
abbrev S16384x4 : Shape := ⟨2, ![16384, 4]⟩
abbrev S16384x4x1 : Shape := ⟨3, ![16384, 4, 1]⟩
abbrev S128 : Shape := ⟨1, ![128]⟩
abbrev S1x1x128 : Shape := ⟨3, ![1, 1, 128]⟩

abbrev nBuf : Space → Nat
  | .hbm => 65
  | .vmem => 0
  | .smem => 0
  | _ => 0

abbrev bufTy : (tb : Table) → Fin (tcTables nBuf tb) → BufTy
  | .hbm, ⟨0, _⟩ => ⟨S1x1, .f32⟩
  | .hbm, ⟨1, _⟩ => ⟨S2x16384x512, .bf16⟩
  | .hbm, ⟨2, _⟩ => ⟨S16384x512, .bf16⟩
  | .hbm, ⟨3, _⟩ => ⟨S4x32x128x512, .bf16⟩
  | .hbm, ⟨4, _⟩ => ⟨S256x512, .bf16⟩
  | .hbm, ⟨5, _⟩ => ⟨S4x1x128x256, .bf16⟩
  | .hbm, ⟨6, _⟩ => ⟨S128x1, .f32⟩
  | .hbm, ⟨7, _⟩ => ⟨S2x16384x512, .f32⟩
  | .hbm, ⟨8, _⟩ => ⟨S2x16384x4x128, .f32⟩
  | .hbm, ⟨9, _⟩ => ⟨S16640x512, .bf16⟩
  | .hbm, ⟨10, _⟩ => ⟨S16640x512, .f32⟩
  | .hbm, ⟨11, _⟩ => ⟨S16640x4x128, .f32⟩
  | .hbm, ⟨12, _⟩ => ⟨S4x1x128x256, .f32⟩
  | .hbm, ⟨13, _⟩ => ⟨S4x1x256x128, .f32⟩
  | .hbm, ⟨14, _⟩ => ⟨S4x256x128, .f32⟩
  | .hbm, ⟨15, _⟩ => ⟨S4x32x128x512, .f32⟩
  | .hbm, ⟨16, _⟩ => ⟨S4x32x512x128, .f32⟩
  | .hbm, ⟨17, _⟩ => ⟨S4x16384x128, .f32⟩
  | .hbm, ⟨18, _⟩ => ⟨S4x16640x128, .f32⟩
  | .hbm, ⟨19, _⟩ => ⟨S4x2x16384x16640, .f32⟩
  | .hbm, ⟨20, _⟩ => ⟨S_, .f32⟩
  | .hbm, ⟨21, _⟩ => ⟨S4x2x16384, .f32⟩
  | .hbm, ⟨22, _⟩ => ⟨S_, .f32⟩
  | .hbm, ⟨23, _⟩ => ⟨S4x2x16384, .f32⟩
  | .hbm, ⟨24, _⟩ => ⟨S4x2x16384, .f32⟩
  | .hbm, ⟨25, _⟩ => ⟨S4x2x16384x1, .f32⟩
  | .hbm, ⟨26, _⟩ => ⟨S4x2x16384x16640, .f32⟩
  | .hbm, ⟨27, _⟩ => ⟨S4x2x16384x16640, .f32⟩
  | .hbm, ⟨28, _⟩ => ⟨S4x2x16384x16640, .f32⟩
  | .hbm, ⟨29, _⟩ => ⟨S_, .f32⟩
  | .hbm, ⟨30, _⟩ => ⟨S4x2x16384, .f32⟩
  | .hbm, ⟨31, _⟩ => ⟨S4x2x16384x1, .f32⟩
  | .hbm, ⟨32, _⟩ => ⟨S4x2x16384x16640, .f32⟩
  | .hbm, ⟨33, _⟩ => ⟨S4x2x16384x16640, .f32⟩
  | .hbm, ⟨34, _⟩ => ⟨S4x1x16384x16640, .f32⟩
  | .hbm, ⟨35, _⟩ => ⟨S4x16384x16640, .f32⟩
  | .hbm, ⟨36, _⟩ => ⟨S_, .f32⟩
  | .hbm, ⟨37, _⟩ => ⟨S4x1x16384x16640, .f32⟩
  | .hbm, ⟨38, _⟩ => ⟨S4x16384x16640, .f32⟩
  | .hbm, ⟨39, _⟩ => ⟨S4x16384x16640, .f32⟩
  | .hbm, ⟨40, _⟩ => ⟨S4x16384x16640, .f32⟩
  | .hbm, ⟨41, _⟩ => ⟨S4x16384x16640, .f32⟩
  | .hbm, ⟨42, _⟩ => ⟨S4x128x16384, .f32⟩
  | .hbm, ⟨43, _⟩ => ⟨S16384x4x128, .f32⟩
  | .hbm, ⟨44, _⟩ => ⟨S16384x4x128, .f32⟩
  | .hbm, ⟨45, _⟩ => ⟨S_, .f32⟩
  | .hbm, ⟨46, _⟩ => ⟨S16384x4, .f32⟩
  | .hbm, ⟨47, _⟩ => ⟨S16384x4x1, .f32⟩
  | .hbm, ⟨48, _⟩ => ⟨S_, .f32⟩
  | .hbm, ⟨49, _⟩ => ⟨S16384x4x1, .f32⟩
  | .hbm, ⟨50, _⟩ => ⟨S16384x4x1, .f32⟩
  | .hbm, ⟨51, _⟩ => ⟨S_, .f32⟩
  | .hbm, ⟨52, _⟩ => ⟨S16384x4x1, .f32⟩
  | .hbm, ⟨53, _⟩ => ⟨S16384x4x1, .f32⟩
  | .hbm, ⟨54, _⟩ => ⟨S16384x4x1, .f32⟩
  | .hbm, ⟨55, _⟩ => ⟨S16384x4x128, .f32⟩
  | .hbm, ⟨56, _⟩ => ⟨S16384x4x128, .f32⟩
  | .hbm, ⟨57, _⟩ => ⟨S128, .f32⟩
  | .hbm, ⟨58, _⟩ => ⟨S1x1x128, .f32⟩
  | .hbm, ⟨59, _⟩ => ⟨S16384x4x128, .f32⟩
  | .hbm, ⟨60, _⟩ => ⟨S16384x4x128, .f32⟩
  | .hbm, ⟨61, _⟩ => ⟨S_, .f32⟩
  | .hbm, ⟨62, _⟩ => ⟨S16384x4x128, .f32⟩
  | .hbm, ⟨63, _⟩ => ⟨S16384x4x128, .f32⟩
  | .hbm, ⟨64, _⟩ => ⟨S16384x512, .f32⟩
  | _, _ => ⟨S1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Kernel2.lean ====
abbrev S16384x2048 : Shape := ⟨2, ![16384, 2048]⟩
abbrev S1x2048 : Shape := ⟨2, ![1, 2048]⟩
abbrev S2048x6720 : Shape := ⟨2, ![2048, 6720]⟩
abbrev S2048x1536 : Shape := ⟨2, ![2048, 1536]⟩
abbrev S2048x512 : Shape := ⟨2, ![2048, 512]⟩
abbrev S2048x256 : Shape := ⟨2, ![2048, 256]⟩
abbrev S2048x6656 : Shape := ⟨2, ![2048, 6656]⟩
abbrev S2048x16 : Shape := ⟨2, ![2048, 16]⟩
abbrev S2048x32 : Shape := ⟨2, ![2048, 32]⟩
abbrev S2048x64 : Shape := ⟨2, ![2048, 64]⟩
abbrev S_ : Shape := ⟨0, ![]⟩
abbrev S2048x128 : Shape := ⟨2, ![2048, 128]⟩
abbrev S16384x6656 : Shape := ⟨2, ![16384, 6656]⟩
abbrev S16384x128 : Shape := ⟨2, ![16384, 128]⟩
abbrev S1024x2048 : Shape := ⟨2, ![1024, 2048]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 29
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x6720, .f32⟩
  | .hbm, ⟨5, _⟩ => ⟨S2048x1536, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x256, .f32⟩
  | .hbm, ⟨11, _⟩ => ⟨S2048x256, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S2048x6656, .f32⟩
  | .hbm, ⟨18, _⟩ => ⟨S2048x16, .f32⟩
  | .hbm, ⟨19, _⟩ => ⟨S2048x16, .f32⟩
  | .hbm, ⟨20, _⟩ => ⟨S2048x32, .f32⟩
  | .hbm, ⟨21, _⟩ => ⟨S2048x64, .f32⟩
  | .hbm, ⟨22, _⟩ => ⟨S_, .i32⟩
  | .hbm, ⟨23, _⟩ => ⟨S_, .f32⟩
  | .hbm, ⟨24, _⟩ => ⟨S2048x128, .f32⟩
  | .hbm, ⟨25, _⟩ => ⟨S2048x6656, .bf16⟩
  | .hbm, ⟨26, _⟩ => ⟨S2048x128, .bf16⟩
  | .hbm, ⟨27, _⟩ => ⟨S16384x6656, .f32⟩
  | .hbm, ⟨28, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x128, .bf16⟩
  | .local _ .vmem, ⟨8, _⟩ => ⟨S1024x512, .f32⟩
  | .local _ .vmem, ⟨9, _⟩ => ⟨S1024x512, .f32⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_call0_v0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 13], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S16384x2048 : Shape := ⟨2, ![16384, 2048]⟩
abbrev S1x2048 : Shape := ⟨2, ![1, 2048]⟩
abbrev S2048x6720 : Shape := ⟨2, ![2048, 6720]⟩
abbrev S_ : Shape := ⟨0, ![]⟩
abbrev S16384 : Shape := ⟨1, ![16384]⟩
abbrev S16384x1 : Shape := ⟨2, ![16384, 1]⟩
abbrev S16384x6720 : Shape := ⟨2, ![16384, 6720]⟩
abbrev S16384x1536 : Shape := ⟨2, ![16384, 1536]⟩
abbrev S16384x512 : Shape := ⟨2, ![16384, 512]⟩
abbrev S16384x16 : Shape := ⟨2, ![16384, 16]⟩
abbrev S16384x256 : Shape := ⟨2, ![16384, 256]⟩
abbrev S16384x32 : Shape := ⟨2, ![16384, 32]⟩
abbrev S16384x64 : Shape := ⟨2, ![16384, 64]⟩
abbrev S16384x6656 : Shape := ⟨2, ![16384, 6656]⟩
abbrev S16384x128 : Shape := ⟨2, ![16384, 128]⟩

abbrev nBuf : Space → Nat
  | .hbm => 47
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x6720, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x6720, .f32⟩
  | .hbm, ⟨28, _⟩ => ⟨S16384x1536, .f32⟩
  | .hbm, ⟨29, _⟩ => ⟨S16384x512, .f32⟩
  | .hbm, ⟨30, _⟩ => ⟨S16384x16, .f32⟩
  | .hbm, ⟨31, _⟩ => ⟨S16384x16, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x256, .f32⟩
  | .hbm, ⟨36, _⟩ => ⟨S16384x256, .f32⟩
  | .hbm, ⟨37, _⟩ => ⟨S16384x512, .f32⟩
  | .hbm, ⟨38, _⟩ => ⟨S16384x512, .f32⟩
  | .hbm, ⟨39, _⟩ => ⟨S16384x32, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S_, .f32⟩
  | .hbm, ⟨44, _⟩ => ⟨S16384x64, .f32⟩
  | .hbm, ⟨45, _⟩ => ⟨S16384x6656, .f32⟩
  | .hbm, ⟨46, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel3.lean ====
abbrev S16384x2048 : Shape := ⟨2, ![16384, 2048]⟩
abbrev S1x2048 : Shape := ⟨2, ![1, 2048]⟩
abbrev S2048x2048 : Shape := ⟨2, ![2048, 2048]⟩
abbrev S512x2048 : Shape := ⟨2, ![512, 2048]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S1x2048, .f32⟩
  | .hbm, ⟨3, _⟩ => ⟨S2048x2048, .f32⟩
  | .hbm, ⟨4, _⟩ => ⟨S2048x2048, .bf16⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S2048x2048, .bf16⟩
  | .local _ .vmem, ⟨6, _⟩ => ⟨S512x2048, .f32⟩
  | .local _ .vmem, ⟨7, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16384x2048 : Shape := ⟨2, ![16384, 2048]⟩
abbrev S1x2048 : Shape := ⟨2, ![1, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S1x2048, .f32⟩
  | .hbm, ⟨3, _⟩ => ⟨S2048x2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel4.lean ====
abbrev S162 : Shape := ⟨1, ![162]⟩
abbrev S1 : Shape := ⟨1, ![1]⟩
abbrev S41472x2048 : Shape := ⟨2, ![41472, 2048]⟩
abbrev S32x2048x512 : Shape := ⟨3, ![32, 2048, 512]⟩
abbrev S32x512x2048 : Shape := ⟨3, ![32, 512, 2048]⟩
abbrev S256x2048 : Shape := ⟨2, ![256, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x2048 : Shape := ⟨2, ![512, 2048]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S41472x2048, .bf16⟩
  | .hbm, ⟨1, _⟩ => ⟨S32x2048x512, .f32⟩
  | .hbm, ⟨2, _⟩ => ⟨S32x2048x512, .f32⟩
  | .hbm, ⟨3, _⟩ => ⟨S32x512x2048, .f32⟩
  | .hbm, ⟨4, _⟩ => ⟨S41472x2048, .f32⟩
  | .local _ .vmem, ⟨0, _⟩ => ⟨S256x2048, .bf16⟩
  | .local _ .vmem, ⟨1, _⟩ => ⟨S256x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S256x2048, .f32⟩
  | .local _ .vmem, ⟨9, _⟩ => ⟨S256x2048, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S162, .i32⟩
  | .local _ .smem, ⟨1, _⟩ => ⟨S1, .i32⟩
  | _, _ => ⟨S41472x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![162], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S162.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S162.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S162.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S162 : Shape := ⟨1, ![162]⟩
abbrev S1 : Shape := ⟨1, ![1]⟩
abbrev S41472x2048 : Shape := ⟨2, ![41472, 2048]⟩
abbrev S32x2048x512 : Shape := ⟨3, ![32, 2048, 512]⟩
abbrev S32x512x2048 : Shape := ⟨3, ![32, 512, 2048]⟩
abbrev S162x256x2048 : Shape := ⟨3, ![162, 256, 2048]⟩
abbrev S_ : Shape := ⟨0, ![]⟩
abbrev S162x1 : Shape := ⟨2, ![162, 1]⟩
abbrev S162x2048x512 : Shape := ⟨3, ![162, 2048, 512]⟩
abbrev S162x256x512 : Shape := ⟨3, ![162, 256, 512]⟩
abbrev S162x512x2048 : Shape := ⟨3, ![162, 512, 2048]⟩
abbrev S162x1x1 : Shape := ⟨3, ![162, 1, 1]⟩

abbrev nBuf : Space → Nat
  | .hbm => 59
  | .vmem => 0
  | .smem => 0
  | _ => 0

abbrev bufTy : (tb : Table) → Fin (tcTables nBuf tb) → BufTy
  | .hbm, ⟨0, _⟩ => ⟨S162, .i32⟩
  | .hbm, ⟨1, _⟩ => ⟨S1, .i32⟩
  | .hbm, ⟨2, _⟩ => ⟨S41472x2048, .bf16⟩
  | .hbm, ⟨3, _⟩ => ⟨S32x2048x512, .f32⟩
  | .hbm, ⟨4, _⟩ => ⟨S32x2048x512, .f32⟩
  | .hbm, ⟨5, _⟩ => ⟨S32x512x2048, .f32⟩
  | .hbm, ⟨6, _⟩ => ⟨S41472x2048, .f32⟩
  | .hbm, ⟨7, _⟩ => ⟨S162x256x2048, .f32⟩
  | .hbm, ⟨8, _⟩ => ⟨S_, .i32⟩
  | .hbm, ⟨9, _⟩ => ⟨S162, .i32⟩
  | .hbm, ⟨10, _⟩ => ⟨S162, .i1⟩
  | .hbm, ⟨11, _⟩ => ⟨S_, .i32⟩
  | .hbm, ⟨12, _⟩ => ⟨S162, .i32⟩
  | .hbm, ⟨13, _⟩ => ⟨S162, .i32⟩
  | .hbm, ⟨14, _⟩ => ⟨S162, .i32⟩
  | .hbm, ⟨15, _⟩ => ⟨S162x1, .i32⟩
  | .hbm, ⟨16, _⟩ => ⟨S162x2048x512, .f32⟩
  | .hbm, ⟨17, _⟩ => ⟨S162x256x512, .f32⟩
  | .hbm, ⟨18, _⟩ => ⟨S_, .i32⟩
  | .hbm, ⟨19, _⟩ => ⟨S162, .i32⟩
  | .hbm, ⟨20, _⟩ => ⟨S162, .i1⟩
  | .hbm, ⟨21, _⟩ => ⟨S_, .i32⟩
  | .hbm, ⟨22, _⟩ => ⟨S162, .i32⟩
  | .hbm, ⟨23, _⟩ => ⟨S162, .i32⟩
  | .hbm, ⟨24, _⟩ => ⟨S162, .i32⟩
  | .hbm, ⟨25, _⟩ => ⟨S162x1, .i32⟩
  | .hbm, ⟨26, _⟩ => ⟨S162x2048x512, .f32⟩
  | .hbm, ⟨27, _⟩ => ⟨S162x256x512, .f32⟩
  | .hbm, ⟨28, _⟩ => ⟨S162x256x512, .f32⟩
  | .hbm, ⟨29, _⟩ => ⟨S162x256x512, .f32⟩
  | .hbm, ⟨30, _⟩ => ⟨S_, .f32⟩
  | .hbm, ⟨31, _⟩ => ⟨S162x256x512, .f32⟩
  | .hbm, ⟨32, _⟩ => ⟨S162x256x512, .f32⟩
  | .hbm, ⟨33, _⟩ => ⟨S_, .f32⟩
  | .hbm, ⟨34, _⟩ => ⟨S162x256x512, .f32⟩
  | .hbm, ⟨35, _⟩ => ⟨S162x256x512, .f32⟩
  | .hbm, ⟨36, _⟩ => ⟨S162x256x512, .f32⟩
  | .hbm, ⟨37, _⟩ => ⟨S162x256x512, .f32⟩
  | .hbm, ⟨38, _⟩ => ⟨S_, .i32⟩
  | .hbm, ⟨39, _⟩ => ⟨S162, .i32⟩
  | .hbm, ⟨40, _⟩ => ⟨S162, .i1⟩
  | .hbm, ⟨41, _⟩ => ⟨S_, .i32⟩
  | .hbm, ⟨42, _⟩ => ⟨S162, .i32⟩
  | .hbm, ⟨43, _⟩ => ⟨S162, .i32⟩
  | .hbm, ⟨44, _⟩ => ⟨S162, .i32⟩
  | .hbm, ⟨45, _⟩ => ⟨S162x1, .i32⟩
  | .hbm, ⟨46, _⟩ => ⟨S162x512x2048, .f32⟩
  | .hbm, ⟨47, _⟩ => ⟨S162x256x2048, .f32⟩
  | .hbm, ⟨48, _⟩ => ⟨S162, .i32⟩
  | .hbm, ⟨49, _⟩ => ⟨S162x1x1, .i32⟩
  | .hbm, ⟨50, _⟩ => ⟨S_, .i32⟩
  | .hbm, ⟨51, _⟩ => ⟨S162x1x1, .i32⟩
  | .hbm, ⟨52, _⟩ => ⟨S162x1x1, .i1⟩
  | .hbm, ⟨53, _⟩ => ⟨S_, .f32⟩
  | .hbm, ⟨54, _⟩ => ⟨S_, .f32⟩
  | .hbm, ⟨55, _⟩ => ⟨S162x256x2048, .i1⟩
  | .hbm, ⟨56, _⟩ => ⟨S162x256x2048, .f32⟩
  | .hbm, ⟨57, _⟩ => ⟨S162x256x2048, .f32⟩
  | .hbm, ⟨58, _⟩ => ⟨S41472x2048, .f32⟩
  | _, _ => ⟨S162, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v33 : Ref sig .tc := ⟨.hbm, 57, rfl⟩
abbrev main_v34 : Ref sig .tc := ⟨.hbm, 58, rfl⟩

abbrev nD : Nat := 1
abbrev τ : Topo := Topo.v7x

variable {F : FTy → Type} [FloatOps F]
-- ==== Kernel5.lean ====
abbrev S16384x6656 : Shape := ⟨2, ![16384, 6656]⟩
abbrev S64 : Shape := ⟨1, ![64]⟩
abbrev S16384 : Shape := ⟨1, ![16384]⟩
abbrev S_ : Shape := ⟨0, ![]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S256x128 : Shape := ⟨2, ![256, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x16384x512 : Shape := ⟨3, ![2, 16384, 512]⟩
abbrev S16384x512 : Shape := ⟨2, ![16384, 512]⟩
abbrev S4x32x128x512 : Shape := ⟨4, ![4, 32, 128, 512]⟩
abbrev S512x512 : Shape := ⟨2, ![512, 512]⟩
abbrev S512x128 : Shape := ⟨2, ![512, 128]⟩
abbrev S2x512x512 : Shape := ⟨3, ![2, 512, 512]⟩
abbrev S4x1x128x512 : Shape := ⟨4, ![4, 1, 128, 512]⟩
abbrev S1x512x512 : Shape := ⟨3, ![1, 512, 512]⟩
abbrev S128x512 : Shape := ⟨2, ![128, 512]⟩
abbrev S1x1x128x512 : Shape := ⟨4, ![1, 1, 128, 512]⟩

abbrev nBuf : Space → Nat
  | .hbm => 97
  | .vmem => 18
  | .smem => 0
  | _ => 0

abbrev bufTy : (tb : Table) → Fin (tcTables nBuf tb) → BufTy
  | .hbm, ⟨0, _⟩ => ⟨S16384x6656, .f32⟩
  | .hbm, ⟨1, _⟩ => ⟨S64, .f32⟩
  | .hbm, ⟨2, _⟩ => ⟨S64, .f32⟩
  | .hbm, ⟨3, _⟩ => ⟨S16384, .i32⟩
  | .hbm, ⟨4, _⟩ => ⟨S_, .i32⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S16384, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S_, .i1⟩
  | .hbm, ⟨39, _⟩ => ⟨S16384, .i1⟩
  | .hbm, ⟨40, _⟩ => ⟨S16384, .i1⟩
  | .hbm, ⟨41, _⟩ => ⟨S16384, .i1⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S16384, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S16384x1, .f32⟩
  | .hbm, ⟨55, _⟩ => ⟨S1x16, .f32⟩
  | .hbm, ⟨56, _⟩ => ⟨S16384x16, .f32⟩
  | .hbm, ⟨57, _⟩ => ⟨S16384x16, .f32⟩
  | .hbm, ⟨58, _⟩ => ⟨S16384x16, .f32⟩
  | .hbm, ⟨59, _⟩ => ⟨S16384x1, .f32⟩
  | .hbm, ⟨60, _⟩ => ⟨S1x16, .f32⟩
  | .hbm, ⟨61, _⟩ => ⟨S16384x16, .f32⟩
  | .hbm, ⟨62, _⟩ => ⟨S16384x16, .f32⟩
  | .hbm, ⟨63, _⟩ => ⟨S16384x16, .f32⟩
  | .hbm, ⟨64, _⟩ => ⟨S16384x16, .f32⟩
  | .hbm, ⟨65, _⟩ => ⟨S16384x16, .f32⟩
  | .hbm, ⟨66, _⟩ => ⟨S16384x16, .f32⟩
  | .hbm, ⟨67, _⟩ => ⟨S16384x16, .f32⟩
  | .hbm, ⟨68, _⟩ => ⟨S16384x64, .f32⟩
  | .hbm, ⟨69, _⟩ => ⟨S16384x16, .f32⟩
  | .hbm, ⟨70, _⟩ => ⟨S16384x16, .f32⟩
  | .hbm, ⟨71, _⟩ => ⟨S16384x16, .f32⟩
  | .hbm, ⟨72, _⟩ => ⟨S16384x16, .f32⟩
  | .hbm, ⟨73, _⟩ => ⟨S16384x16, .f32⟩
  | .hbm, ⟨74, _⟩ => ⟨S16384x16, .f32⟩
  | .hbm, ⟨75, _⟩ => ⟨S16384x64, .f32⟩
  | .hbm, ⟨76, _⟩ => ⟨S1x16384x1x64, .f32⟩
  | .hbm, ⟨77, _⟩ => ⟨S1x16384x2x64, .f32⟩
  | .hbm, ⟨78, _⟩ => ⟨S16384x128, .f32⟩
  | .hbm, ⟨79, _⟩ => ⟨S1x16384x1x64, .f32⟩
  | .hbm, ⟨80, _⟩ => ⟨S1x16384x2x64, .f32⟩
  | .hbm, ⟨81, _⟩ => ⟨S16384x128, .f32⟩
  | .hbm, ⟨82, _⟩ => ⟨S_, .f32⟩
  | .hbm, ⟨83, _⟩ => ⟨S256x128, .f32⟩
  | .hbm, ⟨84, _⟩ => ⟨S_, .f32⟩
  | .hbm, ⟨85, _⟩ => ⟨S256x128, .f32⟩
  | .hbm, ⟨86, _⟩ => ⟨S1x64, .f32⟩
  | .hbm, ⟨87, _⟩ => ⟨S8x64, .f32⟩
  | .hbm, ⟨88, _⟩ => ⟨S512, .f32⟩
  | .hbm, ⟨89, _⟩ => ⟨S1x512, .f32⟩
  | .hbm, ⟨90, _⟩ => ⟨S1x64, .f32⟩
  | .hbm, ⟨91, _⟩ => ⟨S8x64, .f32⟩
  | .hbm, ⟨92, _⟩ => ⟨S512, .f32⟩
  | .hbm, ⟨93, _⟩ => ⟨S1x512, .f32⟩
  | .hbm, ⟨94, _⟩ => ⟨S2x16384x512, .bf16⟩
  | .hbm, ⟨95, _⟩ => ⟨S16384x512, .bf16⟩
  | .hbm, ⟨96, _⟩ => ⟨S4x32x128x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512, .f32⟩
  | .local _ .vmem, ⟨11, _⟩ => ⟨S1x512, .f32⟩
  | .local _ .vmem, ⟨12, _⟩ => ⟨S2x512x512, .bf16⟩
  | .local _ .vmem, ⟨13, _⟩ => ⟨S2x512x512, .bf16⟩
  | .local _ .vmem, ⟨14, _⟩ => ⟨S512x512, .bf16⟩
  | .local _ .vmem, ⟨15, _⟩ => ⟨S512x512, .bf16⟩
  | .local _ .vmem, ⟨16, _⟩ => ⟨S4x1x128x512, .bf16⟩
  | .local _ .vmem, ⟨17, _⟩ => ⟨S4x1x128x512, .bf16⟩
  | _, _ => ⟨S16384x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_cst : Ref sig .tc := ⟨.hbm, 48, rfl⟩
abbrev main_v7 : Ref sig .tc := ⟨.hbm, 49, rfl⟩
abbrev main_v8 : Ref sig .tc := ⟨.hbm, 50, rfl⟩
abbrev main_cst_1 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_2 : Ref sig .tc := ⟨.hbm, 82, rfl⟩
abbrev main_v39 : Ref sig .tc := ⟨.hbm, 83, rfl⟩
abbrev main_cst_3 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49_0 : Ref sig .tc := ⟨.hbm, 94, rfl⟩
abbrev main_v49_1 : Ref sig .tc := ⟨.hbm, 95, rfl⟩
abbrev main_v49_2 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_2 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S16384x6656 : Shape := ⟨2, ![16384, 6656]⟩
abbrev S64 : Shape := ⟨1, ![64]⟩
abbrev S16384 : Shape := ⟨1, ![16384]⟩
abbrev S_ : Shape := ⟨0, ![]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x1x1x16 : Shape := ⟨4, ![16384, 1, 1, 16]⟩
abbrev S16384x512 : Shape := ⟨2, ![16384, 512]⟩
abbrev S16384x4x2x64 : Shape := ⟨4, ![16384, 4, 2, 64]⟩
abbrev S16384x4x2 : Shape := ⟨3, ![16384, 4, 2]⟩
abbrev S16384x4x2x1 : Shape := ⟨4, ![16384, 4, 2, 1]⟩
abbrev S1x1x1x64 : Shape := ⟨4, ![1, 1, 1, 64]⟩
abbrev S16384x4x2x16 : Shape := ⟨4, ![16384, 4, 2, 16]⟩
abbrev S32x512x4x128 : Shape := ⟨4, ![32, 512, 4, 128]⟩
abbrev S16384x4x1x64 : Shape := ⟨4, ![16384, 4, 1, 64]⟩
abbrev S1x16384x4x2x64 : Shape := ⟨5, ![1, 16384, 4, 2, 64]⟩
abbrev S2x16384x4x2x64 : Shape := ⟨5, ![2, 16384, 4, 2, 64]⟩
abbrev S2x16384x512 : Shape := ⟨3, ![2, 16384, 512]⟩
abbrev S4x32x128x512 : Shape := ⟨4, ![4, 32, 128, 512]⟩

abbrev nBuf : Space → Nat
  | .hbm => 178
  | .vmem => 0
  | .smem => 0
  | _ => 0

abbrev hbmTy0_0 (i : Nat) : BufTy := match i % 128 with
  | 0 => ⟨S16384x6656, .f32⟩
  | 1 => ⟨S64, .f32⟩
  | 2 => ⟨S64, .f32⟩
  | 3 => ⟨S16384, .i32⟩
  | 4 => ⟨S_, .i32⟩
  | 5 => ⟨S_, .i32⟩
  | 6 => ⟨S16384, .i32⟩
  | 7 => ⟨S16384, .i32⟩
  | 8 => ⟨S16384, .i32⟩
  | 9 => ⟨S_, .i32⟩
  | 10 => ⟨S16384, .i32⟩
  | 11 => ⟨S16384, .i1⟩
  | 12 => ⟨S16384, .i32⟩
  | 13 => ⟨S16384, .i32⟩
  | 14 => ⟨S_, .i32⟩
  | 15 => ⟨S16384, .i32⟩
  | 16 => ⟨S16384, .i1⟩
  | 17 => ⟨S16384, .i1⟩
  | 18 => ⟨S_, .i32⟩
  | 19 => ⟨S16384, .i32⟩
  | 20 => ⟨S16384, .i32⟩
  | 21 => ⟨S16384, .i32⟩
  | 22 => ⟨S16384, .f32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S16384, .i32⟩
  | 30 => ⟨S16384, .i32⟩
  | 31 => ⟨S_, .i32⟩
  | 32 => ⟨S16384, .i32⟩
  | 33 => ⟨S16384, .i1⟩
  | 34 => ⟨S_, .i32⟩
  | 35 => ⟨S16384, .i32⟩
  | 36 => ⟨S16384, .i1⟩
  | 37 => ⟨S_, .i32⟩
  | 38 => ⟨S_, .i1⟩
  | 39 => ⟨S16384, .i1⟩
  | 40 => ⟨S16384, .i1⟩
  | 41 => ⟨S16384, .i1⟩
  | 42 => ⟨S16384, .i32⟩
  | 43 => ⟨S16384, .i32⟩
  | 44 => ⟨S16384, .i32⟩
  | 45 => ⟨S16384, .f32⟩
  | 46 => ⟨S16, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S16384x1, .f32⟩
  | 55 => ⟨S1x16, .f32⟩
  | 56 => ⟨S16384x16, .f32⟩
  | 57 => ⟨S16384x16, .f32⟩
  | 58 => ⟨S16384x16, .f32⟩
  | 59 => ⟨S16384x1, .f32⟩
  | 60 => ⟨S1x16, .f32⟩
  | 61 => ⟨S16384x16, .f32⟩
  | 62 => ⟨S16384x16, .f32⟩
  | 63 => ⟨S16384x16, .f32⟩
  | 64 => ⟨S16384x16, .f32⟩
  | 65 => ⟨S16384x1x1x16, .f32⟩
  | 66 => ⟨S16384x16, .f32⟩
  | 67 => ⟨S16384x1x1x16, .f32⟩
  | 68 => ⟨S16384x16, .f32⟩
  | 69 => ⟨S16384x1x1x16, .f32⟩
  | 70 => ⟨S16384x16, .f32⟩
  | 71 => ⟨S16384x1x1x16, .f32⟩
  | 72 => ⟨S16384x512, .f32⟩
  | 73 => ⟨S16384x4x2x64, .f32⟩
  | 74 => ⟨S16384x4x2x64, .f32⟩
  | 75 => ⟨S_, .f32⟩
  | 76 => ⟨S16384x4x2, .f32⟩
  | 77 => ⟨S16384x4x2x1, .f32⟩
  | 78 => ⟨S_, .f32⟩
  | 79 => ⟨S16384x4x2x1, .f32⟩
  | 80 => ⟨S16384x4x2x1, .f32⟩
  | 81 => ⟨S_, .f32⟩
  | 82 => ⟨S16384x4x2x1, .f32⟩
  | 83 => ⟨S16384x4x2x1, .f32⟩
  | 84 => ⟨S16384x4x2x1, .f32⟩
  | 85 => ⟨S16384x4x2x64, .f32⟩
  | 86 => ⟨S16384x4x2x64, .f32⟩
  | 87 => ⟨S1x1x1x64, .f32⟩
  | 88 => ⟨S16384x4x2x64, .f32⟩
  | 89 => ⟨S16384x4x2x64, .f32⟩
  | 90 => ⟨S16384x4x2x16, .f32⟩
  | 91 => ⟨S16384x4x2x16, .f32⟩
  | 92 => ⟨S16384x4x2x16, .f32⟩
  | 93 => ⟨S16384x4x2x16, .f32⟩
  | 94 => ⟨S16384x4x2x16, .f32⟩
  | 95 => ⟨S16384x4x2x16, .f32⟩
  | 96 => ⟨S16384x4x2x16, .f32⟩
  | 97 => ⟨S16384x4x2x16, .f32⟩
  | 98 => ⟨S16384x4x2x16, .f32⟩
  | 99 => ⟨S16384x4x2x16, .f32⟩
  | 100 => ⟨S16384x4x2x16, .f32⟩
  | 101 => ⟨S16384x4x2x16, .f32⟩
  | 102 => ⟨S16384x4x2x16, .f32⟩
  | 103 => ⟨S16384x4x2x16, .f32⟩
  | 104 => ⟨S16384x4x2x16, .f32⟩
  | 105 => ⟨S16384x4x2x16, .f32⟩
  | 106 => ⟨S16384x4x2x16, .f32⟩
  | 107 => ⟨S16384x4x2x16, .f32⟩
  | 108 => ⟨S16384x4x2x16, .f32⟩
  | 109 => ⟨S16384x4x2x16, .f32⟩
  | 110 => ⟨S16384x4x2x16, .f32⟩
  | 111 => ⟨S16384x4x2x16, .f32⟩
  | 112 => ⟨S16384x4x2x16, .f32⟩
  | 113 => ⟨S16384x4x2x16, .f32⟩
  | 114 => ⟨S16384x4x2x64, .f32⟩
  | 115 => ⟨S_, .f32⟩
  | 116 => ⟨S16384x4x2x64, .f32⟩
  | 117 => ⟨S16384x4x2x64, .f32⟩
  | 118 => ⟨S16384x512, .f32⟩
  | 119 => ⟨S16384x4x2x64, .f32⟩
  | 120 => ⟨S16384x4x2x64, .f32⟩
  | 121 => ⟨S_, .f32⟩
  | 122 => ⟨S16384x4x2, .f32⟩
  | 123 => ⟨S16384x4x2x1, .f32⟩
  | 124 => ⟨S_, .f32⟩
  | 125 => ⟨S16384x4x2x1, .f32⟩
  | 126 => ⟨S16384x4x2x1, .f32⟩
  | 127 => ⟨S_, .f32⟩
  | _ => ⟨S16384x6656, .f32⟩

abbrev hbmTy0_1 (i : Nat) : BufTy := match i % 128 with
  | 0 => ⟨S16384x4x2x1, .f32⟩
  | 1 => ⟨S16384x4x2x1, .f32⟩
  | 2 => ⟨S16384x4x2x1, .f32⟩
  | 3 => ⟨S16384x4x2x64, .f32⟩
  | 4 => ⟨S16384x4x2x64, .f32⟩
  | 5 => ⟨S1x1x1x64, .f32⟩
  | 6 => ⟨S16384x4x2x64, .f32⟩
  | 7 => ⟨S16384x4x2x64, .f32⟩
  | 8 => ⟨S16384x4x2x16, .f32⟩
  | 9 => ⟨S16384x4x2x16, .f32⟩
  | 10 => ⟨S16384x4x2x16, .f32⟩
  | 11 => ⟨S16384x4x2x16, .f32⟩
  | 12 => ⟨S16384x4x2x16, .f32⟩
  | 13 => ⟨S16384x4x2x16, .f32⟩
  | 14 => ⟨S16384x4x2x16, .f32⟩
  | 15 => ⟨S16384x4x2x16, .f32⟩
  | 16 => ⟨S16384x4x2x16, .f32⟩
  | 17 => ⟨S16384x4x2x16, .f32⟩
  | 18 => ⟨S16384x4x2x16, .f32⟩
  | 19 => ⟨S16384x4x2x16, .f32⟩
  | 20 => ⟨S16384x4x2x16, .f32⟩
  | 21 => ⟨S16384x4x2x16, .f32⟩
  | 22 => ⟨S16384x4x2x16, .f32⟩
  | 23 => ⟨S16384x4x2x16, .f32⟩
  | 24 => ⟨S16384x4x2x16, .f32⟩
  | 25 => ⟨S16384x4x2x16, .f32⟩
  | 26 => ⟨S16384x4x2x16, .f32⟩
  | 27 => ⟨S16384x4x2x16, .f32⟩
  | 28 => ⟨S16384x4x2x16, .f32⟩
  | 29 => ⟨S16384x4x2x16, .f32⟩
  | 30 => ⟨S16384x4x2x16, .f32⟩
  | 31 => ⟨S16384x4x2x16, .f32⟩
  | 32 => ⟨S16384x4x2x64, .f32⟩
  | 33 => ⟨S16384x512, .f32⟩
  | 34 => ⟨S32x512x4x128, .f32⟩
  | 35 => ⟨S_, .f32⟩
  | 36 => ⟨S16384x4x1x64, .f32⟩
  | 37 => ⟨S16384x4x1x64, .f32⟩
  | 38 => ⟨S16384x4x2x64, .f32⟩
  | 39 => ⟨S16384x4x1x64, .f32⟩
  | 40 => ⟨S16384x4x2x64, .f32⟩
  | 41 => ⟨S1x16384x4x2x64, .f32⟩
  | 42 => ⟨S1x16384x4x2x64, .f32⟩
  | 43 => ⟨S2x16384x4x2x64, .f32⟩
  | 44 => ⟨S2x16384x512, .f32⟩
  | 45 => ⟨S2x16384x512, .bf16⟩
  | 46 => ⟨S16384x512, .f32⟩
  | 47 => ⟨S16384x512, .bf16⟩
  | 48 => ⟨S4x32x128x512, .f32⟩
  | 49 => ⟨S4x32x128x512, .bf16⟩
  | _ => ⟨S16384x6656, .f32⟩

abbrev hbmTy (i : Nat) : BufTy := match i / 128 with
  | 0 => hbmTy0_0 i
  | 1 => hbmTy0_1 i
  | _ => ⟨S16384x6656, .f32⟩

abbrev bufTy : (tb : Table) → Fin (tcTables nBuf tb) → BufTy
  | .hbm, ⟨i, _⟩ => hbmTy i
  | _, _ => ⟨S16384x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_cst : Ref sig .tc := ⟨.hbm, 48, rfl⟩
abbrev main_v7 : Ref sig .tc := ⟨.hbm, 49, rfl⟩
abbrev main_v8 : Ref sig .tc := ⟨.hbm, 50, rfl⟩
abbrev main_cst_1 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_2 : Ref sig .tc := ⟨.hbm, 75, rfl⟩
abbrev main_v32 : Ref sig .tc := ⟨.hbm, 76, rfl⟩
abbrev main_v33 : Ref sig .tc := ⟨.hbm, 77, rfl⟩
abbrev main_cst_3 : Ref sig .tc := ⟨.hbm, 78, rfl⟩
abbrev main_v34 : Ref sig .tc := ⟨.hbm, 79, rfl⟩
abbrev main_v35 : Ref sig .tc := ⟨.hbm, 80, rfl⟩
abbrev main_cst_4 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_5 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_6 : Ref sig .tc := ⟨.hbm, 121, rfl⟩
abbrev main_v74 : Ref sig .tc := ⟨.hbm, 122, rfl⟩
abbrev main_v75 : Ref sig .tc := ⟨.hbm, 123, rfl⟩
abbrev main_cst_7 : Ref sig .tc := ⟨.hbm, 124, rfl⟩
abbrev main_v76 : Ref sig .tc := ⟨.hbm, 125, rfl⟩
abbrev main_v77 : Ref sig .tc := ⟨.hbm, 126, rfl⟩
abbrev main_cst_8 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_9 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩

abbrev nD : Nat := 1
abbrev τ : Topo := Topo.v7x

variable {F : FTy → Type} [FloatOps F]
-- ==== Kernel6.lean ====
abbrev S1x1 : Shape := ⟨2, ![1, 1]⟩
abbrev S2x256x512 : Shape := ⟨3, ![2, 256, 512]⟩
abbrev S256x512 : Shape := ⟨2, ![256, 512]⟩
abbrev S4x1x128x256 : Shape := ⟨4, ![4, 1, 128, 256]⟩
abbrev S128x1 : Shape := ⟨2, ![128, 1]⟩
abbrev S2x256x128 : Shape := ⟨3, ![2, 256, 128]⟩
abbrev S256x128 : Shape := ⟨2, ![256, 128]⟩
abbrev S1x1x128x256 : Shape := ⟨4, ![1, 1, 128, 256]⟩
abbrev S1x512 : Shape := ⟨2, ![1, 512]⟩
abbrev S128x512 : Shape := ⟨2, ![128, 512]⟩
abbrev S512x128 : Shape := ⟨2, ![512, 128]⟩
abbrev S128x256 : Shape := ⟨2, ![128, 256]⟩
abbrev S512 : Shape := ⟨1, ![512]⟩
abbrev S1x256 : Shape := ⟨2, ![1, 256]⟩
abbrev S256 : Shape := ⟨1, ![256]⟩

abbrev nBuf : Space → Nat
  | .hbm => 6
  | .vmem => 12
  | .smem => 1
  | _ => 0

abbrev bufTy : (tb : Table) → Fin (tcTables nBuf tb) → BufTy
  | .hbm, ⟨0, _⟩ => ⟨S1x1, .f32⟩
  | .hbm, ⟨1, _⟩ => ⟨S2x256x512, .bf16⟩
  | .hbm, ⟨2, _⟩ => ⟨S256x512, .bf16⟩
  | .hbm, ⟨3, _⟩ => ⟨S4x1x128x256, .bf16⟩
  | .hbm, ⟨4, _⟩ => ⟨S128x1, .f32⟩
  | .hbm, ⟨5, _⟩ => ⟨S256x512, .f32⟩
  | .local _ .vmem, ⟨0, _⟩ => ⟨S2x256x128, .bf16⟩
  | .local _ .vmem, ⟨1, _⟩ => ⟨S2x256x128, .bf16⟩
  | .local _ .vmem, ⟨2, _⟩ => ⟨S256x128, .bf16⟩
  | .local _ .vmem, ⟨3, _⟩ => ⟨S256x128, .bf16⟩
  | .local _ .vmem, ⟨4, _⟩ => ⟨S1x1x128x256, .bf16⟩
  | .local _ .vmem, ⟨5, _⟩ => ⟨S1x1x128x256, .bf16⟩
  | .local _ .vmem, ⟨6, _⟩ => ⟨S128x1, .f32⟩
  | .local _ .vmem, ⟨7, _⟩ => ⟨S256x128, .f32⟩
  | .local _ .vmem, ⟨8, _⟩ => ⟨S256x128, .f32⟩
  | .local _ .vmem, ⟨9, _⟩ => ⟨S1x512, .f32⟩
  | .local _ .vmem, ⟨10, _⟩ => ⟨S1x512, .f32⟩
  | .local _ .vmem, ⟨11, _⟩ => ⟨S128x512, .f32⟩
  | .local _ .smem, ⟨0, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S1x1 : Shape := ⟨2, ![1, 1]⟩
abbrev S2x256x512 : Shape := ⟨3, ![2, 256, 512]⟩
abbrev S256x512 : Shape := ⟨2, ![256, 512]⟩
abbrev S4x1x128x256 : Shape := ⟨4, ![4, 1, 128, 256]⟩
abbrev S128x1 : Shape := ⟨2, ![128, 1]⟩
abbrev S2x256x4x128 : Shape := ⟨4, ![2, 256, 4, 128]⟩
abbrev S256x4x128 : Shape := ⟨3, ![256, 4, 128]⟩
abbrev S4x1x256x128 : Shape := ⟨4, ![4, 1, 256, 128]⟩
abbrev S4x256x128 : Shape := ⟨3, ![4, 256, 128]⟩
abbrev S4x2x256x256 : Shape := ⟨4, ![4, 2, 256, 256]⟩
abbrev S_ : Shape := ⟨0, ![]⟩
abbrev S4x2x256 : Shape := ⟨3, ![4, 2, 256]⟩
abbrev S4x2x256x1 : Shape := ⟨4, ![4, 2, 256, 1]⟩
abbrev S4x1x256x256 : Shape := ⟨4, ![4, 1, 256, 256]⟩
abbrev S4x256x256 : Shape := ⟨3, ![4, 256, 256]⟩
abbrev S4x128x256 : Shape := ⟨3, ![4, 128, 256]⟩
abbrev S256x4 : Shape := ⟨2, ![256, 4]⟩
abbrev S256x4x1 : Shape := ⟨3, ![256, 4, 1]⟩
abbrev S128 : Shape := ⟨1, ![128]⟩
abbrev S1x1x128 : Shape := ⟨3, ![1, 1, 128]⟩

abbrev nBuf : Space → Nat
  | .hbm => 58
  | .vmem => 0
  | .smem => 0
  | _ => 0

abbrev bufTy : (tb : Table) → Fin (tcTables nBuf tb) → BufTy
  | .hbm, ⟨0, _⟩ => ⟨S1x1, .f32⟩
  | .hbm, ⟨1, _⟩ => ⟨S2x256x512, .bf16⟩
  | .hbm, ⟨2, _⟩ => ⟨S256x512, .bf16⟩
  | .hbm, ⟨3, _⟩ => ⟨S4x1x128x256, .bf16⟩
  | .hbm, ⟨4, _⟩ => ⟨S128x1, .f32⟩
  | .hbm, ⟨5, _⟩ => ⟨S2x256x512, .f32⟩
  | .hbm, ⟨6, _⟩ => ⟨S2x256x4x128, .f32⟩
  | .hbm, ⟨7, _⟩ => ⟨S256x512, .f32⟩
  | .hbm, ⟨8, _⟩ => ⟨S256x4x128, .f32⟩
  | .hbm, ⟨9, _⟩ => ⟨S4x1x128x256, .f32⟩
  | .hbm, ⟨10, _⟩ => ⟨S4x1x256x128, .f32⟩
  | .hbm, ⟨11, _⟩ => ⟨S4x256x128, .f32⟩
  | .hbm, ⟨12, _⟩ => ⟨S4x2x256x256, .f32⟩
  | .hbm, ⟨13, _⟩ => ⟨S_, .f32⟩
  | .hbm, ⟨14, _⟩ => ⟨S4x2x256, .f32⟩
  | .hbm, ⟨15, _⟩ => ⟨S_, .f32⟩
  | .hbm, ⟨16, _⟩ => ⟨S4x2x256, .f32⟩
  | .hbm, ⟨17, _⟩ => ⟨S4x2x256, .f32⟩
  | .hbm, ⟨18, _⟩ => ⟨S4x2x256x1, .f32⟩
  | .hbm, ⟨19, _⟩ => ⟨S4x2x256x256, .f32⟩
  | .hbm, ⟨20, _⟩ => ⟨S4x2x256x256, .f32⟩
  | .hbm, ⟨21, _⟩ => ⟨S4x2x256x256, .f32⟩
  | .hbm, ⟨22, _⟩ => ⟨S_, .f32⟩
  | .hbm, ⟨23, _⟩ => ⟨S4x2x256, .f32⟩
  | .hbm, ⟨24, _⟩ => ⟨S4x2x256x1, .f32⟩
  | .hbm, ⟨25, _⟩ => ⟨S4x2x256x256, .f32⟩
  | .hbm, ⟨26, _⟩ => ⟨S4x2x256x256, .f32⟩
  | .hbm, ⟨27, _⟩ => ⟨S4x1x256x256, .f32⟩
  | .hbm, ⟨28, _⟩ => ⟨S4x256x256, .f32⟩
  | .hbm, ⟨29, _⟩ => ⟨S_, .f32⟩
  | .hbm, ⟨30, _⟩ => ⟨S4x1x256x256, .f32⟩
  | .hbm, ⟨31, _⟩ => ⟨S4x256x256, .f32⟩
  | .hbm, ⟨32, _⟩ => ⟨S4x256x256, .f32⟩
  | .hbm, ⟨33, _⟩ => ⟨S4x256x256, .f32⟩
  | .hbm, ⟨34, _⟩ => ⟨S4x256x256, .f32⟩
  | .hbm, ⟨35, _⟩ => ⟨S4x128x256, .f32⟩
  | .hbm, ⟨36, _⟩ => ⟨S256x4x128, .f32⟩
  | .hbm, ⟨37, _⟩ => ⟨S256x4x128, .f32⟩
  | .hbm, ⟨38, _⟩ => ⟨S_, .f32⟩
  | .hbm, ⟨39, _⟩ => ⟨S256x4, .f32⟩
  | .hbm, ⟨40, _⟩ => ⟨S256x4x1, .f32⟩
  | .hbm, ⟨41, _⟩ => ⟨S_, .f32⟩
  | .hbm, ⟨42, _⟩ => ⟨S256x4x1, .f32⟩
  | .hbm, ⟨43, _⟩ => ⟨S256x4x1, .f32⟩
  | .hbm, ⟨44, _⟩ => ⟨S_, .f32⟩
  | .hbm, ⟨45, _⟩ => ⟨S256x4x1, .f32⟩
  | .hbm, ⟨46, _⟩ => ⟨S256x4x1, .f32⟩
  | .hbm, ⟨47, _⟩ => ⟨S256x4x1, .f32⟩
  | .hbm, ⟨48, _⟩ => ⟨S256x4x128, .f32⟩
  | .hbm, ⟨49, _⟩ => ⟨S256x4x128, .f32⟩
  | .hbm, ⟨50, _⟩ => ⟨S128, .f32⟩
  | .hbm, ⟨51, _⟩ => ⟨S1x1x128, .f32⟩
  | .hbm, ⟨52, _⟩ => ⟨S256x4x128, .f32⟩
  | .hbm, ⟨53, _⟩ => ⟨S256x4x128, .f32⟩
  | .hbm, ⟨54, _⟩ => ⟨S_, .f32⟩
  | .hbm, ⟨55, _⟩ => ⟨S256x4x128, .f32⟩
  | .hbm, ⟨56, _⟩ => ⟨S256x4x128, .f32⟩
  | .hbm, ⟨57, _⟩ => ⟨S256x512, .f32⟩
  | _, _ => ⟨S1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Kernel7.lean ====
abbrev S256x2048 : Shape := ⟨2, ![256, 2048]⟩
abbrev S1x2048 : Shape := ⟨2, ![1, 2048]⟩
abbrev S2048x2048 : Shape := ⟨2, ![2048, 2048]⟩

abbrev nBuf : Space → Nat
  | .hbm => 6
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S1x2048, .f32⟩
  | .hbm, ⟨3, _⟩ => ⟨S2048x2048, .f32⟩
  | .hbm, ⟨4, _⟩ => ⟨S2048x2048, .bf16⟩
  | .hbm, ⟨5, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x2048, .bf16⟩
  | .local _ .vmem, ⟨4, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference7Ideal.lean ====
abbrev S256x2048 : Shape := ⟨2, ![256, 2048]⟩
abbrev S1x2048 : Shape := ⟨2, ![1, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S1x2048, .f32⟩
  | .hbm, ⟨3, _⟩ => ⟨S2048x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel8.lean ====
abbrev S256x2048 : Shape := ⟨2, ![256, 2048]⟩
abbrev S1x2048 : Shape := ⟨2, ![1, 2048]⟩
abbrev S2048x6720 : Shape := ⟨2, ![2048, 6720]⟩
abbrev S2048x1536 : Shape := ⟨2, ![2048, 1536]⟩
abbrev S2048x512 : Shape := ⟨2, ![2048, 512]⟩
abbrev S2048x256 : Shape := ⟨2, ![2048, 256]⟩
abbrev S2048x6656 : Shape := ⟨2, ![2048, 6656]⟩
abbrev S2048x16 : Shape := ⟨2, ![2048, 16]⟩
abbrev S2048x32 : Shape := ⟨2, ![2048, 32]⟩
abbrev S2048x64 : Shape := ⟨2, ![2048, 64]⟩
abbrev S_ : Shape := ⟨0, ![]⟩
abbrev S2048x128 : Shape := ⟨2, ![2048, 128]⟩
abbrev S256x6656 : Shape := ⟨2, ![256, 6656]⟩
abbrev S256x128 : Shape := ⟨2, ![256, 128]⟩
abbrev S256x512 : Shape := ⟨2, ![256, 512]⟩
abbrev S256 : Shape := ⟨1, ![256]⟩
abbrev S256x1 : Shape := ⟨2, ![256, 1]⟩

abbrev nBuf : Space → Nat
  | .hbm => 29
  | .vmem => 11
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x6720, .f32⟩
  | .hbm, ⟨5, _⟩ => ⟨S2048x1536, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x256, .f32⟩
  | .hbm, ⟨11, _⟩ => ⟨S2048x256, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S2048x6656, .f32⟩
  | .hbm, ⟨18, _⟩ => ⟨S2048x16, .f32⟩
  | .hbm, ⟨19, _⟩ => ⟨S2048x16, .f32⟩
  | .hbm, ⟨20, _⟩ => ⟨S2048x32, .f32⟩
  | .hbm, ⟨21, _⟩ => ⟨S2048x64, .f32⟩
  | .hbm, ⟨22, _⟩ => ⟨S_, .i32⟩
  | .hbm, ⟨23, _⟩ => ⟨S_, .f32⟩
  | .hbm, ⟨24, _⟩ => ⟨S2048x128, .f32⟩
  | .hbm, ⟨25, _⟩ => ⟨S2048x6656, .bf16⟩
  | .hbm, ⟨26, _⟩ => ⟨S2048x128, .bf16⟩
  | .hbm, ⟨27, _⟩ => ⟨S256x6656, .f32⟩
  | .hbm, ⟨28, _⟩ => ⟨S256x128, .f32⟩
  | .local _ .vmem, ⟨0, _⟩ => ⟨S256x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S2048x128, .bf16⟩
  | .local _ .vmem, ⟨7, _⟩ => ⟨S256x512, .f32⟩
  | .local _ .vmem, ⟨8, _⟩ => ⟨S256x512, .f32⟩
  | .local _ .vmem, ⟨9, _⟩ => ⟨S256x128, .f32⟩
  | .local _ .vmem, ⟨10, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_call0_v0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨2, ![1, 13], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference8Ideal.lean ====
abbrev S256x2048 : Shape := ⟨2, ![256, 2048]⟩
abbrev S1x2048 : Shape := ⟨2, ![1, 2048]⟩
abbrev S2048x6720 : Shape := ⟨2, ![2048, 6720]⟩
abbrev S_ : Shape := ⟨0, ![]⟩
abbrev S256 : Shape := ⟨1, ![256]⟩
abbrev S256x1 : Shape := ⟨2, ![256, 1]⟩
abbrev S256x6720 : Shape := ⟨2, ![256, 6720]⟩
abbrev S256x1536 : Shape := ⟨2, ![256, 1536]⟩
abbrev S256x512 : Shape := ⟨2, ![256, 512]⟩
abbrev S256x16 : Shape := ⟨2, ![256, 16]⟩
abbrev S256x256 : Shape := ⟨2, ![256, 256]⟩
abbrev S256x32 : Shape := ⟨2, ![256, 32]⟩
abbrev S256x64 : Shape := ⟨2, ![256, 64]⟩
abbrev S256x6656 : Shape := ⟨2, ![256, 6656]⟩
abbrev S256x128 : Shape := ⟨2, ![256, 128]⟩

abbrev nBuf : Space → Nat
  | .hbm => 47
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x6720, .f32⟩
  | .hbm, ⟨5, _⟩ => ⟨S256x2048, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S256x6720, .f32⟩
  | .hbm, ⟨28, _⟩ => ⟨S256x1536, .f32⟩
  | .hbm, ⟨29, _⟩ => ⟨S256x512, .f32⟩
  | .hbm, ⟨30, _⟩ => ⟨S256x16, .f32⟩
  | .hbm, ⟨31, _⟩ => ⟨S256x16, .f32⟩
  | .hbm, ⟨32, _⟩ => ⟨S256x512, .f32⟩
  | .hbm, ⟨33, _⟩ => ⟨S256x512, .f32⟩
  | .hbm, ⟨34, _⟩ => ⟨S256x512, .f32⟩
  | .hbm, ⟨35, _⟩ => ⟨S256x256, .f32⟩
  | .hbm, ⟨36, _⟩ => ⟨S256x256, .f32⟩
  | .hbm, ⟨37, _⟩ => ⟨S256x512, .f32⟩
  | .hbm, ⟨38, _⟩ => ⟨S256x512, .f32⟩
  | .hbm, ⟨39, _⟩ => ⟨S256x32, .f32⟩
  | .hbm, ⟨40, _⟩ => ⟨S256x512, .f32⟩
  | .hbm, ⟨41, _⟩ => ⟨S256x512, .f32⟩
  | .hbm, ⟨42, _⟩ => ⟨S256x512, .f32⟩
  | .hbm, ⟨43, _⟩ => ⟨S_, .f32⟩
  | .hbm, ⟨44, _⟩ => ⟨S256x64, .f32⟩
  | .hbm, ⟨45, _⟩ => ⟨S256x6656, .f32⟩
  | .hbm, ⟨46, _⟩ => ⟨S256x128, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel9.lean ====
abbrev S256x6656 : Shape := ⟨2, ![256, 6656]⟩
abbrev S64 : Shape := ⟨1, ![64]⟩
abbrev S16384 : Shape := ⟨1, ![16384]⟩
abbrev S_ : Shape := ⟨0, ![]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S256x128 : Shape := ⟨2, ![256, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x256x512 : Shape := ⟨3, ![2, 256, 512]⟩
abbrev S256x512 : Shape := ⟨2, ![256, 512]⟩
abbrev S4x1x128x256 : Shape := ⟨4, ![4, 1, 128, 256]⟩
abbrev S512x512 : Shape := ⟨2, ![512, 512]⟩
abbrev S1x256x512 : Shape := ⟨3, ![1, 256, 512]⟩
abbrev S128x256 : Shape := ⟨2, ![128, 256]⟩
abbrev S1x1x128x256 : Shape := ⟨4, ![1, 1, 128, 256]⟩

abbrev nBuf : Space → Nat
  | .hbm => 97
  | .vmem => 10
  | .smem => 0
  | _ => 0

abbrev bufTy : (tb : Table) → Fin (tcTables nBuf tb) → BufTy
  | .hbm, ⟨0, _⟩ => ⟨S256x6656, .f32⟩
  | .hbm, ⟨1, _⟩ => ⟨S64, .f32⟩
  | .hbm, ⟨2, _⟩ => ⟨S64, .f32⟩
  | .hbm, ⟨3, _⟩ => ⟨S16384, .i32⟩
  | .hbm, ⟨4, _⟩ => ⟨S_, .i32⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S16384, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S_, .i1⟩
  | .hbm, ⟨39, _⟩ => ⟨S16384, .i1⟩
  | .hbm, ⟨40, _⟩ => ⟨S16384, .i1⟩
  | .hbm, ⟨41, _⟩ => ⟨S16384, .i1⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S16384, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S16384x1, .f32⟩
  | .hbm, ⟨55, _⟩ => ⟨S1x16, .f32⟩
  | .hbm, ⟨56, _⟩ => ⟨S16384x16, .f32⟩
  | .hbm, ⟨57, _⟩ => ⟨S16384x16, .f32⟩
  | .hbm, ⟨58, _⟩ => ⟨S16384x16, .f32⟩
  | .hbm, ⟨59, _⟩ => ⟨S16384x1, .f32⟩
  | .hbm, ⟨60, _⟩ => ⟨S1x16, .f32⟩
  | .hbm, ⟨61, _⟩ => ⟨S16384x16, .f32⟩
  | .hbm, ⟨62, _⟩ => ⟨S16384x16, .f32⟩
  | .hbm, ⟨63, _⟩ => ⟨S16384x16, .f32⟩
  | .hbm, ⟨64, _⟩ => ⟨S16384x16, .f32⟩
  | .hbm, ⟨65, _⟩ => ⟨S16384x16, .f32⟩
  | .hbm, ⟨66, _⟩ => ⟨S16384x16, .f32⟩
  | .hbm, ⟨67, _⟩ => ⟨S16384x16, .f32⟩
  | .hbm, ⟨68, _⟩ => ⟨S16384x64, .f32⟩
  | .hbm, ⟨69, _⟩ => ⟨S16384x16, .f32⟩
  | .hbm, ⟨70, _⟩ => ⟨S16384x16, .f32⟩
  | .hbm, ⟨71, _⟩ => ⟨S16384x16, .f32⟩
  | .hbm, ⟨72, _⟩ => ⟨S16384x16, .f32⟩
  | .hbm, ⟨73, _⟩ => ⟨S16384x16, .f32⟩
  | .hbm, ⟨74, _⟩ => ⟨S16384x16, .f32⟩
  | .hbm, ⟨75, _⟩ => ⟨S16384x64, .f32⟩
  | .hbm, ⟨76, _⟩ => ⟨S1x16384x1x64, .f32⟩
  | .hbm, ⟨77, _⟩ => ⟨S1x16384x2x64, .f32⟩
  | .hbm, ⟨78, _⟩ => ⟨S16384x128, .f32⟩
  | .hbm, ⟨79, _⟩ => ⟨S1x16384x1x64, .f32⟩
  | .hbm, ⟨80, _⟩ => ⟨S1x16384x2x64, .f32⟩
  | .hbm, ⟨81, _⟩ => ⟨S16384x128, .f32⟩
  | .hbm, ⟨82, _⟩ => ⟨S_, .f32⟩
  | .hbm, ⟨83, _⟩ => ⟨S256x128, .f32⟩
  | .hbm, ⟨84, _⟩ => ⟨S_, .f32⟩
  | .hbm, ⟨85, _⟩ => ⟨S256x128, .f32⟩
  | .hbm, ⟨86, _⟩ => ⟨S1x64, .f32⟩
  | .hbm, ⟨87, _⟩ => ⟨S8x64, .f32⟩
  | .hbm, ⟨88, _⟩ => ⟨S512, .f32⟩
  | .hbm, ⟨89, _⟩ => ⟨S1x512, .f32⟩
  | .hbm, ⟨90, _⟩ => ⟨S1x64, .f32⟩
  | .hbm, ⟨91, _⟩ => ⟨S8x64, .f32⟩
  | .hbm, ⟨92, _⟩ => ⟨S512, .f32⟩
  | .hbm, ⟨93, _⟩ => ⟨S1x512, .f32⟩
  | .hbm, ⟨94, _⟩ => ⟨S2x256x512, .bf16⟩
  | .hbm, ⟨95, _⟩ => ⟨S256x512, .bf16⟩
  | .hbm, ⟨96, _⟩ => ⟨S4x1x128x256, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x128, .f32⟩
  | .local _ .vmem, ⟨4, _⟩ => ⟨S256x128, .f32⟩
  | .local _ .vmem, ⟨5, _⟩ => ⟨S1x512, .f32⟩
  | .local _ .vmem, ⟨6, _⟩ => ⟨S1x512, .f32⟩
  | .local _ .vmem, ⟨7, _⟩ => ⟨S2x256x512, .bf16⟩
  | .local _ .vmem, ⟨8, _⟩ => ⟨S256x512, .bf16⟩
  | .local _ .vmem, ⟨9, _⟩ => ⟨S4x1x128x256, .bf16⟩
  | _, _ => ⟨S256x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_cst : Ref sig .tc := ⟨.hbm, 48, rfl⟩
abbrev main_v7 : Ref sig .tc := ⟨.hbm, 49, rfl⟩
abbrev main_v8 : Ref sig .tc := ⟨.hbm, 50, rfl⟩
abbrev main_cst_1 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_2 : Ref sig .tc := ⟨.hbm, 82, rfl⟩
abbrev main_v39 : Ref sig .tc := ⟨.hbm, 83, rfl⟩
abbrev main_cst_3 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49_0 : Ref sig .tc := ⟨.hbm, 94, rfl⟩
abbrev main_v49_1 : Ref sig .tc := ⟨.hbm, 95, rfl⟩
abbrev main_v49_2 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_2 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S4x1x128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference9Ideal.lean ====
abbrev S256x6656 : Shape := ⟨2, ![256, 6656]⟩
abbrev S64 : Shape := ⟨1, ![64]⟩
abbrev S256x512 : Shape := ⟨2, ![256, 512]⟩
abbrev S256x4x2x64 : Shape := ⟨4, ![256, 4, 2, 64]⟩
abbrev S_ : Shape := ⟨0, ![]⟩
abbrev S256x4x2 : Shape := ⟨3, ![256, 4, 2]⟩
abbrev S256x4x2x1 : Shape := ⟨4, ![256, 4, 2, 1]⟩
abbrev S1x1x1x64 : Shape := ⟨4, ![1, 1, 1, 64]⟩
abbrev S1x256x4x128 : Shape := ⟨4, ![1, 256, 4, 128]⟩
abbrev S256x4x1x64 : Shape := ⟨4, ![256, 4, 1, 64]⟩
abbrev S1x256x4x2x64 : Shape := ⟨5, ![1, 256, 4, 2, 64]⟩
abbrev S2x256x4x2x64 : Shape := ⟨5, ![2, 256, 4, 2, 64]⟩
abbrev S2x256x512 : Shape := ⟨3, ![2, 256, 512]⟩
abbrev S4x1x128x256 : Shape := ⟨4, ![4, 1, 128, 256]⟩

abbrev nBuf : Space → Nat
  | .hbm => 59
  | .vmem => 0
  | .smem => 0
  | _ => 0

abbrev bufTy : (tb : Table) → Fin (tcTables nBuf tb) → BufTy
  | .hbm, ⟨0, _⟩ => ⟨S256x6656, .f32⟩
  | .hbm, ⟨1, _⟩ => ⟨S64, .f32⟩
  | .hbm, ⟨2, _⟩ => ⟨S64, .f32⟩
  | .hbm, ⟨3, _⟩ => ⟨S256x512, .f32⟩
  | .hbm, ⟨4, _⟩ => ⟨S256x4x2x64, .f32⟩
  | .hbm, ⟨5, _⟩ => ⟨S256x4x2x64, .f32⟩
  | .hbm, ⟨6, _⟩ => ⟨S_, .f32⟩
  | .hbm, ⟨7, _⟩ => ⟨S256x4x2, .f32⟩
  | .hbm, ⟨8, _⟩ => ⟨S256x4x2x1, .f32⟩
  | .hbm, ⟨9, _⟩ => ⟨S_, .f32⟩
  | .hbm, ⟨10, _⟩ => ⟨S256x4x2x1, .f32⟩
  | .hbm, ⟨11, _⟩ => ⟨S256x4x2x1, .f32⟩
  | .hbm, ⟨12, _⟩ => ⟨S_, .f32⟩
  | .hbm, ⟨13, _⟩ => ⟨S256x4x2x1, .f32⟩
  | .hbm, ⟨14, _⟩ => ⟨S256x4x2x1, .f32⟩
  | .hbm, ⟨15, _⟩ => ⟨S256x4x2x1, .f32⟩
  | .hbm, ⟨16, _⟩ => ⟨S256x4x2x64, .f32⟩
  | .hbm, ⟨17, _⟩ => ⟨S256x4x2x64, .f32⟩
  | .hbm, ⟨18, _⟩ => ⟨S1x1x1x64, .f32⟩
  | .hbm, ⟨19, _⟩ => ⟨S256x4x2x64, .f32⟩
  | .hbm, ⟨20, _⟩ => ⟨S256x4x2x64, .f32⟩
  | .hbm, ⟨21, _⟩ => ⟨S_, .f32⟩
  | .hbm, ⟨22, _⟩ => ⟨S256x4x2x64, .f32⟩
  | .hbm, ⟨23, _⟩ => ⟨S256x4x2x64, .f32⟩
  | .hbm, ⟨24, _⟩ => ⟨S256x512, .f32⟩
  | .hbm, ⟨25, _⟩ => ⟨S256x4x2x64, .f32⟩
  | .hbm, ⟨26, _⟩ => ⟨S256x4x2x64, .f32⟩
  | .hbm, ⟨27, _⟩ => ⟨S_, .f32⟩
  | .hbm, ⟨28, _⟩ => ⟨S256x4x2, .f32⟩
  | .hbm, ⟨29, _⟩ => ⟨S256x4x2x1, .f32⟩
  | .hbm, ⟨30, _⟩ => ⟨S_, .f32⟩
  | .hbm, ⟨31, _⟩ => ⟨S256x4x2x1, .f32⟩
  | .hbm, ⟨32, _⟩ => ⟨S256x4x2x1, .f32⟩
  | .hbm, ⟨33, _⟩ => ⟨S_, .f32⟩
  | .hbm, ⟨34, _⟩ => ⟨S256x4x2x1, .f32⟩
  | .hbm, ⟨35, _⟩ => ⟨S256x4x2x1, .f32⟩
  | .hbm, ⟨36, _⟩ => ⟨S256x4x2x1, .f32⟩
  | .hbm, ⟨37, _⟩ => ⟨S256x4x2x64, .f32⟩
  | .hbm, ⟨38, _⟩ => ⟨S256x4x2x64, .f32⟩
  | .hbm, ⟨39, _⟩ => ⟨S1x1x1x64, .f32⟩
  | .hbm, ⟨40, _⟩ => ⟨S256x4x2x64, .f32⟩
  | .hbm, ⟨41, _⟩ => ⟨S256x4x2x64, .f32⟩
  | .hbm, ⟨42, _⟩ => ⟨S256x512, .f32⟩
  | .hbm, ⟨43, _⟩ => ⟨S1x256x4x128, .f32⟩
  | .hbm, ⟨44, _⟩ => ⟨S_, .f32⟩
  | .hbm, ⟨45, _⟩ => ⟨S256x4x1x64, .f32⟩
  | .hbm, ⟨46, _⟩ => ⟨S256x4x1x64, .f32⟩
  | .hbm, ⟨47, _⟩ => ⟨S256x4x2x64, .f32⟩
  | .hbm, ⟨48, _⟩ => ⟨S256x4x1x64, .f32⟩
  | .hbm, ⟨49, _⟩ => ⟨S256x4x2x64, .f32⟩
  | .hbm, ⟨50, _⟩ => ⟨S1x256x4x2x64, .f32⟩
  | .hbm, ⟨51, _⟩ => ⟨S1x256x4x2x64, .f32⟩
  | .hbm, ⟨52, _⟩ => ⟨S2x256x4x2x64, .f32⟩
  | .hbm, ⟨53, _⟩ => ⟨S2x256x512, .f32⟩
  | .hbm, ⟨54, _⟩ => ⟨S2x256x512, .bf16⟩
  | .hbm, ⟨55, _⟩ => ⟨S256x512, .f32⟩
  | .hbm, ⟨56, _⟩ => ⟨S256x512, .bf16⟩
  | .hbm, ⟨57, _⟩ => ⟨S4x1x128x256, .f32⟩
  | .hbm, ⟨58, _⟩ => ⟨S4x1x128x256, .bf16⟩
  | _, _ => ⟨S256x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩

abbrev nD : Nat := 1
abbrev τ : Topo := Topo.v7x

variable {F : FTy → Type} [FloatOps F]
-- ==== Proof.Run.lean ====
/- What the attention kernel stores into its output block, as a term over the input blocks: the running state (maximum,
   sum, weighted sum) after each chunk of latent keys by recursion, then the step over the context keys, then the
   output's arithmetic. The pieces the frame's run lists are read back here, the loop's by induction on its trips. -/
module

public import proofs.«01_k».proof.Proof.Gen.KernelIdeal.Frame
public import Idealize.ShloMosaic.Lib.Pipeline.ValueKit
public import Idealize.ShloMosaic.Lib.VecWindow

@[expose] public section

set_option maxRecDepth 16384

noncomputable section

namespace Cert.KernelIdeal.Run

open Idealize.ShloMosaic Idealize.ShloMosaic.TcCoe Idealize.SL.Sem
open Cert.KernelIdeal Cert.KernelIdeal.Gen

/-- The running maximum, sum and weighted sum. -/
abbrev St := FVec Ideal S1x1024 .f32 × FVec Ideal S1x1024 .f32 × FVec Ideal S128x1024 .f32

/-- The chunk of latent keys trip `k` loads. -/
def kChunk (x2 : Vec Ideal S16384x128 .bf16) (k : Fin k0_t1_loop.trips) : Vec Ideal S512x128 .bf16 :=
  VecWindow.window x2 (k0_off1 k) S512x128.size (k0_off1_inb k)

/-- The chunk of latent values trip `k` loads. -/
def vChunk (x3 : Vec Ideal S1x32x128x512 .bf16) (k : Fin k0_t1_loop.trips) : Vec Ideal S1x1x128x512 .bf16 :=
  VecWindow.window x3 (k0_off2 k) S1x1x128x512.size (k0_off2_inb k)

/-- The state after one more chunk of latent keys. -/
def next (x1 : Vec Ideal S2x512x128 .bf16) (x2 : Vec Ideal S16384x128 .bf16) (x3 : Vec Ideal S1x32x128x512 .bf16)
    (k : Fin k0_t1_loop.trips) (s : St) : St :=
  (k0_pay12 (k0_pay3 (k0_pay8 x1) (kChunk x2 k) s.1), k0_pay6 (k0_pay8 x1) (kChunk x2 k) s.1 s.2.1,
    k0_pay7 (k0_pay8 x1) (kChunk x2 k) (vChunk x3 k) s.1 s.2.2)

/-- The state after `n` chunks of latent keys. -/
def st (x1 : Vec Ideal S2x512x128 .bf16) (x2 : Vec Ideal S16384x128 .bf16) (x3 : Vec Ideal S1x32x128x512 .bf16) : ℕ → St
  | 0 => (k0_pay9, k0_pay10, k0_pay11)
  | n + 1 => if h : n < k0_t1_loop.trips then next x1 x2 x3 ⟨n, h⟩ (st x1 x2 x3 n) else st x1 x2 x3 n

variable (c : Dev nD) (i : grid0.Coords) (arg2 : Memref sig .tc .smem S1x1 .f32) (harg2 : arg2.IsWhole) (arg3 : Memref sig .tc .vmem S2x512x128 .bf16) (harg3 : arg3.IsWhole) (arg4 : Memref sig .tc .vmem S16384x128 .bf16) (harg4 : arg4.IsWhole) (arg5 : Memref sig .tc .vmem S1x32x128x512 .bf16) (harg5 : arg5.IsWhole) (arg6 : Memref sig .tc .vmem S256x128 .bf16) (harg6 : arg6.IsWhole) (arg7 : Memref sig .tc .vmem S1x1x128x256 .bf16) (harg7 : arg7.IsWhole) (arg8 : Memref sig .tc .vmem S128x1 .f32) (harg8 : arg8.IsWhole) (arg9 : Memref sig .tc .vmem S512x128 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x1024 .f32) (harg12 : arg12.IsWhole)
  (x0 : Vec Ideal S1x1 .f32) (x1 : Vec Ideal S2x512x128 .bf16) (x2 : Vec Ideal S16384x128 .bf16) (x3 : Vec Ideal S1x32x128x512 .bf16) (x4 : Vec Ideal S256x128 .bf16) (x5 : Vec Ideal S1x1x128x256 .bf16) (x6 : Vec Ideal S128x1 .f32)
  (G10 : BufTy.Contents (Elt Ideal) arg10.view.ty) (G11 : BufTy.Contents (Elt Ideal) arg11.view.ty) (G12 : BufTy.Contents (Elt Ideal) arg12.view.ty)

/-- The pieces of one trip, over the contents it finds. -/
theorem trip_eq (k : Fin k0_t1_loop.trips) (f10 : BufTy.Contents (Elt Ideal) arg10.view.ty) (f11 : BufTy.Contents (Elt Ideal) arg11.view.ty) (f12 : BufTy.Contents (Elt Ideal) arg12.view.ty) (s : St)
    (h10 : arg10.view.read (Elt Ideal) f10 = s.1) (h11 : arg11.view.read (Elt Ideal) f11 = s.2.1) (h12 : arg12.view.read (Elt Ideal) f12 = s.2.2) :
    tripL_k0_t1 (F := Ideal) Variants.none c none i arg2 harg2 arg3 harg3 arg4 harg4 arg5 harg5 arg6 harg6 arg7 harg7 arg8 harg8 arg9 harg9 arg10 harg10 arg11 harg11 arg12 harg12 x1 (harg4.unread x2) (harg5.unread x3) k f10 f11 f12
      = ([⟨Rect.unit ![0, 0] S1x1024.size inb_S1x1024_S1x1024_0_0, (next x1 x2 x3 k s).1⟩],
         [⟨Rect.unit ![0, 0] S1x1024.size inb_S1x1024_S1x1024_0_0, (next x1 x2 x3 k s).2.1⟩],
         [⟨Rect.unit ![0, 0] S128x1024.size inb_S128x1024_S128x1024_0_0, (next x1 x2 x3 k s).2.2⟩]) := by
  have e10 : View.readAt (Elt Ideal) arg10.view (Rect.unit ![0, 0] S1x1024.size inb_S1x1024_S1x1024_0_0).toLoadRect f10 = s.1 :=
    (View.readAt_full _ _ _).trans h10
  have e11 : View.readAt (Elt Ideal) arg11.view (Rect.unit ![0, 0] S1x1024.size inb_S1x1024_S1x1024_0_0).toLoadRect f11 = s.2.1 :=
    (View.readAt_full _ _ _).trans h11
  have e12 : View.readAt (Elt Ideal) arg12.view (Rect.unit ![0, 0] S128x1024.size inb_S128x1024_S128x1024_0_0).toLoadRect f12 = s.2.2 :=
    (View.readAt_full _ _ _).trans h12
  have e4 : View.readAt (Elt Ideal) arg4.view (Rect.unit (s := S16384x128) (k0_off1 k) S512x128.size (k0_off1_inb k)).toLoadRect (harg4.unread x2) = kChunk x2 k := by
    rw [View.readAt_unit _ _ _ rfl (k0_off1_inb k), harg4.read_unread]; rfl
  have e5 : View.readAt (Elt Ideal) arg5.view (Rect.unit (s := S1x32x128x512) (k0_off2 k) S1x1x128x512.size (k0_off2_inb k)).toLoadRect (harg5.unread x3) = vChunk x3 k := by
    rw [View.readAt_unit _ _ _ rfl (k0_off2_inb k), harg5.read_unread]; rfl
  unfold tripL_k0_t1 trip_k0_t1
  dsimp only
  sl_unfold_run_names
  rw [e10, e11, e12, e4, e5]
  rfl

/-- What the three scratch buffers hold after `n` trips. -/
theorem loop_eq (h10 : arg10.view.read (Elt Ideal) G10 = k0_pay9 (F := Ideal)) (h11 : arg11.view.read (Elt Ideal) G11 = k0_pay10 (F := Ideal)) (h12 : arg12.view.read (Elt Ideal) G12 = k0_pay11 (F := Ideal)) (n : ℕ) (hn : n ≤ k0_t1_loop.trips) :
    arg10.view.read (Elt Ideal) (arg10.view.writes (Elt Ideal) G10 (pb_k0_t1 (F := Ideal) Variants.none c none i arg2 harg2 arg3 harg3 arg4 harg4 arg5 harg5 arg6 harg6 arg7 harg7 arg8 harg8 arg9 harg9 arg10 harg10 arg11 harg11 arg12 harg12 x1 (harg4.unread x2) (harg5.unread x3) G10 G11 G12 n).1) = (st x1 x2 x3 n).1
    ∧ arg11.view.read (Elt Ideal) (arg11.view.writes (Elt Ideal) G11 (pb_k0_t1 (F := Ideal) Variants.none c none i arg2 harg2 arg3 harg3 arg4 harg4 arg5 harg5 arg6 harg6 arg7 harg7 arg8 harg8 arg9 harg9 arg10 harg10 arg11 harg11 arg12 harg12 x1 (harg4.unread x2) (harg5.unread x3) G10 G11 G12 n).2.1) = (st x1 x2 x3 n).2.1
    ∧ arg12.view.read (Elt Ideal) (arg12.view.writes (Elt Ideal) G12 (pb_k0_t1 (F := Ideal) Variants.none c none i arg2 harg2 arg3 harg3 arg4 harg4 arg5 harg5 arg6 harg6 arg7 harg7 arg8 harg8 arg9 harg9 arg10 harg10 arg11 harg11 arg12 harg12 x1 (harg4.unread x2) (harg5.unread x3) G10 G11 G12 n).2.2) = (st x1 x2 x3 n).2.2 := by
  induction n with
  | zero => exact ⟨h10, h11, h12⟩
  | succ n ih =>
      obtain ⟨i10, i11, i12⟩ := ih (by omega)
      have hs : st x1 x2 x3 (n + 1) = next x1 x2 x3 ⟨n, hn⟩ (st x1 x2 x3 n) := dif_pos hn
      rw [hs, pb_k0_t1_succ Variants.none c none i arg2 harg2 arg3 harg3 arg4 harg4 arg5 harg5 arg6 harg6 arg7 harg7 arg8 harg8 arg9 harg9 arg10 harg10 arg11 harg11 arg12 harg12 x1 (harg4.unread x2) (harg5.unread x3) G10 G11 G12 ⟨n, hn⟩,
        trip_eq c i arg2 harg2 arg3 harg3 arg4 harg4 arg5 harg5 arg6 harg6 arg7 harg7 arg8 harg8 arg9 harg9 arg10 harg10 arg11 harg11 arg12 harg12 x1 x2 x3 ⟨n, hn⟩ _ _ _ _ i10 i11 i12]
      exact ⟨View.read_writes_full _ _ _ _ _, View.read_writes_full _ _ _ _ _, View.read_writes_full _ _ _ _ _⟩

/-- The sum after the context keys. -/
def lEnd (x1 : Vec Ideal S2x512x128 .bf16) (x4 : Vec Ideal S256x128 .bf16) (s : St) : FVec Ideal S1x1024 .f32 :=
  k0_pay18 (k0_pay16 x1 x4 s.1) (k0_pay17 x1 x4 s.1) s.2.1

/-- The weighted sum after the context keys. -/
def accEnd (x1 : Vec Ideal S2x512x128 .bf16) (x4 : Vec Ideal S256x128 .bf16) (x5 : Vec Ideal S1x1x128x256 .bf16) (s : St) : FVec Ideal S128x1024 .f32 :=
  k0_pay19 (k0_pay13 x5) (k0_pay16 x1 x4 s.1) (k0_pay17 x1 x4 s.1) s.2.2

/-- The block stored, over the state after the latent keys. -/
def outOf (x0 : Vec Ideal S1x1 .f32) (x1 : Vec Ideal S2x512x128 .bf16) (x4 : Vec Ideal S256x128 .bf16) (x5 : Vec Ideal S1x1x128x256 .bf16) (x6 : Vec Ideal S128x1 .f32) (s : St) : FVec Ideal S512x128 .f32 :=
  k0_pay1 (k0_pay21 (accEnd x1 x4 x5 s) (lEnd x1 x4 s) (x0 (Shape.Idx.first (by decide))))
    (k0_pay22 (accEnd x1 x4 x5 s) (lEnd x1 x4 s) (x0 (Shape.Idx.first (by decide)))) (FloatOps.ofBits .f32 1124073472#32) x6

/-- The kernel's output block. -/
theorem out_eq : out0_A_7 (F := Ideal) c i arg2 harg2 arg3 harg3 arg4 harg4 arg5 harg5 arg6 harg6 arg7 harg7 arg8 harg8 arg9 harg9 arg10 harg10 arg11 harg11 arg12 harg12 x0 x1 x2 x3 x4 x5 x6
    = outOf x0 x1 x4 x5 x6 (st x1 x2 x3 k0_t1_loop.trips) := by
  have e2 : View.readAt (Elt Ideal) arg2.view (Rect.unit ![0, 0] S1x1.size inb_S1x1_S1x1_0_0).toLoadRect (harg2.unread x0) = x0 :=
    (View.readAt_full _ _ _).trans (harg2.read_unread _)
  have e3 : View.readAt (Elt Ideal) arg3.view (Rect.unit ![0, 0, 0] S2x512x128.size inb_S2x512x128_S2x512x128_0_0_0).toLoadRect (harg3.unread x1) = x1 :=
    (View.readAt_full _ _ _).trans (harg3.read_unread _)
  have e6 : View.readAt (Elt Ideal) arg6.view (Rect.unit ![0, 0] S256x128.size inb_S256x128_S256x128_0_0).toLoadRect (harg6.unread x4) = x4 :=
    (View.readAt_full _ _ _).trans (harg6.read_unread _)
  have e7 : View.readAt (Elt Ideal) arg7.view (Rect.unit ![0, 0, 0, 0] S1x1x128x256.size inb_S1x1x128x256_S1x1x128x256_0_0_0_0).toLoadRect (harg7.unread x5) = x5 :=
    (View.readAt_full _ _ _).trans (harg7.read_unread _)
  have e8 : View.readAt (Elt Ideal) arg8.view (Rect.unit ![0, 0] S128x1.size inb_S128x1_S128x1_0_0).toLoadRect (harg8.unread x6) = x6 :=
    (View.readAt_full _ _ _).trans (harg8.read_unread _)
  obtain ⟨i10, i11, i12⟩ := loop_eq c i arg2 harg2 arg3 harg3 arg4 harg4 arg5 harg5 arg6 harg6 arg7 harg7 arg8 harg8 arg9 harg9 arg10 harg10 arg11 harg11 arg12 harg12 x1 x2 x3
    (arg10.view.writes (Elt Ideal) arg10.view.junk [⟨Rect.unit ![0, 0] S1x1024.size inb_S1x1024_S1x1024_0_0, k0_pay9 (F := Ideal)⟩])
    (arg11.view.writes (Elt Ideal) arg11.view.junk [⟨Rect.unit ![0, 0] S1x1024.size inb_S1x1024_S1x1024_0_0, k0_pay10 (F := Ideal)⟩])
    (arg12.view.writes (Elt Ideal) arg12.view.junk [⟨Rect.unit ![0, 0] S128x1024.size inb_S128x1024_S128x1024_0_0, k0_pay11 (F := Ideal)⟩])
    (View.read_writes_full _ _ _ _ _) (View.read_writes_full _ _ _ _ _) (View.read_writes_full _ _ _ _ _) k0_t1_loop.trips le_rfl
  rw [← View.writes_append, ← View.readAt_full arg10.view _ inb_S1x1024_S1x1024_0_0] at i10
  rw [← View.writes_append, ← View.readAt_full arg11.view _ inb_S1x1024_S1x1024_0_0] at i11
  rw [← View.writes_append, ← View.readAt_full arg12.view _ inb_S128x1024_S128x1024_0_0] at i12
  have f11 : ∀ w L, View.readAt (Elt Ideal) arg11.view (Rect.unit ![0, 0] S1x1024.size inb_S1x1024_S1x1024_0_0).toLoadRect (arg11.view.writes (Elt Ideal) arg11.view.junk (⟨Rect.unit ![0, 0] S1x1024.size inb_S1x1024_S1x1024_0_0, w⟩ :: L)) = w :=
    fun w L => View.readAt_writes_full _ _ _ _ _ _
  have f12 : ∀ w L, View.readAt (Elt Ideal) arg12.view (Rect.unit ![0, 0] S128x1024.size inb_S128x1024_S128x1024_0_0).toLoadRect (arg12.view.writes (Elt Ideal) arg12.view.junk (⟨Rect.unit ![0, 0] S128x1024.size inb_S128x1024_S128x1024_0_0, w⟩ :: L)) = w :=
    fun w L => View.readAt_writes_full _ _ _ _ _ _
  unfold out0_A_7 kernelRun0_A
  dsimp only
  refine (View.read_writes_full _ _ _ _ _).trans ?_
  sl_unfold_run_names
  rw [e8, e2, e3, e6, e7]
  unfold View.readCov
  rw [i10, i11, i12, f11, f12]
  rfl

end Cert.KernelIdeal.Run

end
-- ==== Proof.Payloads.lean ====
/- The kernel's stored terms read at one index. -/
module

public import proofs.«01_k».proof.Proof.Run
public import Idealize.ShloMosaic.Lib.Pointwise

@[expose] public section

set_option maxRecDepth 16384

noncomputable section

namespace Cert.KernelIdeal.Run

open Idealize.ShloMosaic Idealize.ShloMosaic.TcCoe Idealize.SL.Sem
open Cert.KernelIdeal Cert.KernelIdeal.Gen

/-- The word of `-∞`. -/
theorem ofBits_bot : Ideal.ofBits .f32 4286578688#32 = ⊥ := by
  simp [Ideal.ofBits, Ideal.ieee]

/-- The word of `-10³⁰`. -/
theorem ofBits_real : ∃ μ : ℝ, Ideal.ofBits .f32 4048155338#32 = (μ : EReal) := by
  simp only [Ideal.ofBits, Ideal.ieee]
  rw [if_neg (by decide), if_neg (by decide)]
  exact ⟨_, rfl⟩

variable (x1 : Vec Ideal S2x512x128 .bf16) (q : FVec Ideal S1024x128 .bf16) (K : Vec Ideal S512x128 .bf16) (V : Vec Ideal S1x1x128x512 .bf16)
  (C : Vec Ideal S256x128 .bf16) (W : Vec Ideal S1x1x128x256 .bf16) (m l : Vec Ideal S1x1024 .f32) (a : Vec Ideal S128x1024 .f32)

theorem pay2_at (r : Fin 512) (j : Fin 1024) :
    k0_pay2 (F := Ideal) (k0_pay8 x1) K (ix2 r j)
      = ∑ x : Fin 128, K (ix2 r x) * x1 (ix3 ⟨j.val / 512, by omega⟩ ⟨j.val % 512, by omega⟩ x) := by
  pointwise [k0_pay2, k0_pay8]

theorem pay3_at (j : Fin 1024) :
    k0_pay3 (F := Ideal) q K m (ix2 0 j) = max (m (ix2 0 j)) (Finset.univ.fold max ⊥ fun r : Fin 512 => k0_pay2 q K (ix2 r j)) := by
  pointwise [k0_pay3]
  rw [ofBits_bot]

theorem pay12_eq : k0_pay12 (F := Ideal) m = m := by
  funext j; idx_vars j
  pointwise [k0_pay12]

theorem pay6_at (j : Fin 1024) :
    k0_pay6 (F := Ideal) q K m l (ix2 0 j) = Ideal.exp (m (ix2 0 j) - k0_pay3 q K m (ix2 0 j)) * l (ix2 0 j)
      + ∑ r : Fin 512, Ideal.exp (k0_pay2 q K (ix2 r j) - k0_pay3 q K m (ix2 0 j)) := by
  pointwise [k0_pay6, k0_pay5, k0_pay4]

theorem pay7_at (d : Fin 128) (j : Fin 1024) :
    k0_pay7 (F := Ideal) q K V m a (ix2 d j) = Ideal.exp (m (ix2 0 j) - k0_pay3 q K m (ix2 0 j)) * a (ix2 d j)
      + ∑ r : Fin 512, V (ix4 0 0 d r) * Ideal.exp (k0_pay2 q K (ix2 r j) - k0_pay3 q K m (ix2 0 j)) := by
  pointwise [k0_pay7, k0_pay5, k0_pay4]

theorem pay14_at (r : Fin 256) (j : Fin 1024) :
    k0_pay14 (F := Ideal) x1 C (ix2 r j)
      = ∑ x : Fin 128, C (ix2 r x) * x1 (ix3 ⟨j.val / 512, by omega⟩ ⟨j.val % 512, by omega⟩ x) := by
  pointwise [k0_pay14, k0_pay8]

theorem pay15_at (j : Fin 1024) :
    k0_pay15 (F := Ideal) x1 C m (ix2 0 j) = max (m (ix2 0 j)) (Finset.univ.fold max ⊥ fun r : Fin 256 => k0_pay14 x1 C (ix2 r j)) := by
  pointwise [k0_pay15]
  rw [ofBits_bot]

theorem pay18_at (j : Fin 1024) :
    k0_pay18 (F := Ideal) (k0_pay16 x1 C m) (k0_pay17 x1 C m) l (ix2 0 j) = Ideal.exp (m (ix2 0 j) - k0_pay15 x1 C m (ix2 0 j)) * l (ix2 0 j)
      + ∑ r : Fin 256, Ideal.exp (k0_pay14 x1 C (ix2 r j) - k0_pay15 x1 C m (ix2 0 j)) := by
  pointwise [k0_pay16, k0_pay17, k0_pay18]

theorem pay19_at (d : Fin 128) (j : Fin 1024) :
    k0_pay19 (F := Ideal) (k0_pay13 W) (k0_pay16 x1 C m) (k0_pay17 x1 C m) a (ix2 d j)
      = Ideal.exp (m (ix2 0 j) - k0_pay15 x1 C m (ix2 0 j)) * a (ix2 d j)
      + ∑ r : Fin 256, W (ix4 0 0 d r) * Ideal.exp (k0_pay14 x1 C (ix2 r j) - k0_pay15 x1 C m (ix2 0 j)) := by
  pointwise [k0_pay16, k0_pay17, k0_pay19, k0_pay13]

theorem pay21_at (lam : Elt Ideal .f32) (d : Fin 128) (j : Fin 512) :
    k0_pay21 (F := Ideal) a l lam (ix2 d j)
      = Ideal.div (a (ix2 d ⟨j.val, by omega⟩)) (l (ix2 0 ⟨j.val, by omega⟩))
        - lam * Ideal.div (a (ix2 d ⟨512 + j.val, by omega⟩)) (l (ix2 0 ⟨512 + j.val, by omega⟩)) := by
  pointwise [k0_pay21]

theorem pay22_at (lam : Elt Ideal .f32) (j : Fin 512) :
    k0_pay22 (F := Ideal) a l lam (ix2 0 j) = ∑ x : Fin 128, k0_pay21 a l lam (ix2 x j) * k0_pay21 a l lam (ix2 x j) := by
  pointwise [k0_pay22]

theorem pay1_at (o : FVec Ideal S128x512 .f32) (ss : FVec Ideal S1x512 .f32) (c : Ideal .f32) (g : Vec Ideal S128x1 .f32) (d : Fin 128) (j : Fin 512) :
    k0_pay1 (F := Ideal) o ss c g (ix2 j d)
      = o (ix2 d j) * Ideal.rsqrt (Ideal.div (ss (ix2 0 j)) c + Ideal.ofBits FTy.f32 897988541#32)
        * (g (ix2 d 0) * Ideal.ofBits FTy.f32 1061997773#32) := by
  pointwise [k0_pay1]

/-- The starting maximum is a number. -/
theorem pay9_at : ∃ μ : ℝ, ∀ j, k0_pay9 (F := Ideal) j = (μ : EReal) := by
  obtain ⟨μ, h⟩ := ofBits_real
  refine ⟨μ, fun j => ?_⟩
  pointwise [k0_pay9]
  exact h

theorem pay10_at (j : S1x1024.Idx) : k0_pay10 (F := Ideal) j = 0 := by pointwise [k0_pay10]

theorem pay11_at (j : S128x1024.Idx) : k0_pay11 (F := Ideal) j = 0 := by pointwise [k0_pay11]

theorem trips_eq : k0_t1_loop.trips = 32 := by decide +kernel

/-- The chunk of keys, at an index. -/
theorem kChunk_at (x2 : Vec Ideal S16384x128 .bf16) (k : Fin k0_t1_loop.trips) (r : Fin 512) (x : Fin 128) (h : 512 * k.val + r.val < 16384) :
    kChunk x2 k (ix2 r x) = x2 (ix2 ⟨512 * k.val + r.val, h⟩ x) := by
  refine congrArg x2 (funext fun a => Fin.ext ?_)
  show k0_off1 k a + 1 * (ix2 r x a).val = _
  rw [k0_off1_eq]
  fin_cases a <;> simp

/-- The chunk of values, at an index. -/
theorem vChunk_at (x3 : Vec Ideal S1x32x128x512 .bf16) (k : Fin k0_t1_loop.trips) (d : Fin 128) (r : Fin 512) (h : k.val < 32) :
    vChunk x3 k (ix4 0 0 d r) = x3 (ix4 0 ⟨k.val, h⟩ d r) := by
  refine congrArg x3 (funext fun a => Fin.ext ?_)
  show k0_off2 k a + 1 * (ix4 (0 : Fin 1) (0 : Fin 1) d r a).val = _
  rw [k0_off2_eq]
  fin_cases a <;> simp

end Cert.KernelIdeal.Run

end
-- ==== Proof.Softmax.lean ====
/- The arithmetic of a softmax average computed chunk by chunk: a running maximum, a running sum of exponentials and
   a running weighted sum, each rescaled when the maximum moves. Over finite scores and values the quotient of the two
   sums does not depend on the shift the exponentials carry, so it is the softmax average of the whole row. -/
module

public import Idealize.ShloMosaic.PureOps
public import Idealize.ShloMosaic.PureOps.Ideal.Laws

@[expose] public section

noncomputable section

namespace Cert.Softmax

open Idealize.ShloMosaic

/-- A finite sum of real numbers is the same sum taken among the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- The maximum of a real number and finitely many real numbers is a real number. -/
theorem max_fold {ι : Type*} (s : Finset ι) (f : ι → ℝ) (μ : ℝ) :
    ∃ μ' : ℝ, max (μ : EReal) (s.fold max ⊥ fun i => (f i : EReal)) = (μ' : EReal) := by
  classical
  induction s using Finset.induction_on with
  | empty => exact ⟨μ, by simp⟩
  | insert a s h ih =>
      obtain ⟨μ', e⟩ := ih
      refine ⟨max (f a) μ', ?_⟩
      rw [Finset.fold_insert h, max_left_comm, e, ← EReal.coe_strictMono.monotone.map_max]

/-- The maximum of at least one real number, from `-∞`, is a real number. -/
theorem fold_real {ι : Type*} (s : Finset ι) (f : ι → ℝ) (a : ι) (ha : a ∈ s) :
    ∃ μ : ℝ, s.fold max ⊥ (fun i => (f i : EReal)) = (μ : EReal) := by
  classical
  obtain ⟨μ, e⟩ := max_fold (s.erase a) f (f a)
  exact ⟨μ, by rw [← Finset.insert_erase ha, Finset.fold_insert (Finset.notMem_erase a s), e]⟩

/-- After the first `n` keys: the shift `m` is a number, `l` the sum of the shifted exponentials of the scores and `a`
    the same sum weighted by the values. -/
def Seen (n : ℕ) (S V : ℕ → ℝ) (m l a : EReal) : Prop :=
  ∃ μ : ℝ, m = (μ : EReal) ∧ l = ((∑ r ∈ Finset.range n, Real.exp (S r - μ) : ℝ) : EReal)
    ∧ a = ((∑ r ∈ Finset.range n, Real.exp (S r - μ) * V r : ℝ) : EReal)

/-- Before the first key. -/
theorem Seen.zero (S V : ℕ → ℝ) (μ : ℝ) : Seen 0 S V (μ : EReal) 0 0 := ⟨μ, rfl, by simp, by simp⟩

/-- One chunk of `K` keys. -/
theorem Seen.step {n K : ℕ} {S V : ℕ → ℝ} {m l a : EReal} (h : Seen n S V m l a) {s v : Fin K → EReal}
    (hs : ∀ r, s r = (S (n + r.val) : EReal)) (hv : ∀ r, v r = (V (n + r.val) : EReal)) :
    Seen (n + K) S V (max m (Finset.univ.fold max ⊥ s))
      (Ideal.exp (m - max m (Finset.univ.fold max ⊥ s)) * l + ∑ r, Ideal.exp (s r - max m (Finset.univ.fold max ⊥ s)))
      (Ideal.exp (m - max m (Finset.univ.fold max ⊥ s)) * a + ∑ r, v r * Ideal.exp (s r - max m (Finset.univ.fold max ⊥ s))) := by
  obtain ⟨μ, rfl, rfl, rfl⟩ := h
  obtain rfl : s = fun r => (S (n + r.val) : EReal) := funext hs
  obtain rfl : v = fun r => (V (n + r.val) : EReal) := funext hv
  obtain ⟨μ', e⟩ := max_fold (Finset.univ : Finset (Fin K)) (fun r => S (n + r.val)) μ
  refine ⟨μ', e, ?_, ?_⟩
  · rw [e]
    simp only [← EReal.coe_sub, Ideal.exp_coe, coe_sum, ← EReal.coe_mul, ← EReal.coe_add]
    congr 1
    rw [Finset.sum_range_add, Finset.mul_sum, Finset.sum_range (fun x => Real.exp (S (n + x) - μ'))]
    congr 1
    exact Finset.sum_congr rfl fun r _ => by rw [← Real.exp_add]; ring_nf
  · rw [e]
    simp only [← EReal.coe_sub, Ideal.exp_coe, coe_sum, ← EReal.coe_mul, ← EReal.coe_add]
    congr 1
    rw [Finset.sum_range_add, Finset.mul_sum, Finset.sum_range (fun x => Real.exp (S (n + x) - μ') * V (n + x))]
    congr 1
    · exact Finset.sum_congr rfl fun r _ => by rw [← mul_assoc, ← Real.exp_add]; ring_nf
    · exact Finset.sum_congr rfl fun r _ => mul_comm _ _

/-- The softmax weight of key `r` among the first `n`. -/
def wt (n : ℕ) (S : ℕ → ℝ) (r : ℕ) : ℝ := Real.exp (S r) / ∑ r' ∈ Finset.range n, Real.exp (S r')

theorem sum_shift (n : ℕ) (S : ℕ → ℝ) (μ : ℝ) :
    ∑ r ∈ Finset.range n, Real.exp (S r - μ) = (∑ r ∈ Finset.range n, Real.exp (S r)) * Real.exp (-μ) := by
  rw [Finset.sum_mul]; exact Finset.sum_congr rfl fun r _ => by rw [← Real.exp_add, sub_eq_add_neg]

theorem sum_pos {n : ℕ} (hn : 0 < n) (S : ℕ → ℝ) : 0 < ∑ r ∈ Finset.range n, Real.exp (S r) :=
  Finset.sum_pos (fun _ _ => Real.exp_pos _) ⟨0, Finset.mem_range.2 hn⟩

/-- The weight does not depend on a shift of the exponents. -/
theorem wt_shift {n : ℕ} (hn : 0 < n) (S : ℕ → ℝ) (μ : ℝ) (r : ℕ) :
    Real.exp (S r - μ) / ∑ r' ∈ Finset.range n, Real.exp (S r' - μ) = wt n S r := by
  rw [sum_shift, sub_eq_add_neg, Real.exp_add, wt, mul_div_mul_right _ _ (Real.exp_pos _).ne']

/-- The quotient of the two running sums is the softmax average. -/
theorem Seen.div {n : ℕ} (hn : 0 < n) {S V : ℕ → ℝ} {m l a : EReal} (h : Seen n S V m l a) :
    Ideal.div a l = ((∑ r ∈ Finset.range n, wt n S r * V r : ℝ) : EReal) := by
  obtain ⟨μ, rfl, rfl, rfl⟩ := h
  have hp : ∑ r ∈ Finset.range n, Real.exp (S r - μ) ≠ 0 := (sum_pos hn fun r => S r - μ).ne'
  rw [Ideal.div_coe hp, ← EReal.coe_mul, Finset.sum_mul]
  congr 1
  refine Finset.sum_congr rfl fun r _ => ?_
  rw [← wt_shift hn S μ r]; ring

/-- A softmax weight as a whole row computes it: exponentials shifted by any number, divided by their sum. -/
theorem wt_div {n : ℕ} (hn : 0 < n) (S : ℕ → ℝ) (μ : ℝ) (r : ℕ) :
    Ideal.div (Ideal.exp ((S r : EReal) - (μ : EReal))) ((∑ r' ∈ Finset.range n, Real.exp (S r' - μ) : ℝ) : EReal)
      = (wt n S r : EReal) := by
  have hp : ∑ r ∈ Finset.range n, Real.exp (S r - μ) ≠ 0 := (sum_pos hn fun r => S r - μ).ne'
  rw [Ideal.div_coe hp, ← EReal.coe_sub, Ideal.exp_coe, ← EReal.coe_mul, ← wt_shift hn S μ r]
  congr 1; ring

/-- The difference of two softmax averages, the second scaled, is one sum over the keys. -/
theorem sub_avg (n : ℕ) (S₀ S₁ V : ℕ → ℝ) (lam : ℝ) :
    ((∑ r ∈ Finset.range n, wt n S₀ r * V r : ℝ) : EReal) - (lam : EReal) * ((∑ r ∈ Finset.range n, wt n S₁ r * V r : ℝ) : EReal)
      = ((∑ r ∈ Finset.range n, V r * (wt n S₀ r - lam * wt n S₁ r) : ℝ) : EReal) := by
  rw [← EReal.coe_mul, ← EReal.coe_sub, Finset.mul_sum, ← Finset.sum_sub_distrib]
  congr 1
  exact Finset.sum_congr rfl fun r _ => by ring

/-- A sum over the first `n` keys taken in another cyclic order. -/
theorem sum_rotate {M : Type*} [AddCommMonoid M] (n k : ℕ) (hn : 0 < n) (f : ℕ → M) :
    ∑ t : Fin n, f ((t.val + k) % n) = ∑ r ∈ Finset.range n, f r := by
  haveI : NeZero n := ⟨hn.ne'⟩
  rw [Finset.sum_range]
  refine (Equiv.sum_comp (Equiv.addRight (Fin.ofNat n k)) fun t : Fin n => f t.val).symm.trans ?_ |>.symm
  refine Finset.sum_congr rfl fun t _ => ?_
  simp [Fin.val_add, Fin.ofNat]

/-- A sum over the first `n = a + b` numbers, split at `a`. -/
theorem sum_split {M : Type*} [AddCommMonoid M] (a b n : ℕ) (h : a + b = n) (f : ℕ → M) :
    ∑ r ∈ Finset.range n, f r = ∑ x : Fin a, f x.val + ∑ x : Fin b, f (a + x.val) := by
  subst h
  rw [Finset.sum_range, Fin.sum_univ_add]
  simp

end Cert.Softmax

end
-- ==== Proof.Block.lean ====
/- The kernel's output block at one element, over real scores and values: the two softmax averages of a row, their
   difference, and the normalisation. -/
module

public import proofs.«01_k».proof.Proof.Payloads
public import proofs.«01_k».proof.Proof.Softmax

@[expose] public section

set_option maxRecDepth 16384

noncomputable section

namespace Cert.KernelIdeal.Run

open Idealize.ShloMosaic Idealize.ShloMosaic.TcCoe Idealize.SL.Sem
open Cert.KernelIdeal Cert.KernelIdeal.Gen Cert.Softmax

/-- The blocks hold real scores `S` (of column `j` against key `r`) and real values `V` (of channel `d` at key `r`). -/
structure Holds (x1 : Vec Ideal S2x512x128 .bf16) (x2 : Vec Ideal S16384x128 .bf16) (x3 : Vec Ideal S1x32x128x512 .bf16)
    (x4 : Vec Ideal S256x128 .bf16) (x5 : Vec Ideal S1x1x128x256 .bf16) (S : Fin 1024 → ℕ → ℝ) (V : Fin 128 → ℕ → ℝ) : Prop where
  lat : ∀ (k : Fin k0_t1_loop.trips) (r : Fin 512) j, k0_pay2 (F := Ideal) (k0_pay8 x1) (kChunk x2 k) (ix2 r j) = (S j (512 * k.val + r.val) : EReal)
  vlat : ∀ (k : Fin k0_t1_loop.trips) (d : Fin 128) (r : Fin 512), vChunk x3 k (ix4 0 0 d r) = (V d (512 * k.val + r.val) : EReal)
  ctx : ∀ (r : Fin 256) j, k0_pay14 (F := Ideal) x1 x4 (ix2 r j) = (S j (16384 + r.val) : EReal)
  vctx : ∀ (d : Fin 128) (r : Fin 256), x5 (ix4 0 0 d r) = (V d (16384 + r.val) : EReal)

variable {x0 : Vec Ideal S1x1 .f32} {x1 : Vec Ideal S2x512x128 .bf16} {x2 : Vec Ideal S16384x128 .bf16} {x3 : Vec Ideal S1x32x128x512 .bf16}
  {x4 : Vec Ideal S256x128 .bf16} {x5 : Vec Ideal S1x1x128x256 .bf16} {x6 : Vec Ideal S128x1 .f32} {S : Fin 1024 → ℕ → ℝ} {V : Fin 128 → ℕ → ℝ}

/-- The state after `n` chunks is the state after the first `512 n` keys. -/
theorem seen (h : Holds x1 x2 x3 x4 x5 S V) (n : ℕ) (hn : n ≤ k0_t1_loop.trips) (j : Fin 1024) (d : Fin 128) :
    Seen (512 * n) (S j) (V d) ((st x1 x2 x3 n).1 (ix2 0 j)) ((st x1 x2 x3 n).2.1 (ix2 0 j)) ((st x1 x2 x3 n).2.2 (ix2 d j)) := by
  induction n with
  | zero =>
      obtain ⟨μ, hμ⟩ := pay9_at
      have e : st x1 x2 x3 0 = (k0_pay9, k0_pay10, k0_pay11) := rfl
      rw [e, Nat.mul_zero]
      dsimp only
      rw [hμ, pay10_at, pay11_at]
      exact Seen.zero _ _ _
  | succ n ih =>
      have hs : st x1 x2 x3 (n + 1) = next x1 x2 x3 ⟨n, hn⟩ (st x1 x2 x3 n) := dif_pos hn
      rw [hs, Nat.mul_succ]
      unfold next
      dsimp only
      rw [pay12_eq, pay6_at, pay7_at, pay3_at]
      exact (ih (by omega)).step (fun r => h.lat ⟨n, hn⟩ r j) (fun r => h.vlat ⟨n, hn⟩ d r)

/-- The sums after all keys. -/
theorem seen_end (h : Holds x1 x2 x3 x4 x5 S V) (j : Fin 1024) (d : Fin 128) :
    ∃ m, Seen 16640 (S j) (V d) m (lEnd x1 x4 (st x1 x2 x3 k0_t1_loop.trips) (ix2 0 j)) (accEnd x1 x4 x5 (st x1 x2 x3 k0_t1_loop.trips) (ix2 d j)) := by
  have e : 512 * k0_t1_loop.trips = 16384 := by rw [trips_eq]
  have hs := seen h k0_t1_loop.trips le_rfl j d
  rw [e] at hs
  unfold lEnd accEnd
  rw [pay18_at, pay19_at, pay15_at]
  exact ⟨_, hs.step (fun r => h.ctx r j) (fun r => h.vctx d r)⟩

/-- Row `i`'s difference of the two averages, at channel `d`. -/
def avg (S : Fin 1024 → ℕ → ℝ) (V : Fin 128 → ℕ → ℝ) (lam : ℝ) (i : Fin 512) (d : Fin 128) : ℝ :=
  ∑ r ∈ Finset.range 16640, V d r * (wt 16640 (S ⟨i.val, by omega⟩) r - lam * wt 16640 (S ⟨512 + i.val, by omega⟩) r)

/-- A row normalised: divided by its root mean square (with the reference's small constant), times the gain and the
    constant factor. -/
def norm (o : Fin 128 → ℝ) (g : EReal) (d : Fin 128) : EReal :=
  (o d : EReal) * Ideal.rsqrt (Ideal.div (∑ x, (o x : EReal) * (o x : EReal)) (Ideal.ofBits .f32 1124073472#32) + Ideal.ofBits .f32 897988541#32)
    * (g * Ideal.ofBits .f32 1061997773#32)

/-- The output block at row `i`, channel `d`. -/
theorem out_at (h : Holds x1 x2 x3 x4 x5 S V) {lam : ℝ} (h0 : ∀ z, x0 z = (lam : EReal)) (i : Fin 512) (d : Fin 128) :
    outOf x0 x1 x4 x5 x6 (st x1 x2 x3 k0_t1_loop.trips) (ix2 i d) = norm (avg S V lam i) (x6 (ix2 d 0)) d := by
  have ho : ∀ d, k0_pay21 (F := Ideal) (accEnd x1 x4 x5 (st x1 x2 x3 k0_t1_loop.trips)) (lEnd x1 x4 (st x1 x2 x3 k0_t1_loop.trips)) (lam : EReal) (ix2 d i)
      = (avg S V lam i d : EReal) := fun d => by
    obtain ⟨m₀, s₀⟩ := seen_end h ⟨i.val, by omega⟩ d
    obtain ⟨m₁, s₁⟩ := seen_end h ⟨512 + i.val, by omega⟩ d
    rw [pay21_at, s₀.div (by norm_num), s₁.div (by norm_num), sub_avg]
    rfl
  unfold outOf
  rw [h0, pay1_at, pay22_at]
  simp only [ho]
  rfl

end Cert.KernelIdeal.Run

end
-- ==== Proof.Ref.lean ====
/- The reference's term in stages, each read at one index. -/
module

public import proofs.«01_k».proof.Proof.Gen.ReferenceIdeal.Run
public import proofs.«01_k».proof.Proof.Softmax
public import Idealize.ShloMosaic.Lib.Pointwise

@[expose] public section

set_option maxRecDepth 16384

noncomputable section

namespace Cert.Softmax

open Idealize.ShloMosaic

/-- A maximum over one axis of an array of real numbers, from `-∞`, holds real numbers. -/
theorem reduce_max_real {s t u : Shape} {a : Fin s.rank} {f : FTy} (x : FVec Ideal s f) (g : s.Idx → ℝ)
    (hx : ∀ i, x i = (g i : EReal)) (c : FVec Ideal u f) (h' : s.ReducesTo [a] t) (h : s.Reduces [a] t) (hu : 0 < u.numel)
    (hc : c (Shape.Idx.first hu) = (⊥ : EReal)) (k : Fin (s.size a)) (j : t.Idx) :
    ∃ μ : ℝ, Host.reduce FloatOps.maximumf x c h' hu j = (μ : EReal) := by
  rw [Host.reduce_eq_fold_single FloatOps.maximumf x c h' h hu, hc]
  obtain rfl : x = fun i => (g i : EReal) := funext hx
  exact fold_real Finset.univ (fun k => g (h.lift j k)) k (Finset.mem_univ k)

end Cert.Softmax

namespace Cert.ReferenceIdeal.Value

open Idealize.ShloMosaic Idealize.ShloMosaic.TcCoe Idealize.SL.Sem
open Cert.ReferenceIdeal Cert.ReferenceIdeal.Gen

variable (a0 : FVec Ideal S1x1 .f32) (a1 : FVec Ideal S2x16384x512 .bf16) (a2 : FVec Ideal S16384x512 .bf16) (a3 : FVec Ideal S4x32x128x512 .bf16)
  (a4 : FVec Ideal S256x512 .bf16) (a5 : FVec Ideal S4x1x128x256 .bf16) (a6 : FVec Ideal S128x1 .f32)

/-- The scores. -/
def sc : FVec Ideal S4x2x16384x16640 .f32 :=
  Host.dotGeneral dot_S2x16384x4x128_S16640x4x128_S4x2x16384x16640_3_2_01_0_2_1 none (shapeCast _ (extf .f32 a1 bitsLt_bf16_f32) shapeCasts_S2x16384x512_S2x16384x4x128) (shapeCast _ (extf .f32 (concatenate S16640x512 0 [⟨S256x512, a4⟩, ⟨S16384x512, a2⟩] concatenates_S256x512_S16384x512_S16640x512_d0) bitsLt_bf16_f32) shapeCasts_S16640x512_S16640x4x128)

/-- The maxima of the rows. -/
def top (s : FVec Ideal S4x2x16384x16640 .f32) : FVec Ideal S4x2x16384 .f32 :=
  Host.reduce FloatOps.maximumf s (constant S_ .f32 0xFF800000#32) reducesTo_S4x2x16384x16640_S4x2x16384_d3 h_S_

/-- The rows' maxima, one for each score. -/
def mx (s : FVec Ideal S4x2x16384 .f32) : FVec Ideal S4x2x16384x16640 .f32 :=
  broadcastInDim S4x2x16384x16640 ![0, 1, 2, 3] bcast_S4x2x16384x1_S4x2x16384x16640_0_1_2_3 (broadcastInDim S4x2x16384x1 ![0, 1, 2] bcast_S4x2x16384_S4x2x16384x1_0_1_2 (maximumf (broadcastInDim S4x2x16384 ![] bcast_S_S4x2x16384 (constant S_ .f32 0xFF800000#32)) s))

/-- The shifted exponentials. -/
def ex (s : FVec Ideal S4x2x16384x16640 .f32) : FVec Ideal S4x2x16384x16640 .f32 := Host.exp (subf s (mx (top s)))

/-- The softmax of the scores. -/
def pr (e : FVec Ideal S4x2x16384x16640 .f32) : FVec Ideal S4x2x16384x16640 .f32 :=
  Host.divf e (broadcastInDim S4x2x16384x16640 ![0, 1, 2, 3] bcast_S4x2x16384x1_S4x2x16384x16640_0_1_2_3 (broadcastInDim S4x2x16384x1 ![0, 1, 2] bcast_S4x2x16384_S4x2x16384x1_0_1_2 (Host.reduceAdd e (constant S_ .f32 0x00000000#32) reducesTo_S4x2x16384x16640_S4x2x16384_d3 h_S_)))

/-- The difference of the two softmaxes. -/
def df (p : FVec Ideal S4x2x16384x16640 .f32) : FVec Ideal S4x16384x16640 .f32 :=
  subf (shapeCast _ (extractStridedSlice S4x1x16384x16640 ![0, 0, 0, 0] p slices_S4x2x16384x16640_S4x1x16384x16640_0_0_0_0) shapeCasts_S4x1x16384x16640_S4x16384x16640) (mulf (broadcastInDim S4x16384x16640 ![] bcast_S_S4x16384x16640 (shapeCast _ a0 shapeCasts_S1x1_S_)) (shapeCast _ (extractStridedSlice S4x1x16384x16640 ![0, 1, 0, 0] p slices_S4x2x16384x16640_S4x1x16384x16640_0_1_0_0) shapeCasts_S4x1x16384x16640_S4x16384x16640))

/-- The weighted sums of the values. -/
def av (w : FVec Ideal S4x16384x16640 .f32) : FVec Ideal S16384x4x128 .f32 :=
  transpose S16384x4x128 [2, 0, 1] (Host.dotGeneral dot_S4x16640x128_S4x16384x16640_S4x128x16384_1_2_2_1_0_0 none (concatenate S4x16640x128 1 [⟨S4x256x128, (shapeCast _ (transpose S4x1x256x128 [0, 1, 3, 2] (extf .f32 a5 bitsLt_bf16_f32) transposes_S4x1x128x256_S4x1x256x128_0_1_3_2) shapeCasts_S4x1x256x128_S4x256x128)⟩, ⟨S4x16384x128, (shapeCast _ (transpose S4x32x512x128 [0, 1, 3, 2] (extf .f32 a3 bitsLt_bf16_f32) transposes_S4x32x128x512_S4x32x512x128_0_1_3_2) shapeCasts_S4x32x512x128_S4x16384x128)⟩] concatenates_S4x256x128_S4x16384x128_S4x16640x128_d1) w) transposes_S4x128x16384_S16384x4x128_2_0_1

/-- The normalised heads, with their gain and the constant factor. -/
def nm (o : FVec Ideal S16384x4x128 .f32) : FVec Ideal S16384x512 .f32 :=
  shapeCast _ (mulf (mulf (mulf o (broadcastInDim S16384x4x128 ![0, 1, 2] bcast_S16384x4x1_S16384x4x128_0_1_2 (Host.rsqrt (addf (Host.divf (broadcastInDim S16384x4x1 ![0, 1] bcast_S16384x4_S16384x4x1_0_1 (Host.reduceAdd (mulf o o) (constant S_ .f32 0x00000000#32) reducesTo_S16384x4x128_S16384x4_d2 h_S_)) (broadcastInDim S16384x4x1 ![] bcast_S_S16384x4x1 (constant S_ .f32 0x43000000#32))) (broadcastInDim S16384x4x1 ![] bcast_S_S16384x4x1 (constant S_ .f32 0x358637BD#32)))))) (broadcastInDim S16384x4x128 ![0, 1, 2] bcast_S1x1x128_S16384x4x128_0_1_2 (broadcastInDim S1x1x128 ![2] bcast_S128_S1x1x128_2 (shapeCast _ a6 shapeCasts_S128x1_S128)))) (broadcastInDim S16384x4x128 ![] bcast_S_S16384x4x128 (constant S_ .f32 0x3F4CCCCD#32))) shapeCasts_S16384x4x128_S16384x512

theorem sc_at (h : Fin 4) (c : Fin 2) (i : Fin 16384) (t : Fin 16640) :
    sc a1 a2 a4 (ix4 h c i t) = ∑ x : Fin 128, a1 (ix3 c i ⟨h.val * 128 + x.val, by omega⟩)
      * (if h_1 : t.val < 256 then a4 (ix2 ⟨t.val, h_1⟩ ⟨h.val * 128 + x.val, by omega⟩)
        else a2 (ix2 ⟨t.val - 256, by omega⟩ ⟨h.val * 128 + x.val, by omega⟩)) := by
  pointwise [sc]

theorem mx_at (s : FVec Ideal S4x2x16384 .f32) (h : Fin 4) (c : Fin 2) (i : Fin 16384) (t : Fin 16640) :
    mx s (ix4 h c i t) = max (Ideal.ofBits .f32 0xFF800000#32) (s (ix3 h c i)) := by
  pointwise [mx]

theorem ex_at (s : FVec Ideal S4x2x16384x16640 .f32) (h : Fin 4) (c : Fin 2) (i : Fin 16384) (t : Fin 16640) :
    ex s (ix4 h c i t) = Ideal.exp (s (ix4 h c i t) - mx (top s) (ix4 h c i t)) := by
  pointwise [ex]

theorem pr_at (e : FVec Ideal S4x2x16384x16640 .f32) (h : Fin 4) (c : Fin 2) (i : Fin 16384) (t : Fin 16640) :
    pr e (ix4 h c i t) = Ideal.div (e (ix4 h c i t)) (∑ x : Fin 16640, e (ix4 h c i x)) := by
  pointwise [pr]

theorem df_at (p : FVec Ideal S4x2x16384x16640 .f32) (h : Fin 4) (i : Fin 16384) (t : Fin 16640) :
    df a0 p (ix3 h i t) = p (ix4 h 0 i t) - a0 (ix2 0 0) * p (ix4 h 1 i t) := by
  pointwise [df]

theorem av_at (w : FVec Ideal S4x16384x16640 .f32) (h : Fin 4) (i : Fin 16384) (d : Fin 128) :
    av a3 a5 w (ix3 i h d) = ∑ x : Fin 256, a5 (ix4 h 0 d x) * w (ix3 h i ⟨x.val, by omega⟩)
      + ∑ x : Fin 16384, a3 (ix4 h ⟨x.val / 512, by omega⟩ d ⟨x.val % 512, by omega⟩) * w (ix3 h i ⟨256 + x.val, by omega⟩) := by
  pointwise [av]

theorem nm_at (o : FVec Ideal S16384x4x128 .f32) (i : Fin 16384) (z : Fin 512) :
    nm a6 o (ix2 i z) = o (ix3 i ⟨z.val / 128, by omega⟩ ⟨z.val % 128, by omega⟩) *
          Ideal.rsqrt (Ideal.div (∑ x : Fin 128, o (ix3 i ⟨z.val / 128, by omega⟩ x) * o (ix3 i ⟨z.val / 128, by omega⟩ x))
              (Ideal.ofBits .f32 1124073472#32) + Ideal.ofBits .f32 897988541#32)
        * a6 (ix2 ⟨z.val % 128, by omega⟩ 0) * Ideal.ofBits .f32 1061997773#32 := by
  pointwise [nm]

variable (m : (ℓ : Loc nD τ sig) → Buf (Elt Ideal) ℓ) (c : Dev nD)

set_option maxRecDepth 65536 in
/-- The reference's result is its stages one after another. -/
theorem res_eq : res_main_v50 m c = nm (m ((c.tc : Thread nD τ).loc main_arg6)) (av (m ((c.tc : Thread nD τ).loc main_arg3)) (m ((c.tc : Thread nD τ).loc main_arg5))
    (df (m ((c.tc : Thread nD τ).loc main_arg0)) (pr (ex (sc (m ((c.tc : Thread nD τ).loc main_arg1)) (m ((c.tc : Thread nD τ).loc main_arg2))
      (m ((c.tc : Thread nD τ).loc main_arg4))))))) := by
  unfold res_main_v50 nm av df pr ex mx top sc
  rfl

end Cert.ReferenceIdeal.Value

end
-- ==== Proof.Spec.lean ====
/- What the attention computes, over the real numbers: for every head, query row and value row, the difference of two
   softmax averages of the values. Keys are numbered with the 16384 latent ones first and the 256 context ones after. -/
module

public import proofs.«01_k».proof.Proof.Softmax
public import Idealize.ShloMosaic.Lib.Pointwise

@[expose] public section

noncomputable section

namespace Cert.Spec

open Idealize.ShloMosaic

/-- Element `x` of key `r`. -/
def key (kl : (⟨2, ![16384, 512]⟩ : Shape).Idx → ℝ) (kc : (⟨2, ![256, 512]⟩ : Shape).Idx → ℝ) (r : ℕ) (x : Fin 512) : ℝ :=
  if h : r < 16384 then kl (ix2 ⟨r, h⟩ x) else if h' : r - 16384 < 256 then kc (ix2 ⟨r - 16384, h'⟩ x) else 0

/-- Element `d` of the value at key `r`, in head `h`. -/
def val (vl : (⟨4, ![4, 32, 128, 512]⟩ : Shape).Idx → ℝ) (vc : (⟨4, ![4, 1, 128, 256]⟩ : Shape).Idx → ℝ) (h : Fin 4) (d : Fin 128) (r : ℕ) : ℝ :=
  if g : r < 16384 then vl (ix4 h ⟨r / 512, by omega⟩ d ⟨r % 512, by omega⟩)
  else if g' : r - 16384 < 256 then vc (ix4 h 0 d ⟨r - 16384, g'⟩) else 0

/-- The score of query row `i` (of the first or the second query, `c`) with key `r`, in head `h`. -/
def score (q : (⟨3, ![2, 16384, 512]⟩ : Shape).Idx → ℝ) (kl : (⟨2, ![16384, 512]⟩ : Shape).Idx → ℝ) (kc : (⟨2, ![256, 512]⟩ : Shape).Idx → ℝ)
    (h : Fin 4) (c : Fin 2) (i : Fin 16384) (r : ℕ) : ℝ :=
  ∑ x : Fin 128, key kl kc r ⟨h.val * 128 + x.val, by omega⟩ * q (ix3 c i ⟨h.val * 128 + x.val, by omega⟩)

/-- The difference of the two averages. -/
def out (q : (⟨3, ![2, 16384, 512]⟩ : Shape).Idx → ℝ) (kl : (⟨2, ![16384, 512]⟩ : Shape).Idx → ℝ) (kc : (⟨2, ![256, 512]⟩ : Shape).Idx → ℝ)
    (vl : (⟨4, ![4, 32, 128, 512]⟩ : Shape).Idx → ℝ) (vc : (⟨4, ![4, 1, 128, 256]⟩ : Shape).Idx → ℝ) (lam : ℝ)
    (h : Fin 4) (i : Fin 16384) (d : Fin 128) : ℝ :=
  ∑ r ∈ Finset.range 16640, val vl vc h d r
    * (Softmax.wt 16640 (score q kl kc h 0 i) r - lam * Softmax.wt 16640 (score q kl kc h 1 i) r)

end Cert.Spec

end
-- ==== Proof.RefValue.lean ====
/- The reference's result over finite arguments: the difference of the two softmax averages, normalised. -/
module

public import proofs.«01_k».proof.Proof.Ref
public import proofs.«01_k».proof.Proof.Spec

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

variable {a0 : FVec Ideal S1x1 .f32} {a1 : FVec Ideal S2x16384x512 .bf16} {a2 : FVec Ideal S16384x512 .bf16} {a3 : FVec Ideal S4x32x128x512 .bf16}
  {a4 : FVec Ideal S256x512 .bf16} {a5 : FVec Ideal S4x1x128x256 .bf16}
  {lam : ℝ} {q : S2x16384x512.Idx → ℝ} {kl : S16384x512.Idx → ℝ} {vl : S4x32x128x512.Idx → ℝ} {kc : S256x512.Idx → ℝ} {vc : S4x1x128x256.Idx → ℝ}

theorem ofBits_bot : Ideal.ofBits .f32 0xFF800000#32 = ⊥ := by simp [Ideal.ofBits, Ideal.ieee]

/-- The number of the key that stands at place `t` of the reference's order, which has the context first. -/
abbrev pos (t : Fin 16640) : ℕ := (t.val + 16384) % 16640

theorem sc_real (h1 : ∀ i, a1 i = (q i : EReal)) (h2 : ∀ i, a2 i = (kl i : EReal)) (h4 : ∀ i, a4 i = (kc i : EReal))
    (h : Fin 4) (c : Fin 2) (i : Fin 16384) (t : Fin 16640) :
    sc a1 a2 a4 (ix4 h c i t) = (Spec.score q kl kc h c i (pos t) : EReal) := by
  rw [sc_at, Spec.score, ← Softmax.coe_sum]
  refine Finset.sum_congr rfl fun x _ => ?_
  rw [h1, EReal.coe_mul, mul_comm]
  congr 1
  unfold Spec.key pos
  by_cases ht : t.val < 256
  · have e : (t.val + 16384) % 16640 = t.val + 16384 := by omega
    rw [dif_pos ht, h4, e, dif_neg (by omega), dif_pos (by omega)]
    simp only [Nat.add_sub_cancel]
  · have e : (t.val + 16384) % 16640 = t.val - 256 := by omega
    rw [dif_neg ht, h2]
    simp only [e]
    rw [dif_pos (by omega)]

theorem pr_real (h1 : ∀ i, a1 i = (q i : EReal)) (h2 : ∀ i, a2 i = (kl i : EReal)) (h4 : ∀ i, a4 i = (kc i : EReal))
    (h : Fin 4) (c : Fin 2) (i : Fin 16384) (t : Fin 16640) :
    pr (ex (sc a1 a2 a4)) (ix4 h c i t) = (Softmax.wt 16640 (Spec.score q kl kc h c i) (pos t) : EReal) := by
  obtain ⟨μ, e⟩ : ∃ μ : ℝ, top (sc a1 a2 a4) (ix3 h c i) = (μ : EReal) := by
    refine Softmax.reduce_max_real (a := 3) (sc a1 a2 a4) (fun z => Spec.score q kl kc (z 0) (z 1) (z 2) (pos (z 3))) (fun z => ?_) _ _
      (by decide) _ ?_ ⟨0, by decide⟩ _
    · idx_vars z
      exact sc_real h1 h2 h4 _ _ _ _
    · exact ofBits_bot
  have m : ∀ t, mx (top (sc a1 a2 a4)) (ix4 h c i t) = (μ : EReal) := fun t => by
    rw [mx_at, e, ofBits_bot, max_eq_right bot_le]
  have x : ∀ t, ex (sc a1 a2 a4) (ix4 h c i t) = (Real.exp (Spec.score q kl kc h c i (pos t) - μ) : EReal) := fun t => by
    rw [ex_at, m, sc_real h1 h2 h4, ← EReal.coe_sub, Ideal.exp_coe]
  rw [pr_at, ← Softmax.wt_div (by norm_num) _ μ]
  simp only [x]
  rw [Softmax.coe_sum, Softmax.sum_rotate 16640 16384 (by norm_num) (fun r => Real.exp (Spec.score q kl kc h c i r - μ)),
    ← EReal.coe_sub, Ideal.exp_coe]

theorem av_real (h0 : ∀ i, a0 i = (lam : EReal)) (h1 : ∀ i, a1 i = (q i : EReal)) (h2 : ∀ i, a2 i = (kl i : EReal))
    (h3 : ∀ i, a3 i = (vl i : EReal)) (h4 : ∀ i, a4 i = (kc i : EReal)) (h5 : ∀ i, a5 i = (vc i : EReal))
    (h : Fin 4) (i : Fin 16384) (d : Fin 128) :
    av a3 a5 (df a0 (pr (ex (sc a1 a2 a4)))) (ix3 i h d) = (Spec.out q kl kc vl vc lam h i d : EReal) := by
  have w : ∀ t : Fin 16640, df a0 (pr (ex (sc a1 a2 a4))) (ix3 h i t)
      = ((Softmax.wt 16640 (Spec.score q kl kc h 0 i) (pos t) - lam * Softmax.wt 16640 (Spec.score q kl kc h 1 i) (pos t) : ℝ) : EReal) := fun t => by
    rw [df_at, pr_real h1 h2 h4, pr_real h1 h2 h4, h0, EReal.coe_sub, EReal.coe_mul]
  rw [av_at]
  simp only [w, h3, h5, ← EReal.coe_mul, Softmax.coe_sum, ← EReal.coe_add]
  refine congrArg (fun z : ℝ => (z : EReal)) ?_
  rw [Spec.out, Softmax.sum_split 16384 256 16640 (by norm_num), add_comm]
  refine congrArg₂ (· + ·) (Finset.sum_congr rfl fun x _ => ?_) (Finset.sum_congr rfl fun x _ => ?_)
  · have e : (256 + x.val + 16384) % 16640 = x.val := by omega
    rw [Spec.val, dif_pos x.isLt]
    simp only [pos, e]
  · have e : (x.val + 16384) % 16640 = 16384 + x.val := by omega
    rw [Spec.val, dif_neg (by omega), dif_pos (by omega)]
    simp only [pos, e, Nat.add_sub_cancel_left]

end Cert.ReferenceIdeal.Value

end
-- ==== Proof.Grid.lean ====
/- The attention's result array: every grid point writes the block of one head and 512 query rows, and that block holds the
   reference's values. -/
module

public import proofs.«01_k».proof.Proof.Gen.KernelIdeal.Value
public import proofs.«01_k».proof.Proof.Block
public import proofs.«01_k».proof.Proof.RefValue
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Run

variable (m : (ℓ : Loc nD τ sig) → Buf (Elt Ideal) ℓ)

/-- The blocks' places: the head is `t / 32`, the block of rows `t % 32`. -/
theorem idx : ∀ t : Fin cfg0.N, win0_0.index t = ![0, 0] ∧ win0_1.index t = ![0, t.val % 32, t.val / 32] ∧ win0_2.index t = ![0, t.val / 32]
    ∧ win0_3.index t = ![t.val / 32, 0, 0, 0] ∧ win0_4.index t = ![0, t.val / 32] ∧ win0_5.index t = ![t.val / 32, 0, 0, 0]
    ∧ win0_6.index t = ![0, 0] ∧ win0_7.index t = ![t.val % 32, t.val / 32] :=
  (by decide +kernel : ∀ t : Fin grid0.N, _)

theorem head_lt (t : Fin cfg0.N) : t.val / 32 < 4 := by
  have : t.val < 128 := t.isLt
  omega

/-- The head of grid point `t`. -/
abbrev head (t : Fin cfg0.N) : Fin 4 := ⟨t.val / 32, head_lt t⟩

/-- Row `i` of grid point `t`'s block. -/
abbrev row (t : Fin cfg0.N) (i : ℕ) (hi : i < 512) : Fin 16384 := ⟨t.val % 32 * 512 + i, by omega⟩

variable (c : Dev nD) (t : Fin cfg0.N)

theorem blk0_at (z) : iblk m c 0 t z = m ((c : Thread nD τ).loc main_arg0) (ix2 0 0) := by
  idx_vars z
  blk_ext [iblk, V, idx t]

theorem blk1_at (a : Fin 2) (i : Fin 512) (x : Fin 128) : iblk m c 1 t (ix3 a i x)
    = m ((c : Thread nD τ).loc main_arg1) (ix3 a (row t i.val i.isLt) ⟨(head t).val * 128 + x.val, by omega⟩) := by
  blk_ext [iblk, V, idx t]

theorem blk2_at (r : Fin 16384) (x : Fin 128) : iblk m c 2 t (ix2 r x)
    = m ((c : Thread nD τ).loc main_arg2) (ix2 r ⟨(head t).val * 128 + x.val, by omega⟩) := by
  blk_ext [iblk, V, idx t]

theorem blk3_at (k : Fin 32) (d : Fin 128) (r : Fin 512) : iblk m c 3 t (ix4 0 k d r)
    = m ((c : Thread nD τ).loc main_arg3) (ix4 (head t) k d r) := by
  blk_ext [iblk, V, idx t]

theorem blk4_at (r : Fin 256) (x : Fin 128) : iblk m c 4 t (ix2 r x)
    = m ((c : Thread nD τ).loc main_arg4) (ix2 r ⟨(head t).val * 128 + x.val, by omega⟩) := by
  blk_ext [iblk, V, idx t]

theorem blk5_at (d : Fin 128) (r : Fin 256) : iblk m c 5 t (ix4 0 0 d r)
    = m ((c : Thread nD τ).loc main_arg5) (ix4 (head t) 0 d r) := by
  blk_ext [iblk, V, idx t]

theorem blk6_at (d : Fin 128) : iblk m c 6 t (ix2 d 0) = m ((c : Thread nD τ).loc main_arg6) (ix2 d 0) := by
  blk_ext [iblk, V, idx t]

variable {m c}
variable {lam : ℝ} {q : S2x16384x512.Idx → ℝ} {kl : S16384x512.Idx → ℝ} {vl : S4x32x128x512.Idx → ℝ} {kc : S256x512.Idx → ℝ} {vc : S4x1x128x256.Idx → ℝ}

/-- The scores of one grid point: column `j` is row `j % 512` of query `j / 512`. -/
abbrev scores (q : S2x16384x512.Idx → ℝ) (kl : S16384x512.Idx → ℝ) (kc : S256x512.Idx → ℝ) (t : Fin cfg0.N) (j : Fin 1024) (r : ℕ) : ℝ :=
  Spec.score q kl kc (head t) ⟨j.val / 512, by omega⟩ (row t (j.val % 512) (by omega)) r

/-- The blocks of grid point `t` hold the scores and values of its head and rows. -/
theorem holds (h1 : ∀ i, m ((c : Thread nD τ).loc main_arg1) i = (q i : EReal)) (h2 : ∀ i, m ((c : Thread nD τ).loc main_arg2) i = (kl i : EReal))
    (h3 : ∀ i, m ((c : Thread nD τ).loc main_arg3) i = (vl i : EReal)) (h4 : ∀ i, m ((c : Thread nD τ).loc main_arg4) i = (kc i : EReal))
    (h5 : ∀ i, m ((c : Thread nD τ).loc main_arg5) i = (vc i : EReal)) :
    Holds (iblk m c 1 t) (iblk m c 2 t) (iblk m c 3 t) (iblk m c 4 t) (iblk m c 5 t) (scores q kl kc t) (Spec.val vl vc (head t)) where
  lat k r j := by
    have hk : k.val < 32 := lt_of_lt_of_eq k.isLt trips_eq
    have hr : 512 * k.val + r.val < 16384 := by omega
    rw [pay2_at, scores, Spec.score, ← Softmax.coe_sum]
    refine Finset.sum_congr rfl fun x _ => ?_
    rw [kChunk_at _ _ _ _ hr, blk2_at, blk1_at, h1, h2, EReal.coe_mul, Spec.key, dif_pos hr]
  vlat k d r := by
    have hk : k.val < 32 := lt_of_lt_of_eq k.isLt trips_eq
    have hr : 512 * k.val + r.val < 16384 := by omega
    have e₁ : (512 * k.val + r.val) / 512 = k.val := by omega
    have e₂ : (512 * k.val + r.val) % 512 = r.val := by omega
    rw [vChunk_at _ _ _ _ hk, blk3_at, h3, Spec.val, dif_pos hr]
    simp only [e₁, e₂]
  ctx r j := by
    have hr : 16384 + r.val - 16384 < 256 := by omega
    rw [pay14_at, scores, Spec.score, ← Softmax.coe_sum]
    refine Finset.sum_congr rfl fun x _ => ?_
    rw [blk4_at, blk1_at, h1, h4, EReal.coe_mul, Spec.key, dif_neg (by omega), dif_pos hr]
    simp only [Nat.add_sub_cancel_left]
  vctx d r := by
    have hr : 16384 + r.val - 16384 < 256 := by omega
    rw [blk5_at, h5, Spec.val, dif_neg (by omega), dif_pos hr]
    simp only [Nat.add_sub_cancel_left]

/-- The reference's term over the kernel's arguments. -/
def ref (m : (ℓ : Loc nD τ sig) → Buf (Elt Ideal) ℓ) (c : Dev nD) : FVec Ideal S16384x512 .f32 :=
  ReferenceIdeal.Value.nm (m ((c : Thread nD τ).loc main_arg6)) (ReferenceIdeal.Value.av (m ((c : Thread nD τ).loc main_arg3)) (m ((c : Thread nD τ).loc main_arg5))
    (ReferenceIdeal.Value.df (m ((c : Thread nD τ).loc main_arg0)) (ReferenceIdeal.Value.pr (ReferenceIdeal.Value.ex
      (ReferenceIdeal.Value.sc (m ((c : Thread nD τ).loc main_arg1)) (m ((c : Thread nD τ).loc main_arg2)) (m ((c : Thread nD τ).loc main_arg4)))))))

/-- The block's element at row `i` and channel `d` is the reference's. -/
theorem point_at (h0 : ∀ i, m ((c : Thread nD τ).loc main_arg0) i = (lam : EReal))
    (h1 : ∀ i, m ((c : Thread nD τ).loc main_arg1) i = (q i : EReal)) (h2 : ∀ i, m ((c : Thread nD τ).loc main_arg2) i = (kl i : EReal))
    (h3 : ∀ i, m ((c : Thread nD τ).loc main_arg3) i = (vl i : EReal)) (h4 : ∀ i, m ((c : Thread nD τ).loc main_arg4) i = (kc i : EReal))
    (h5 : ∀ i, m ((c : Thread nD τ).loc main_arg5) i = (vc i : EReal)) (i : Fin 512) (d : Fin 128) :
    outOf (iblk m c 0 t) (iblk m c 1 t) (iblk m c 4 t) (iblk m c 5 t) (iblk m c 6 t)
        (st (iblk m c 1 t) (iblk m c 2 t) (iblk m c 3 t) k0_t1_loop.trips) (ix2 i d)
      = ref m c (ix2 (row t i.val i.isLt) ⟨(head t).val * 128 + d.val, by omega⟩) := by
  have ea : ∀ x, avg (scores q kl kc t) (Spec.val vl vc (head t)) lam i x = Spec.out q kl kc vl vc lam (head t) (row t i.val i.isLt) x := fun x => by
    have s₀ : scores q kl kc t ⟨i.val, by omega⟩ = Spec.score q kl kc (head t) 0 (row t i.val i.isLt) := by
      funext r
      have e₁ : i.val / 512 = 0 := by omega
      have e₂ : i.val % 512 = i.val := by omega
      simp only [scores, row, e₁, e₂]
      rfl
    have s₁ : scores q kl kc t ⟨512 + i.val, by omega⟩ = Spec.score q kl kc (head t) 1 (row t i.val i.isLt) := by
      funext r
      have e₁ : (512 + i.val) / 512 = 1 := by omega
      have e₂ : (512 + i.val) % 512 = i.val := by omega
      simp only [scores, row, e₁, e₂]
      rfl
    rw [avg, Spec.out, s₀, s₁]
  have eh : (⟨((head t).val * 128 + d.val) / 128, by omega⟩ : Fin 4) = head t := Fin.ext (by simp only; omega)
  have ed : (⟨((head t).val * 128 + d.val) % 128, by omega⟩ : Fin 128) = d := Fin.ext (by simp only; omega)
  rw [out_at (holds t h1 h2 h3 h4 h5) (fun z => (blk0_at m c t z).trans (h0 _)), blk6_at, ref, ReferenceIdeal.Value.nm_at]
  unfold Run.norm
  simp only [ea, eh, ed]
  simp only [ReferenceIdeal.Value.av_real h0 h1 h2 h3 h4 h5]
  rw [mul_assoc, mul_assoc, mul_assoc]

/-- The result array after the run. -/
theorem final (h0 : ∀ i, m ((c : Thread nD τ).loc main_arg0) i = (lam : EReal))
    (h1 : ∀ i, m ((c : Thread nD τ).loc main_arg1) i = (q i : EReal)) (h2 : ∀ i, m ((c : Thread nD τ).loc main_arg2) i = (kl i : EReal))
    (h3 : ∀ i, m ((c : Thread nD τ).loc main_arg3) i = (vl i : EReal)) (h4 : ∀ i, m ((c : Thread nD τ).loc main_arg4) i = (kc i : EReal))
    (h5 : ∀ i, m ((c : Thread nD τ).loc main_arg5) i = (vc i : EReal)) :
    (dats m 0 c).arrAt 7 (cfgs 0).N = ref m c := by
  refine (dats m 0 c).arrAt_eq_of_covers 7 _ (by decide +kernel) fun t _ y => ?_
  blk_simp
  rw [after0_7, outsAt0, out_eq]
  idx_vars y
  rw [point_at t h0 h1 h2 h3 h4 h5]
  refine congrArg (ref m c) ?_
  blk_ext [idx t]

end Cert.KernelIdeal.Value

end
-- ==== Proof.Finite.lean ====
/- The precondition read: where it holds, every element of the first six arguments is a real number. -/
module

public import proofs.«01_k».proof.Defs
public import proofs.«01_k».proof.Proof.Gen.Pre_finite
public import Idealize.ShloMosaic.Lib.ReduceAll
public import Idealize.ShloMosaic.PureOps.Ideal.Laws

@[expose] public section

set_option maxRecDepth 16384

noncomputable section

namespace Cert.Pre_finite.Read

open Idealize.ShloMosaic Idealize.ShloMosaic.TcCoe Idealize.SL.Sem
open Cert.Pre_finite Cert.Pre_finite.Gen

/-- A number whose absolute value is below `+∞` is a real number. -/
theorem real_of_abs_lt (x : EReal) (h : max x (-x) < ⊤) : ∃ r : ℝ, x = (r : EReal) := by
  induction x with
  | bot => simp at h
  | top => simp at h
  | coe r => exact ⟨r, rfl⟩

theorem top32 : Ideal.ofBits .f32 0x7F800000#32 = ⊤ := by simp [Ideal.ofBits, Ideal.ieee]
theorem top16 : Ideal.ofBits .bf16 0x7F80#16 = ⊤ := by simp [Ideal.ofBits, Ideal.ieee]

/-- The comparison of an absolute value with a bound that is `+∞`. -/
theorem real_of_cmp {f : FTy} (x b : Ideal f) (hb : b = (⊤ : EReal)) (h : FloatOps.cmpf .olt (FloatOps.hostAbsf x) b = 1#1) :
    ∃ r : ℝ, x = (r : EReal) := by
  subst hb
  refine real_of_abs_lt x ?_
  by_contra hn
  have e : FloatOps.cmpf .olt (FloatOps.hostAbsf x) (⊤ : EReal) = Ideal.cmp .olt (max x (-x)) ⊤ := rfl
  rw [e] at h
  simp [Ideal.cmp, hn] at h

theorem and_left {a b : BitVec 1} (h : IntOp.andi a b = 1#1) : a = 1#1 := by
  revert a b; decide
theorem and_right {a b : BitVec 1} (h : IntOp.andi a b = 1#1) : b = 1#1 := by
  revert a b; decide

instance : Subsingleton S_.Idx := ⟨fun a b => funext fun i => i.elim0⟩

/-- The six arrays. -/
theorem reals (a0 : FVec Ideal S1x1 .f32) (a1 : FVec Ideal S2x16384x512 .bf16) (a2 : FVec Ideal S16384x512 .bf16)
    (a3 : FVec Ideal S4x32x128x512 .bf16) (a4 : FVec Ideal S256x512 .bf16) (a5 : FVec Ideal S4x1x128x256 .bf16) (a6 : FVec Ideal S128x1 .f32)
    (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have e := congrFun h (Shape.Idx.first h_S_)
  unfold fn fn_part1 at e
  dsimp only at e
  have h5 := and_right e
  have e := and_left e
  have h4 := and_right e
  have e := and_left e
  have h3 := and_right e
  have e := and_left e
  have h2 := and_right e
  have e := and_left e
  have h1 := and_right e
  have h0 := and_left e
  exact ⟨fun i => real_of_cmp _ _ top32 (Host.reduce_andi_all _ _ _ _ _ h0 i), fun i => real_of_cmp _ _ top16 (Host.reduce_andi_all _ _ _ _ _ h1 i),
    fun i => real_of_cmp _ _ top16 (Host.reduce_andi_all _ _ _ _ _ h2 i), fun i => real_of_cmp _ _ top16 (Host.reduce_andi_all _ _ _ _ _ h3 i),
    fun i => real_of_cmp _ _ top16 (Host.reduce_andi_all _ _ _ _ _ h4 i), fun i => real_of_cmp _ _ top16 (Host.reduce_andi_all _ _ _ _ _ h5 i)⟩

end Cert.Pre_finite.Read

end
-- ==== Proof.Algebraic.lean ====
/- The value claim: over finite arguments the attention kernel and the reference leave the same array. -/
module

public import proofs.«01_k».proof.Defs
public import proofs.«01_k».proof.Proof.Grid
public import proofs.«01_k».proof.Proof.Finite
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The kernel's result array is the reference's term, where the precondition holds. -/
theorem kernel_final (m : (ℓ : Loc Cert.KernelIdeal.nD Cert.KernelIdeal.τ Cert.KernelIdeal.sig) → Buf (Elt Ideal) ℓ)
    (hp : Cert.Pre_KernelIdeal_finite (hPre_finite := Cert.Pre_finite.Gen.facts) m) (c : Dev Cert.KernelIdeal.nD) :
    (Cert.KernelIdeal.Gen.dats m 0 c).arrAt 7 (Cert.KernelIdeal.cfgs 0).N = Cert.KernelIdeal.Value.ref m c := by
  obtain ⟨h0, h1, h2, h3, h4, h5⟩ := Cert.Pre_finite.Read.reals _ _ _ _ _ _ _ (hp c)
  choose q h1 using h1
  choose kl h2 using h2
  choose vl h3 using h3
  choose kc h4 using h4
  choose vc h5 using h5
  obtain ⟨lam, e0⟩ := h0 (ix2 0 0)
  refine Cert.KernelIdeal.Value.final (lam := lam) (fun i => ?_) h1 h2 h3 h4 h5
  have : i = ix2 0 0 := by
    idx_vars i
    congr 1 <;> exact Subsingleton.elim _ _
  rw [this]
  exact e0

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Gen.run_main m g
  · refine (θ_run _ _ _).mono (fun r h c => ⟨?_, (h c).2⟩) (Cert.ReferenceIdeal.Value.run m' g')
    obtain ⟨g0, g1, g2, g3, g4, g5, g6⟩ := hagree c
    rw [(h c).1, Cert.ReferenceIdeal.Value.res_eq, kernel_final m hpre c, Cert.KernelIdeal.Value.ref, g0, g1, g2, g3, g4, g5, g6]

/-- The reference runs and leaves its arguments as they were; it has no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

end Cert.Proof

end
-- ==== Proof.OutProj.lean ====
/- The output projection: every grid point writes 512 rows of the reference's array. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Claim
public import proofs.«01_k».proof.Defs
public import proofs.«01_k».proof.Proof.Gen.Kernel3
public import Idealize.ShloMosaic.Lib.Quiescent

@[expose] public section

set_option maxRecDepth 16384

noncomputable section

namespace Cert.Kernel3Ideal.Value

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- The reference's term over its four arguments. -/
def ref (a x : FVec Ideal S16384x2048 .f32) (gate : FVec Ideal S1x2048 .f32) (w : FVec Ideal S2048x2048 .f32) : FVec Ideal S16384x2048 .f32 :=
  addf x (mulf (broadcastInDim S16384x2048 ![0, 1] Cert.Reference3Ideal.Gen.bcast_S1x2048_S16384x2048_0_1 gate)
    (Host.dotGeneral Cert.Reference3Ideal.dot_S16384x2048_S2048x2048_S16384x2048_1_0_0_1_n_n none a w))

/-- The blocks' places. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

variable (c : Dev nD)

/-- What grid point `t` stores is the reference's block. -/
theorem point (t : Fin cfg0.N) (y) : k0_pay1 (iblk m c 0 t) (iblk m c 3 t) (iblk m c 1 t) (iblk m c 2 t) y
    = ref (m ((c : Thread nD τ).loc main_arg0)) (m ((c : Thread nD τ).loc main_arg1)) (m ((c : Thread nD τ).loc main_arg2))
        (m ((c : Thread nD τ).loc main_arg3)) (((cfg0.win 4).blk t).view.emb y) := by
  pointwise [k0_pay1, ref]
  blk_point [iblk, V, idx t]

/-- The result array after the run. -/
theorem final : (dats m 0 c).arrAt 4 (cfgs 0).N
    = ref (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]; frame_out
  exact point m c t y

end Cert.Kernel3Ideal.Value

namespace Cert.Proof

open Idealize.ShloMosaic Idealize.ShloMosaic.TcCoe Idealize.SL.Sem

theorem algebraic3 : Cert.algebraic_Kernel3Ideal_Reference3Ideal (hKernel3Ideal := Cert.Kernel3Ideal.Gen.facts)
    (hReference3Ideal := Cert.Reference3Ideal.Gen.facts) := by
  pair_intro
  · run_from Cert.Kernel3Ideal.Gen.run_main m g
  · refine (θ_run _ _ _).mono (fun r h c => ⟨?_, (h c).2⟩) (Cert.Reference3Ideal.Value.run m' g')
    obtain ⟨g0, g1, g2, g3⟩ := hagree c
    rw [(h c).1, Cert.Kernel3Ideal.Value.final m c, Cert.Kernel3Ideal.Value.ref, g0, g1, g2, g3]

theorem frame_reference3 : Cert.quiescent_Reference3Ideal (hReference3Ideal := Cert.Reference3Ideal.Gen.facts) := fun m g _ =>
  (θ_run _ _ _).mono (fun r h => ⟨fun c => (h c).2, sem_eq_zero_of_no_sems rfl r.2⟩) (Cert.Reference3Ideal.Value.run m g)

end Cert.Proof

end
-- ==== Proof.InProjBodyIdeal.lean ====
/- The input projection's body: what it stores at a first column block, and at a later one. -/
module

public import Idealize.ShloMosaic.Lib.VecWindow
public import proofs.«01_k».proof.Proof.Gen.Kernel2Ideal.Frame
public import proofs.«01_k».proof.Proof.Gen.Kernel2Ideal.Skeleton

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a first column block the body stores the normalized rows, their small projection and one block of the main projection. -/
theorem first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x2048 .bf16) (harg10 : arg10.IsWhole) (hc : k0_cond1 i = 1#1)
    (x0 : Vec F S1024x2048 .f32) (x1 : Vec F S1x2048 .f32) (x2 : Vec F S1x2048 .f32) (x3 : Vec F S1x2048 .f32) (x4 : Vec F S2048x512 .bf16) (x5 : Vec F S2048x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 (k0_pay2 x0 x1 x3 x2) x4) ∗ owns (c : Thread nD τ) arg9 fullShare (k0_pay3 x0 x1 x3 x2 x5) ∗ owns (c : Thread nD τ) arg10 fullShare (k0_pay2 x0 x1 x3 x2)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  have e0 := (View.readAt_full arg2.view (harg2.unread x0) inb_S1024x2048_S1024x2048_0_0).trans hf0
  have e1 := (View.readAt_full arg3.view (harg3.unread x1) inb_S1x2048_S1x2048_0_0).trans hf1
  have e2 := (View.readAt_full arg4.view (harg4.unread x2) inb_S1x2048_S1x2048_0_0).trans hf2
  have e3 := (View.readAt_full arg5.view (harg5.unread x3) inb_S1x2048_S1x2048_0_0).trans hf3
  have e4 := (View.readAt_full arg6.view (harg6.unread x4) inb_S2048x512_S2048x512_0_0).trans hf4
  have e5 := (View.readAt_full arg7.view (harg7.unread x5) inb_S2048x128_S2048x128_0_0).trans hf5
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_run_names
    exact (View.read_writes_full _ _ _ _ _).trans (congrArg (fun y => k0_pay4 y x4) (View.readCov_full arg10.view inb_S1024x2048_S1024x2048_0_0 inb_S1024x2048_S1024x2048_0_0 _ []))
  isplitl [H7]
  · iexists _; isplitr
    swap; · iexact H7
    ipureintro
    sl_unfold_run_names
    exact View.read_writes_full _ _ _ _ _
  iexists _; isplitr
  swap; · iexact H8
  ipureintro
  sl_unfold_run_names
  exact View.read_writes_full _ _ _ _ _

set_option maxHeartbeats 1000000 in
/-- At a later column block the body stores one block of the main projection of the rows it finds. -/
theorem later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x128 .bf16) (harg7 : arg7.IsWhole) (arg8 : Memref sig .tc .vmem S1024x512 .f32) (harg8 : arg8.IsWhole) (arg9 : Memref sig .tc .vmem S1024x128 .f32) (harg9 : arg9.IsWhole) (arg10 : Memref sig .tc .vmem S1024x2048 .bf16) (harg10 : arg10.IsWhole) (hc : ¬k0_cond1 i = 1#1)
    (x0 : Vec F S1024x2048 .f32) (x1 : Vec F S1x2048 .f32) (x2 : Vec F S1x2048 .f32) (x3 : Vec F S1x2048 .f32) (x4 : Vec F S2048x512 .bf16) (x5 : Vec F S2048x128 .bf16) (xh : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg10 fullShare xh
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 xh x4) ∗ owns (c : Thread nD τ) arg10 fullShare xh) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8
  have e8 := (View.readAt_full arg10.view (harg10.unread xh) inb_S1024x2048_S1024x2048_0_0).trans hf8
  have e0 := (View.readAt_full arg2.view (harg2.unread x0) inb_S1024x2048_S1024x2048_0_0).trans hf0
  have e1 := (View.readAt_full arg3.view (harg3.unread x1) inb_S1x2048_S1x2048_0_0).trans hf1
  have e2 := (View.readAt_full arg4.view (harg4.unread x2) inb_S1x2048_S1x2048_0_0).trans hf2
  have e3 := (View.readAt_full arg5.view (harg5.unread x3) inb_S1x2048_S1x2048_0_0).trans hf3
  have e4 := (View.readAt_full arg6.view (harg6.unread x4) inb_S2048x512_S2048x512_0_0).trans hf4
  have e5 := (View.readAt_full arg7.view (harg7.unread x5) inb_S2048x128_S2048x128_0_0).trans hf5
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_run_names
    exact View.read_writes_full _ _ _ _ _
  iexists _; isplitr; · ipureintro; exact harg10.read_unread _
  iexact H8

end Cert.Kernel2Ideal.Body

end
-- ==== Proof.InProjRunIdeal.lean ====
/- The input projection's run: the rows normalized at a row block's first point are carried in the scratch through the row block's
   later points, and so is the small projection in its output's buffer, which is written back after the row block's last point. -/
module

public import proofs.«01_k».proof.Proof.InProjBodyIdeal
public import proofs.«01_k».proof.Proof.Gen.Kernel2Ideal.Launch
public import proofs.«01_k».proof.Proof.Gen.Kernel2Ideal.Points
public import Idealize.ShloMosaic.Lib.Pipeline.FrameBody
public import Idealize.ShloMosaic.Lib.Pipeline.TableIdle
public import Idealize.ShloMosaic.Lib.Claim
public import Idealize.ShloMosaic.Lib.Tactic
public import Idealize.ShloMosaic.Lib.WordCmp

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition holds at the first column block of each row block. -/
theorem cond_iff (t : Fin cfg0.N) : k0_cond1 (grid0.coords t) = 1#1 ↔ t.val % 13 = 0 := by
  have ht : t.val < 208 := Nat.lt_of_lt_of_eq t.isLt N_0
  have e0 : (grid0.coords t 0).val = t.val / 13 % 16 := Pipeline.Grid.coords_val t 0 (by decide) rfl
  have e1 : (grid0.coords t 1).val = t.val / 1 % 13 := Pipeline.Grid.coords_val t 1 (by decide) rfl
  simp only [k0_cond1, e0, e1]
  word_cmp

/-- The first point of a point's row block. -/
def base (t : Fin cfg0.N) : Fin cfg0.N := ⟨t.val / 13 * 13, lt_of_le_of_lt (Nat.div_mul_le_self _ _) t.isLt⟩

theorem base_first (t : Fin cfg0.N) (h : t.val % 13 = 0) : base t = t := Fin.ext (by show t.val / 13 * 13 = t.val; omega)

theorem base_later (t : Fin cfg0.N) (h : t.val % 13 ≠ 0) : base t = base ⟨t.val - 1, by omega⟩ :=
  Fin.ext (by show t.val / 13 * 13 = (t.val - 1) / 13 * 13; omega)

/-- The normalized rows of a point's row block. -/
def rows (c : Dev nD) (t : Fin cfg0.N) : Vec F S1024x2048 .bf16 :=
  k0_pay2 (iblk m c 0 (base t)) (iblk m c 1 (base t)) (iblk m c 3 (base t)) (iblk m c 2 (base t))

/-- One block of the main projection. -/
def mainOf (c : Dev nD) (t : Fin cfg0.N) : Vec F S1024x512 .f32 := k0_pay4 (rows m c t) (iblk m c 4 t)

/-- The small projection of a point's row block. -/
def smallOf (c : Dev nD) (t : Fin cfg0.N) : Vec F S1024x128 .f32 :=
  k0_pay3 (iblk m c 0 (base t)) (iblk m c 1 (base t)) (iblk m c 3 (base t)) (iblk m c 2 (base t)) (iblk m c 5 (base t))

theorem rows_later (c : Dev nD) (t : Fin cfg0.N) (h : t.val % 13 ≠ 0) : rows m c t = rows m c ⟨t.val - 1, by omega⟩ := by
  unfold rows; rw [base_later t h]

theorem smallOf_later (c : Dev nD) (t : Fin cfg0.N) (h : t.val % 13 ≠ 0) : smallOf m c t = smallOf m c ⟨t.val - 1, by omega⟩ := by
  unfold smallOf; rw [base_later t h]

/-- The scratch buffer. -/
abbrev scr : Memref sig .tc .vmem S1024x2048 .bf16 := Memref.whole cc0_scratch0

theorem scoped_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- What is held between points: before the first, the scratch at anything; afterwards at the rows of the point before. -/
def held (c : Dev nD) : (n : ℕ) → n ≤ cfg0.N → sProp 𝕄
  | 0, _ => Pipeline.ΦA spec0 c
  | n + 1, hn => iprop(owns (c : Thread nD τ) scr fullShare (rows m c ⟨n, hn⟩) ∗ (∃ r, prngReg c r))

theorem held_pos (c : Dev nD) (n : ℕ) (h : n ≤ cfg0.N) (hz : n ≠ 0) :
    held m c n h = iprop(owns (c : Thread nD τ) scr fullShare (rows m c ⟨n - 1, by omega⟩) ∗ (∃ r, prngReg c r)) := by
  cases n with
  | zero => exact absurd rfl hz
  | succ n => rfl

/-- Forgetting what the scratch holds. -/
theorem held_forget (c : Dev nD) (n : ℕ) (h : n ≤ cfg0.N) : held m c n h ⊢ Pipeline.ΦA spec0 c := by
  cases n with
  | zero => exact Idealize.SL.BI.Entails.refl _
  | succ n =>
    rw [scoped_eq]
    show iprop(owns (c : Thread nD τ) scr fullShare (rows m c ⟨n, h⟩) ∗ (∃ r, prngReg c r)) ⊢ _
    iintro ⟨HS, Hg⟩
    isplitl [HS]
    · iexists _; iexact HS
    iexact Hg

/-- The pipeline's data: the inputs' blocks, the two projections, what is held between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => mainOf m c t
    | ⟨7, _⟩ => smallOf m c t
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) : (dats m 0 c).Φ t.castSucc = held m c t.val (Nat.le_of_lt t.isLt) := by
  dsimp only [dats]; exact Pipeline.Dat.Φ_castSucc (held m c) t

/-- Before any point the scratch is held at something. -/
theorem held_start (c : Dev nD) (t : Fin cfg0.N) :
    (dats m 0 c).Φ t.castSucc ⊢ iprop(iprop((∃ d, owns (c : Thread nD τ) scr fullShare d)) ∗ (∃ r, prngReg c r)) := by
  rw [held_castSucc m c t, ← scoped_eq]; exact held_forget m c _ _

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = mainOf m c t := by dsimp only [dats]
theorem after_7 (c : Dev nD) (t : Fin cfg0.N) : (dats m 0 c).after 7 t = smallOf m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)

/-- The small output's buffer is idle at the later column blocks. -/
theorem idle_iff : ∀ t : Fin cfg0.N, cfg0.idle 7 (grid0.coords t) = !(decide (t.val % 13 = 0)) := by decide +kernel

theorem fresh_step : ∀ t : Fin cfg0.N,
    decide ((t.val + 1) % 13 = 0) = ((cfg0.win 7).flush t || (cfg0.idle 7 (cfg0.grid.coords t) && decide (t.val % 13 = 0))) := by decide +kernel

theorem fresh_eq (t : Fin cfg0.N) : cfg0.fresh 7 t.val = decide (t.val % 13 = 0) :=
  Pipeline.Cfg.fresh_tab cfg0 7 (fun n => decide (n % 13 = 0)) rfl fresh_step t.val (Nat.le_of_lt t.isLt)

/-- At a later column block the small output's buffer still holds the row block's small projection. -/
theorem small_found (c : Dev nD) (t : Fin cfg0.N) (h : t.val % 13 ≠ 0) (d) : (dats m 0 c).before 7 t d = smallOf m c t := by
  rw [Dat.before_out_traj _ 7 rfl (fun _ _ => rfl) (fun t _ hi _ => by
      rw [idle_iff t] at hi
      have h : t.val % 13 ≠ 0 := by simpa using hi
      rw [after_7, after_7, smallOf_later m c t h]) t.val t rfl d,
    if_neg (by rw [fresh_eq t]; simpa using h), after_7, ← smallOf_later m c t h]

/-- What the body leaves in the small output's buffer, at any point. -/
theorem leaves_small (c : Dev nD) (t : Fin cfg0.N) :
    owns (c : Thread nD τ) (ms0_7 t) fullShare (smallOf m c t) ⊢ (dats m 0 c).leavesExact 7 t := by
  unfold Dat.leavesExact
  rw [idle_iff t]
  by_cases h : t.val % 13 = 0
  · rw [decide_eq_true h, after_7]; exact Idealize.SL.BI.Entails.refl _
  · rw [decide_eq_false h]
    cases hf : (cfg0.win 7).flush t
    · simp only [small_found m c t h]
      show _ ⊢ iprop(∃ _d, owns (c : Thread nD τ) (ms0_7 t) fullShare (smallOf m c t))
      iintro H
      iexists (smallOf m c t)
      iexact H
    · simp only [after_7]; exact Idealize.SL.BI.Entails.refl _

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves_0 (c : Dev nD) (t : Fin cfg0.N) : (dats m 0 c).leavesExact 0 t = owns (c : Thread nD τ) (ms0_0 t) fullShare (iblk m c 0 t) := by
  rw [← after_0 m c t]
theorem leaves_1 (c : Dev nD) (t : Fin cfg0.N) : (dats m 0 c).leavesExact 1 t = owns (c : Thread nD τ) (ms0_1 t) fullShare (iblk m c 1 t) := by
  rw [← after_1 m c t]
theorem leaves_2 (c : Dev nD) (t : Fin cfg0.N) : (dats m 0 c).leavesExact 2 t = owns (c : Thread nD τ) (ms0_2 t) fullShare (iblk m c 2 t) := by
  rw [← after_2 m c t]
theorem leaves_3 (c : Dev nD) (t : Fin cfg0.N) : (dats m 0 c).leavesExact 3 t = owns (c : Thread nD τ) (ms0_3 t) fullShare (iblk m c 3 t) := by
  rw [← after_3 m c t]
theorem leaves_4 (c : Dev nD) (t : Fin cfg0.N) : (dats m 0 c).leavesExact 4 t = owns (c : Thread nD τ) (ms0_4 t) fullShare (iblk m c 4 t) := by
  rw [← after_4 m c t]
theorem leaves_5 (c : Dev nD) (t : Fin cfg0.N) : (dats m 0 c).leavesExact 5 t = owns (c : Thread nD τ) (ms0_5 t) fullShare (iblk m c 5 t) := by
  rw [← after_5 m c t]
theorem leaves_6 (c : Dev nD) (t : Fin cfg0.N) : (dats m 0 c).leavesExact 6 t = owns (c : Thread nD τ) (ms0_6 t) fullShare (mainOf m c t) := by
  rw [← after_6 m c t]

set_option maxHeartbeats 3200000 in
/-- The body at a point. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = iprop(owns (c : Thread nD τ) scr fullShare (rows m c t) ∗ (∃ r, prngReg c r)) from rfl]
  rw [leaves_0, leaves_1, leaves_2, leaves_3, leaves_4, leaves_5, leaves_6]
  by_cases h : t.val % 13 = 0
  · refine BIBase.Entails.trans (sep_mono (held_start m c t) .rfl) ?_
    have hm : mainOf m c t = k0_pay4 (k0_pay2 (iblk m c 0 t) (iblk m c 1 t) (iblk m c 3 t) (iblk m c 2 t)) (iblk m c 4 t) := by
      unfold mainOf rows; rw [base_first t h]
    have hr : rows m c t = k0_pay2 (iblk m c 0 t) (iblk m c 1 t) (iblk m c 3 t) (iblk m c 2 t) := by
      unfold rows; rw [base_first t h]
    have hs : smallOf m c t = k0_pay3 (iblk m c 0 t) (iblk m c 1 t) (iblk m c 3 t) (iblk m c 2 t) (iblk m c 5 t) := by
      unfold smallOf; rw [base_first t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (first c (grid0.coords t) _ _ _ _ _ _ _ _ _ _ _ _ _ _ _ _ _ _ ((cond_iff t).mpr h) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]
      · rw [hr]; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · rw [hm]; iexact H6
    iapply (leaves_small m c t)
    rw [hs]; iexact H7
  · rw [held_castSucc m c t, held_pos m c t.val _ (fun hz => h (by rw [hz])), ← rows_later m c t h]
    simp only [small_found m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (later c (grid0.coords t) _ _ _ _ _ _ _ _ _ _ _ _ _ _ (ms0_7 t) (hs0_7 t) _ _ (fun hh => h ((cond_iff t).mp hh)) (iblk m c 0 t) (iblk m c 1 t) (iblk m c 2 t) (iblk m c 3 t) (iblk m c 4 t) (iblk m c 5 t) (rows m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves_small m c t)
    iexact H7

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_at m c t) rfl .rfl fun _ => .rfl

theorem held_in (c : Dev nD) : Pipeline.ΦA spec0 c ⊢ (dats m 0 c).Φ 0 := by
  rw [show (dats m 0 c).Φ 0 = Pipeline.ΦA spec0 c from rfl]

theorem held_out (c : Dev nD) : (dats m 0 c).Φ (Fin.last cfg0.N) ⊢ Pipeline.ΦA spec0 c := by
  rw [show (dats m 0 c).Φ (Fin.last cfg0.N) = held m c (Fin.last cfg0.N).val (Nat.le_of_lt_succ (Fin.last cfg0.N).isLt) from rfl]
  exact held_forget m c _ _

set_option backward.isDefEq.respectTransparency.types false in
/-- The launch: it ends, with the arrays the pipeline computes and every counter at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := held_in m) (hout := held_out m)

theorem run_main : θ_run defs (onTc (τ := τ) (main (F := F))) (s₀ m ρ) (Pipeline.FramePost cfgs (dats m) 0 (V m)) :=
  (θ_run defs _ _).mono (fun _ h => h.1) (run m ρ)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run m ρ))

end Cert.Kernel2Ideal.Body

end
-- ==== Proof.InProjColumns.lean ====
/- The columns of the input projection: both programs regroup the same columns, the kernel those of the weights, the reference those of
   the product. -/
module

public import proofs.«01_k».proof.Proof.InProjRunIdeal
public import proofs.«01_k».proof.Proof.Gen.Reference2Ideal.Run
public import Idealize.ShloMosaic.Lib.Pipeline.ValueKit

@[expose] public section

set_option maxRecDepth 16384

noncomputable section

namespace Cert.Kernel2Ideal.Body

open Idealize.ShloMosaic Idealize.ShloMosaic.TcCoe Idealize.SL.Sem

/-- The column of the input weights a column of the main projection comes from. -/
def colMain (j : Fin 6656) : Fin 6720 :=
  ⟨if j.val < 2048 then j.val else if j.val < 5120 then j.val + 32 else j.val + 64, by have := j.isLt; split_ifs <;> omega⟩

/-- The column of the input weights a column of the small projection comes from, for the first 64. -/
def colSmall (j : Fin 128) : Fin 6720 :=
  ⟨if j.val < 32 then j.val + 2048 else j.val + 5120, by have := j.isLt; split_ifs <;> omega⟩

/-- The main projection's weights. -/
def weightsMain (w : FVec Ideal Cert.Kernel2Ideal.S2048x6720 .f32) : FVec Ideal Cert.Kernel2Ideal.S2048x6656 .f32 :=
  concatenate Cert.Kernel2Ideal.S2048x6656 1
    [⟨Cert.Kernel2Ideal.S2048x1536, extractStridedSlice Cert.Kernel2Ideal.S2048x1536 ![0, 0] w Cert.Kernel2Ideal.Gen.slices_S2048x6720_S2048x1536_0_0⟩,
     ⟨Cert.Kernel2Ideal.S2048x512, extractStridedSlice Cert.Kernel2Ideal.S2048x512 ![0, 1536] w Cert.Kernel2Ideal.Gen.slices_S2048x6720_S2048x512_0_1536⟩,
     ⟨Cert.Kernel2Ideal.S2048x512, extractStridedSlice Cert.Kernel2Ideal.S2048x512 ![0, 2080] w Cert.Kernel2Ideal.Gen.slices_S2048x6720_S2048x512_0_2080⟩,
     ⟨Cert.Kernel2Ideal.S2048x512, extractStridedSlice Cert.Kernel2Ideal.S2048x512 ![0, 2592] w Cert.Kernel2Ideal.Gen.slices_S2048x6720_S2048x512_0_2592⟩,
     ⟨Cert.Kernel2Ideal.S2048x512, extractStridedSlice Cert.Kernel2Ideal.S2048x512 ![0, 3104] w Cert.Kernel2Ideal.Gen.slices_S2048x6720_S2048x512_0_3104⟩,
     ⟨Cert.Kernel2Ideal.S2048x256, extractStridedSlice Cert.Kernel2Ideal.S2048x256 ![0, 3616] w Cert.Kernel2Ideal.Gen.slices_S2048x6720_S2048x256_0_3616⟩,
     ⟨Cert.Kernel2Ideal.S2048x256, extractStridedSlice Cert.Kernel2Ideal.S2048x256 ![0, 3872] w Cert.Kernel2Ideal.Gen.slices_S2048x6720_S2048x256_0_3872⟩,
     ⟨Cert.Kernel2Ideal.S2048x512, extractStridedSlice Cert.Kernel2Ideal.S2048x512 ![0, 4128] w Cert.Kernel2Ideal.Gen.slices_S2048x6720_S2048x512_0_4128⟩,
     ⟨Cert.Kernel2Ideal.S2048x512, extractStridedSlice Cert.Kernel2Ideal.S2048x512 ![0, 4640] w Cert.Kernel2Ideal.Gen.slices_S2048x6720_S2048x512_0_4640⟩,
     ⟨Cert.Kernel2Ideal.S2048x512, extractStridedSlice Cert.Kernel2Ideal.S2048x512 ![0, 5184] w Cert.Kernel2Ideal.Gen.slices_S2048x6720_S2048x512_0_5184⟩,
     ⟨Cert.Kernel2Ideal.S2048x512, extractStridedSlice Cert.Kernel2Ideal.S2048x512 ![0, 5696] w Cert.Kernel2Ideal.Gen.slices_S2048x6720_S2048x512_0_5696⟩,
     ⟨Cert.Kernel2Ideal.S2048x512, extractStridedSlice Cert.Kernel2Ideal.S2048x512 ![0, 6208] w Cert.Kernel2Ideal.Gen.slices_S2048x6720_S2048x512_0_6208⟩]
    Cert.Kernel2Ideal.Gen.concatenates_S2048x1536_S2048x512_S2048x512_S2048x512_S2048x512_S2048x256_S2048x256_S2048x512_S2048x512_S2048x512_S2048x512_S2048x512_S2048x6656_d1

/-- The small projection's weights, before the padding. -/
def weightsSmall (w : FVec Ideal Cert.Kernel2Ideal.S2048x6720 .f32) : FVec Ideal Cert.Kernel2Ideal.S2048x64 .f32 :=
  concatenate Cert.Kernel2Ideal.S2048x64 1
    [⟨Cert.Kernel2Ideal.S2048x16, extractStridedSlice Cert.Kernel2Ideal.S2048x16 ![0, 2048] w Cert.Kernel2Ideal.Gen.slices_S2048x6720_S2048x16_0_2048⟩,
     ⟨Cert.Kernel2Ideal.S2048x16, extractStridedSlice Cert.Kernel2Ideal.S2048x16 ![0, 2064] w Cert.Kernel2Ideal.Gen.slices_S2048x6720_S2048x16_0_2064⟩,
     ⟨Cert.Kernel2Ideal.S2048x32, extractStridedSlice Cert.Kernel2Ideal.S2048x32 ![0, 5152] w Cert.Kernel2Ideal.Gen.slices_S2048x6720_S2048x32_0_5152⟩]
    Cert.Kernel2Ideal.Gen.concatenates_S2048x16_S2048x16_S2048x32_S2048x64_d1

/-- The main columns of a product. -/
def columnsMain (p : FVec Ideal Cert.Reference2Ideal.S16384x6720 .f32) : FVec Ideal Cert.Reference2Ideal.S16384x6656 .f32 :=
  concatenate Cert.Reference2Ideal.S16384x6656 1
    [⟨Cert.Reference2Ideal.S16384x1536, extractStridedSlice Cert.Reference2Ideal.S16384x1536 ![0, 0] p Cert.Reference2Ideal.Gen.slices_S16384x6720_S16384x1536_0_0⟩,
     ⟨Cert.Reference2Ideal.S16384x512, extractStridedSlice Cert.Reference2Ideal.S16384x512 ![0, 1536] p Cert.Reference2Ideal.Gen.slices_S16384x6720_S16384x512_0_1536⟩,
     ⟨Cert.Reference2Ideal.S16384x512, extractStridedSlice Cert.Reference2Ideal.S16384x512 ![0, 2080] p Cert.Reference2Ideal.Gen.slices_S16384x6720_S16384x512_0_2080⟩,
     ⟨Cert.Reference2Ideal.S16384x512, extractStridedSlice Cert.Reference2Ideal.S16384x512 ![0, 2592] p Cert.Reference2Ideal.Gen.slices_S16384x6720_S16384x512_0_2592⟩,
     ⟨Cert.Reference2Ideal.S16384x512, extractStridedSlice Cert.Reference2Ideal.S16384x512 ![0, 3104] p Cert.Reference2Ideal.Gen.slices_S16384x6720_S16384x512_0_3104⟩,
     ⟨Cert.Reference2Ideal.S16384x256, extractStridedSlice Cert.Reference2Ideal.S16384x256 ![0, 3616] p Cert.Reference2Ideal.Gen.slices_S16384x6720_S16384x256_0_3616⟩,
     ⟨Cert.Reference2Ideal.S16384x256, extractStridedSlice Cert.Reference2Ideal.S16384x256 ![0, 3872] p Cert.Reference2Ideal.Gen.slices_S16384x6720_S16384x256_0_3872⟩,
     ⟨Cert.Reference2Ideal.S16384x512, extractStridedSlice Cert.Reference2Ideal.S16384x512 ![0, 4128] p Cert.Reference2Ideal.Gen.slices_S16384x6720_S16384x512_0_4128⟩,
     ⟨Cert.Reference2Ideal.S16384x512, extractStridedSlice Cert.Reference2Ideal.S16384x512 ![0, 4640] p Cert.Reference2Ideal.Gen.slices_S16384x6720_S16384x512_0_4640⟩,
     ⟨Cert.Reference2Ideal.S16384x512, extractStridedSlice Cert.Reference2Ideal.S16384x512 ![0, 5184] p Cert.Reference2Ideal.Gen.slices_S16384x6720_S16384x512_0_5184⟩,
     ⟨Cert.Reference2Ideal.S16384x512, extractStridedSlice Cert.Reference2Ideal.S16384x512 ![0, 5696] p Cert.Reference2Ideal.Gen.slices_S16384x6720_S16384x512_0_5696⟩,
     ⟨Cert.Reference2Ideal.S16384x512, extractStridedSlice Cert.Reference2Ideal.S16384x512 ![0, 6208] p Cert.Reference2Ideal.Gen.slices_S16384x6720_S16384x512_0_6208⟩]
    Cert.Reference2Ideal.Gen.concatenates_S16384x1536_S16384x512_S16384x512_S16384x512_S16384x512_S16384x256_S16384x256_S16384x512_S16384x512_S16384x512_S16384x512_S16384x512_S16384x6656_d1

/-- The small columns of a product, zeros after them. -/
def columnsSmall (p : FVec Ideal Cert.Reference2Ideal.S16384x6720 .f32) : FVec Ideal Cert.Reference2Ideal.S16384x128 .f32 :=
  concatenate Cert.Reference2Ideal.S16384x128 1
    [⟨Cert.Reference2Ideal.S16384x16, extractStridedSlice Cert.Reference2Ideal.S16384x16 ![0, 2048] p Cert.Reference2Ideal.Gen.slices_S16384x6720_S16384x16_0_2048⟩,
     ⟨Cert.Reference2Ideal.S16384x16, extractStridedSlice Cert.Reference2Ideal.S16384x16 ![0, 2064] p Cert.Reference2Ideal.Gen.slices_S16384x6720_S16384x16_0_2064⟩,
     ⟨Cert.Reference2Ideal.S16384x32, extractStridedSlice Cert.Reference2Ideal.S16384x32 ![0, 5152] p Cert.Reference2Ideal.Gen.slices_S16384x6720_S16384x32_0_5152⟩,
     ⟨Cert.Reference2Ideal.S16384x64, broadcastInDim Cert.Reference2Ideal.S16384x64 ![] Cert.Reference2Ideal.Gen.bcast_S_S16384x64 (constant (F := Ideal) Cert.Reference2Ideal.S_ .f32 0x00000000#32)⟩]
    Cert.Reference2Ideal.Gen.concatenates_S16384x16_S16384x16_S16384x32_S16384x64_S16384x128_d1

theorem colMain_eq (j : Fin 6656) (v : ℕ) (h : (j.val < 2048 ∧ v = j.val) ∨ (2048 ≤ j.val ∧ j.val < 5120 ∧ v = j.val + 32) ∨ (5120 ≤ j.val ∧ v = j.val + 64)) :
    v = (colMain j).val := by
  show v = if j.val < 2048 then j.val else if j.val < 5120 then j.val + 32 else j.val + 64
  split_ifs <;> omega

theorem colSmall_eq (j : Fin 128) (v : ℕ) (h : (j.val < 32 ∧ v = j.val + 2048) ∨ (32 ≤ j.val ∧ v = j.val + 5120)) :
    v = (colSmall j).val := by
  show v = if j.val < 32 then j.val + 2048 else j.val + 5120
  split_ifs <;> omega

theorem same {n : ℕ} (w : (⟨2, ![n, 6720]⟩ : Shape).Idx → EReal) (i : Fin n) (a b : Fin 6720) (h : a.val = b.val) : w (ix2 i a) = w (ix2 i b) :=
  congrArg w (congrArg (ix2 i) (Fin.ext h))

theorem either {α : Type} {p : Prop} [Decidable p] {a : p → α} {b : ¬p → α} {z : α} (ha : ∀ h, a h = z) (hb : ∀ h, b h = z) : dite p a b = z := by
  by_cases h : p
  · rw [dif_pos h]; exact ha h
  · rw [dif_neg h]; exact hb h

theorem weightsMain_at (w : FVec Ideal Cert.Kernel2Ideal.S2048x6720 .f32) (i : Fin 2048) (j : Fin 6656) : weightsMain w (ix2 i j) = w (ix2 i (colMain j)) := by
  pointwise [weightsMain]
  have := j.isLt
  refine either (fun h => same w i _ _ (colMain_eq _ _ (by dsimp only; omega))) fun h => ?_
  refine either (fun h => same w i _ _ (colMain_eq _ _ (by dsimp only; omega))) fun h => ?_
  refine either (fun h => same w i _ _ (colMain_eq _ _ (by dsimp only; omega))) fun h => ?_
  refine either (fun h => same w i _ _ (colMain_eq _ _ (by dsimp only; omega))) fun h => ?_
  refine either (fun h => same w i _ _ (colMain_eq _ _ (by dsimp only; omega))) fun h => ?_
  refine either (fun h => same w i _ _ (colMain_eq _ _ (by dsimp only; omega))) fun h => ?_
  refine either (fun h => same w i _ _ (colMain_eq _ _ (by dsimp only; omega))) fun h => ?_
  refine either (fun h => same w i _ _ (colMain_eq _ _ (by dsimp only; omega))) fun h => ?_
  refine either (fun h => same w i _ _ (colMain_eq _ _ (by dsimp only; omega))) fun h => ?_
  refine either (fun h => same w i _ _ (colMain_eq _ _ (by dsimp only; omega))) fun h => ?_
  refine either (fun h => same w i _ _ (colMain_eq _ _ (by dsimp only; omega))) fun h => ?_
  exact same w i _ _ (colMain_eq _ _ (by dsimp only; omega))

theorem columnsMain_at (p : FVec Ideal Cert.Reference2Ideal.S16384x6720 .f32) (i : Fin 16384) (j : Fin 6656) : columnsMain p (ix2 i j) = p (ix2 i (colMain j)) := by
  pointwise [columnsMain]
  have := j.isLt
  refine either (fun h => same p i _ _ (colMain_eq _ _ (by dsimp only; omega))) fun h => ?_
  refine either (fun h => same p i _ _ (colMain_eq _ _ (by dsimp only; omega))) fun h => ?_
  refine either (fun h => same p i _ _ (colMain_eq _ _ (by dsimp only; omega))) fun h => ?_
  refine either (fun h => same p i _ _ (colMain_eq _ _ (by dsimp only; omega))) fun h => ?_
  refine either (fun h => same p i _ _ (colMain_eq _ _ (by dsimp only; omega))) fun h => ?_
  refine either (fun h => same p i _ _ (colMain_eq _ _ (by dsimp only; omega))) fun h => ?_
  refine either (fun h => same p i _ _ (colMain_eq _ _ (by dsimp only; omega))) fun h => ?_
  refine either (fun h => same p i _ _ (colMain_eq _ _ (by dsimp only; omega))) fun h => ?_
  refine either (fun h => same p i _ _ (colMain_eq _ _ (by dsimp only; omega))) fun h => ?_
  refine either (fun h => same p i _ _ (colMain_eq _ _ (by dsimp only; omega))) fun h => ?_
  refine either (fun h => same p i _ _ (colMain_eq _ _ (by dsimp only; omega))) fun h => ?_
  exact same p i _ _ (colMain_eq _ _ (by dsimp only; omega))

theorem weightsSmall_at (w : FVec Ideal Cert.Kernel2Ideal.S2048x6720 .f32) (i : Fin 2048) (j : Fin 64) :
    weightsSmall w (ix2 i j) = w (ix2 i (colSmall ⟨j.val, by omega⟩)) := by
  pointwise [weightsSmall]
  have := j.isLt
  refine either (fun h => same w i _ _ (colSmall_eq _ _ (by dsimp only; omega))) fun h => ?_
  refine either (fun h => same w i _ _ (colSmall_eq _ _ (by dsimp only; omega))) fun h => ?_
  exact same w i _ _ (colSmall_eq _ _ (by dsimp only; omega))

theorem columnsSmall_at (p : FVec Ideal Cert.Reference2Ideal.S16384x6720 .f32) (i : Fin 16384) (j : Fin 128) :
    columnsSmall p (ix2 i j) = if j.val < 64 then p (ix2 i (colSmall j)) else 0 := by
  by_cases h : j.val < 64
  · rw [if_pos h]
    pointwise [columnsSmall]
    have := j.isLt
    refine either (fun h => same p i _ _ (colSmall_eq _ _ (by dsimp only; omega))) fun h => ?_
    refine either (fun h => same p i _ _ (colSmall_eq _ _ (by dsimp only; omega))) fun h => ?_
    rw [dif_pos (by omega)]
    exact same p i _ _ (colSmall_eq _ _ (by dsimp only; omega))
  · rw [if_neg h]
    pointwise [columnsSmall]
    have := j.isLt
    rw [dif_neg (by omega), dif_neg (by omega), dif_neg (by omega)]

end Cert.Kernel2Ideal.Body

end
-- ==== Proof.InProjValue.lean ====
/- The input projection: every grid point writes one block of each of the reference's arrays. -/
module

public import proofs.«01_k».proof.Proof.InProjColumns
public import proofs.«01_k».proof.Defs
public import proofs.«01_k».proof.Proof.Gen.Kernel2
public import Idealize.ShloMosaic.Lib.Quiescent
public import Idealize.ShloMosaic.Lib.Claim

@[expose] public section

set_option maxRecDepth 16384

noncomputable section

namespace Cert.Kernel2Ideal.Body

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ) (c : Dev nD)

/-- The blocks' places. -/
theorem idx : ∀ t : Fin cfg0.N, win0_0.index t = ![t.val / 13, 0] ∧ win0_1.index t = ![0, 0] ∧ win0_2.index t = ![0, 0]
    ∧ win0_3.index t = ![0, 0] ∧ win0_4.index t = ![0, t.val % 13] ∧ win0_5.index t = ![0, 0]
    ∧ win0_6.index t = ![t.val / 13, t.val % 13] ∧ win0_7.index t = ![t.val / 13, 0] :=
  (by decide +kernel : ∀ t : Fin grid0.N, _)

theorem entry_main : V m c main_v18 = truncf .bf16 (weightsMain (m ((c : Thread nD τ).loc main_arg4))) bitsLt_bf16_f32 := by
  entry_read
  rfl

theorem entry_small : V m c main_v19 = truncf .bf16 (pad S2048x128 ![0, 0] ![0, 64] ![0, 0] (weightsSmall (m ((c : Thread nD τ).loc main_arg4)))
    (sitofp (F := Ideal) .f32 (constantI S_ 32 0#32)) pads_S2048x64_S2048x128_000_0640 h_S_) bitsLt_bf16_f32 := by
  entry_read
  rfl

/-- A block of the main weights. -/
theorem block_main (t : Fin cfg0.N) (k : Fin 2048) (j : Fin 512) :
    iblk m c 4 t (ix2 k j) = m ((c : Thread nD τ).loc main_arg4) (ix2 k (colMain ⟨t.val % 13 * 512 + j.val, by have := j.isLt; have := Nat.mod_lt t.val (show 13 > 0 by decide); omega⟩)) := by
  refine Eq.trans ?_ (weightsMain_at _ _ _)
  unfold iblk
  blk_simp
  refine (congrFun (entry_main m c) _).trans ?_
  pointwise
  blk_ext [idx t]

/-- A block of the small weights: the padding is zero. -/
theorem block_small (t : Fin cfg0.N) (k : Fin 2048) (j : Fin 128) :
    iblk m c 5 t (ix2 k j) = if j.val < 64 then m ((c : Thread nD τ).loc main_arg4) (ix2 k (colSmall j)) else (0 : EReal) := by
  unfold iblk
  have e : (win0_5.blk t).view.emb (ix2 k j) = ix2 k j := by blk_ext [idx t]
  blk_simp
  refine (congrArg (V m c main_v19) e).trans ((congrFun (entry_small m c) _).trans ?_)
  pointwise
  by_cases h : j.val < 64
  · rw [dif_pos h, if_pos h, weightsSmall_at]
  · rw [dif_neg h, if_neg h]
    simp [FloatOps.sitofp]

theorem idx_base (t : Fin cfg0.N) : win0_0.index (base t) = ![t.val / 13, 0] ∧ win0_1.index (base t) = ![0, 0] ∧ win0_2.index (base t) = ![0, 0]
    ∧ win0_3.index (base t) = ![0, 0] := by
  have h : (base t).val / 13 = t.val / 13 := by show t.val / 13 * 13 / 13 = t.val / 13; omega
  exact ⟨h ▸ (idx (base t)).1, (idx (base t)).2.1, (idx (base t)).2.2.1, (idx (base t)).2.2.2.1⟩

/-- The reference's normalized rows. -/
def hRef (x : FVec Ideal S16384x2048 .f32) (gain shift scale : FVec Ideal S1x2048 .f32) : FVec Ideal S16384x2048 .f32 :=
  addf (mulf (mulf (mulf x (broadcastInDim S16384x2048 ![0, 1] Cert.Reference2Ideal.Gen.bcast_S16384x1_S16384x2048_0_1
      (Host.rsqrt (addf (Host.divf (broadcastInDim Cert.Reference2Ideal.S16384x1 ![0] Cert.Reference2Ideal.Gen.bcast_S16384_S16384x1_0
        (Host.reduceAdd (mulf x x) (constant Cert.Reference2Ideal.S_ .f32 0x00000000#32) Cert.Reference2Ideal.Gen.reducesTo_S16384x2048_S16384_d1 Cert.Reference2Ideal.Gen.h_S_))
        (broadcastInDim Cert.Reference2Ideal.S16384x1 ![] Cert.Reference2Ideal.Gen.bcast_S_S16384x1 (constant Cert.Reference2Ideal.S_ .f32 0x45000000#32)))
        (broadcastInDim Cert.Reference2Ideal.S16384x1 ![] Cert.Reference2Ideal.Gen.bcast_S_S16384x1 (constant Cert.Reference2Ideal.S_ .f32 0x358637BD#32))))))
      (broadcastInDim S16384x2048 ![0, 1] Cert.Reference2Ideal.Gen.bcast_S1x2048_S16384x2048_0_1 gain))
      (broadcastInDim S16384x2048 ![0, 1] Cert.Reference2Ideal.Gen.bcast_S1x2048_S16384x2048_0_1
        (addf (broadcastInDim S1x2048 ![] Cert.Reference2Ideal.Gen.bcast_S_S1x2048 (constant Cert.Reference2Ideal.S_ .f32 0x3F800000#32)) scale)))
    (broadcastInDim S16384x2048 ![0, 1] Cert.Reference2Ideal.Gen.bcast_S1x2048_S16384x2048_0_1 shift)

/-- The reference's product with the input weights. -/
def product (x : FVec Ideal S16384x2048 .f32) (gain shift scale : FVec Ideal S1x2048 .f32) (w : FVec Ideal S2048x6720 .f32) :
    FVec Ideal Cert.Reference2Ideal.S16384x6720 .f32 :=
  Host.dotGeneral Cert.Reference2Ideal.dot_S16384x2048_S2048x6720_S16384x6720_1_0_0_1_n_n none (hRef x gain shift scale) w

/-- The product the reference forms of this program's arguments. -/
abbrev prod : FVec Ideal Cert.Reference2Ideal.S16384x6720 .f32 :=
  product (m ((c : Thread nD τ).loc main_arg0)) (m ((c : Thread nD τ).loc main_arg1)) (m ((c : Thread nD τ).loc main_arg2))
    (m ((c : Thread nD τ).loc main_arg3)) (m ((c : Thread nD τ).loc main_arg4))

theorem point_main (t : Fin cfg0.N) (y : S1024x512.Idx) : mainOf m c t y = columnsMain (prod m c) (((cfg0.win 6).blk t).view.emb y) := by
  have hy0 : (y 0).val < 1024 := (y 0).isLt
  have hy1 : (y 1).val < 512 := (y 1).isLt
  have ht : t.val < 208 := Nat.lt_of_lt_of_eq t.isLt N_0
  have e : ((cfg0.win 6).blk t).view.emb y = ix2 (⟨t.val / 13 * 1024 + (y 0).val, by omega⟩ : Fin 16384) (⟨t.val % 13 * 512 + (y 1).val, by omega⟩ : Fin 6656) := by
    blk_ext [idx t]
  rw [e]
  refine Eq.trans ?_ (columnsMain_at _ _ _).symm
  unfold mainOf rows prod
  idx_vars y
  pointwise [k0_pay4, k0_pay2, k0_pay1, product, hRef]
  simp only [block_main]
  blk_point [iblk, V, idx_base t]

theorem point_small (t : Fin cfg0.N) (y : S1024x128.Idx) : smallOf m c t y = columnsSmall (prod m c) (((cfg0.win 7).blk t).view.emb y) := by
  have hy0 : (y 0).val < 1024 := (y 0).isLt
  have hy1 : (y 1).val < 128 := (y 1).isLt
  have ht : t.val < 208 := Nat.lt_of_lt_of_eq t.isLt N_0
  have e : ((cfg0.win 7).blk t).view.emb y = ix2 (⟨t.val / 13 * 1024 + (y 0).val, by omega⟩ : Fin 16384) (⟨(y 1).val, hy1⟩ : Fin 128) := by
    blk_ext [idx t]
  rw [e]
  refine Eq.trans ?_ (columnsSmall_at _ _ _).symm
  unfold smallOf prod
  idx_vars y
  pointwise [k0_pay3, k0_pay1, product, hRef]
  simp only [block_small]
  by_cases h : y1.val < 64
  · simp only [h, if_true]
    blk_point [iblk, V, idx_base t]
  · simp only [h, if_false, mul_zero, Finset.sum_const_zero]

/-- The main array after the run. -/
theorem final_main : (dats m 0 c).arrAt 6 (cfgs 0).N = columnsMain (prod m c) := by
  refine (dats m 0 c).arrAt_eq_of_covers 6 _ (by decide +kernel) fun t _ y => ?_
  blk_simp
  rw [after_6]
  exact point_main m c t y

/-- The small array after the run. -/
theorem final_small : (dats m 0 c).arrAt 7 (cfgs 0).N = columnsSmall (prod m c) := by
  refine (dats m 0 c).arrAt_eq_of_covers 7 _ (by decide +kernel) fun t _ y => ?_
  blk_simp
  rw [after_7]
  exact point_small m c t y

end Cert.Kernel2Ideal.Body

namespace Cert.Proof

open Idealize.ShloMosaic Idealize.ShloMosaic.TcCoe Idealize.SL.Sem

theorem algebraic2 : Cert.algebraic_Kernel2Ideal_Reference2Ideal (hKernel2Ideal := Cert.Kernel2Ideal.Gen.facts)
    (hReference2Ideal := Cert.Reference2Ideal.Gen.facts) := by
  pair_intro
  · run_from Cert.Kernel2Ideal.Body.run_main m g
    exact Cert.Kernel2Ideal.Gen.V_main_arg4 m c
  · refine (θ_run _ _ _).mono (fun r h c => ⟨?_, ?_, (h c).2.2⟩) (Cert.Reference2Ideal.Value.run m' g')
    · obtain ⟨g0, g1, g2, g3, g4⟩ := hagree c
      rw [(h c).1, Cert.Kernel2Ideal.Body.final_main m c, Cert.Kernel2Ideal.Body.prod, ← g0, ← g1, ← g2, ← g3, ← g4]
      rfl
    · obtain ⟨g0, g1, g2, g3, g4⟩ := hagree c
      rw [(h c).2.1, Cert.Kernel2Ideal.Body.final_small m c, Cert.Kernel2Ideal.Body.prod, ← g0, ← g1, ← g2, ← g3, ← g4]
      rfl

theorem frame_reference2 : Cert.quiescent_Reference2Ideal (hReference2Ideal := Cert.Reference2Ideal.Gen.facts) := fun m g _ =>
  (θ_run _ _ _).mono (fun r h => ⟨fun c => (h c).2.2, sem_eq_zero_of_no_sems rfl r.2⟩) (Cert.Reference2Ideal.Value.run m g)

end Cert.Proof

end
-- ==== Proof.ExpertsBodyIdeal.lean ====
/- The experts' body: what it stores at a point that loads an expert's weights, at a point that finds them loaded, and at a
   point past the blocks in use. -/
module

public import Idealize.ShloMosaic.Lib.VecWindow
public import Idealize.ShloMosaic.Lib.Claim
public import Idealize.ShloMosaic.Lib.Tactic
public import Idealize.ShloMosaic.Lib.Exec
public import Idealize.ShloMosaic.Lib.Writes
public import Idealize.ShloMosaic.Lib.Pipeline.Kit
public import Idealize.ShloMosaic.Lib.Pipeline.FrameBody
public import proofs.«01_k».proof.Proof.Gen.Kernel4Ideal.Launch
public import proofs.«01_k».proof.Proof.Gen.Kernel4Ideal.Skeleton

@[expose] public section

set_option maxRecDepth 16384

noncomputable section

namespace Cert.Kernel4Ideal.Body

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The table of the blocks' experts, and the number of blocks in use. -/
abbrev tabE : Memref sig .tc .smem S162 .i32 := Memref.whole main_arg0
abbrev tabN : Memref sig .tc .smem S1 .i32 := Memref.whole main_arg1

/-- The number of blocks in use, a block's expert, and the expert of the block before it, as the body reads them. -/
abbrev wordN (T1 : S1.Idx → Elt F .i32) : Elt F .i32 :=
  View.readAt (Elt F) tabN.view (Rect.unit (s := S1) ![0] S1.size inb_S1_S1_0).toLoadRect T1 (Shape.Idx.first (numel1_S1.symm ▸ Nat.one_pos))
abbrev wordE (i : grid0.Coords) (T0 : S162.Idx → Elt F .i32) : Elt F .i32 :=
  View.readAt (Elt F) tabE.view (Rect.unit (s := S162) (k0_off1 i) S1.size (k0_off1_inb i)).toLoadRect T0 (Shape.Idx.first (numel1_S1.symm ▸ Nat.one_pos))
abbrev wordP (i : grid0.Coords) (T0 : S162.Idx → Elt F .i32) : Elt F .i32 :=
  View.readAt (Elt F) tabE.view (Rect.unit (s := S162) (k0_off2 i) S1.size (k0_off2_inb i)).toLoadRect T0 (Shape.Idx.first (numel1_S1.symm ▸ Nat.one_pos))

/-- The condition under which the body loads an expert's weights. -/
abbrev loads (i : grid0.Coords) (T0 : S162.Idx → Elt F .i32) (T1 : S1.Idx → Elt F .i32) : Prop :=
  Scalar.cmpi .ne (Scalar.extui (Scalar.andi (Scalar.cmpi .slt (BitVec.ofNat 32 (i 0).val) (wordN T1)) (Scalar.ori (Scalar.cmpi .eq (BitVec.ofNat 32 (i 0).val) 0#32) (Scalar.cmpi .ne (wordE i T0) (wordP i T0))))) 0#32 = 1#1

set_option maxHeartbeats 2000000 in
/-- At a point that loads an expert's weights the body stores them, and the gated feed-forward part of the block by them. -/
theorem body_loads (c : Dev nD) (i : grid0.Coords) (arg3 : Memref sig .tc .vmem S256x2048 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (T0 : S162.Idx → Elt F .i32) (T1 : S1.Idx → Elt F .i32) (h1 : loads i T0 T1) (h2 : k0_cond2 i (wordN T1) = 1#1) (h3 : ¬k0_cond3 i (wordN T1) = 1#1)
    (x0 : Vec F S256x2048 .bf16) (x1 : Vec F S1x2048x512 .f32) (x2 : Vec F S1x2048x512 .f32) (x3 : Vec F S1x512x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (tabE.view.loc (c : Thread nD τ) ↦{fullShare.right} T0) ∗ (tabN.view.loc (c : Thread nD τ) ↦{fullShare.right} T1) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ (tabE.view.loc (c : Thread nD τ) ↦{fullShare.right} T0) ∗ (tabN.view.loc (c : Thread nD τ) ↦{fullShare.right} T1) ∗ owns (c : Thread nD τ) arg7 fullShare (k0_pay4 x0 (k0_pay1 x1) (k0_pay2 x2) (k0_pay3 x3)) ∗ owns (c : Thread nD τ) arg8 fullShare (k0_pay1 x1) ∗ owns (c : Thread nD τ) arg9 fullShare (k0_pay2 x2) ∗ owns (c : Thread nD τ) arg10 fullShare (k0_pay3 x3)) -∗ K ⟨⟩))
      ⊢ wp frame (wpE (defs₀ (F := F)) Variants.none c none) E (cc0_expert_ffn i tabE (Memref.isWhole_whole _) tabN (Memref.isWhole_whole _) arg3 harg3 arg4 harg4 arg5 harg5 arg6 harg6 arg7 harg7 arg8 harg8 arg9 harg9 arg10 harg10) K := by
  rw [cc0_expert_ffn_eq_skeleton]; unfold cc0_expert_ffn_skel
  unfold owns
  iintro ⟨⟨%f0, %hf0, H0⟩, ⟨%f1, %hf1, H1⟩, ⟨%f2, %hf2, H2⟩, ⟨%f3, %hf3, H3⟩, HT0, HT1, ⟨%d4, %f4, -, H4⟩, ⟨%d5, %g0, -, G0⟩, ⟨%d6, %g1, -, G1⟩, ⟨%d7, %g2, -, G2⟩, Hk⟩
  have hT0 : tabE.IsWhole := Memref.isWhole_whole _
  have hT1 : tabN.IsWhole := Memref.isWhole_whole _
  obtain rfl := harg3.eq_unread hf0
  obtain rfl := harg4.eq_unread hf1
  obtain rfl := harg5.eq_unread hf2
  obtain rfl := harg6.eq_unread hf3
  have e0 := (View.readAt_full arg3.view (harg3.unread x0) inb_S256x2048_S256x2048_0_0).trans hf0
  have e1 := (View.readAt_full arg4.view (harg4.unread x1) inb_S1x2048x512_S1x2048x512_0_0_0).trans hf1
  have e2 := (View.readAt_full arg5.view (harg5.unread x2) inb_S1x2048x512_S1x2048x512_0_0_0).trans hf2
  have e3 := (View.readAt_full arg6.view (harg6.unread x3) inb_S1x512x2048_S1x512x2048_0_0_0).trans hf3
  sl_exec! (disch := first | (guard_target = Scalar.cmpi = _; exact h1) | (guard_target = ¬(Scalar.cmpi = _); exact h1) | exact h1 | exact h2 | exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  isplitl [H4]
  · iexists _; isplitr
    swap; · iexact H4
    ipureintro
    sl_unfold_run_names
    refine (View.read_writes_full _ _ _ _ _).trans ?_
    rw [(View.readCov_full arg8.view inb_S2048x512_S2048x512_0_0 inb_S2048x512_S2048x512_0_0 _ []), (View.readCov_full arg9.view inb_S2048x512_S2048x512_0_0 inb_S2048x512_S2048x512_0_0 _ []), (View.readCov_full arg10.view inb_S512x2048_S512x2048_0_0 inb_S512x2048_S512x2048_0_0 _ [])]
  isplitl [G0]
  · iexists _; isplitr
    swap; · iexact G0
    ipureintro
    sl_unfold_run_names
    exact View.read_writes_full _ _ _ _ _
  isplitl [G1]
  · iexists _; isplitr
    swap; · iexact G1
    ipureintro
    sl_unfold_run_names
    exact View.read_writes_full _ _ _ _ _
  iexists _; isplitr
  swap; · iexact G2
  ipureintro
  sl_unfold_run_names
  exact View.read_writes_full _ _ _ _ _

set_option maxHeartbeats 2000000 in
/-- At a point that finds its expert's weights loaded the body stores the gated feed-forward part of the block by them. -/
theorem body_keeps (c : Dev nD) (i : grid0.Coords) (arg3 : Memref sig .tc .vmem S256x2048 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (T0 : S162.Idx → Elt F .i32) (T1 : S1.Idx → Elt F .i32) (h1 : ¬loads i T0 T1) (h2 : k0_cond2 i (wordN T1) = 1#1) (h3 : ¬k0_cond3 i (wordN T1) = 1#1)
    (x0 : Vec F S256x2048 .bf16) (x1 : Vec F S1x2048x512 .f32) (x2 : Vec F S1x2048x512 .f32) (x3 : Vec F S1x512x2048 .f32) (a0 : Vec F S2048x512 .bf16) (a1 : Vec F S2048x512 .bf16) (a2 : Vec F S512x2048 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (tabE.view.loc (c : Thread nD τ) ↦{fullShare.right} T0) ∗ (tabN.view.loc (c : Thread nD τ) ↦{fullShare.right} T1) ∗ (∃ d, owns (c : Thread nD τ) arg7 fullShare d) ∗ owns (c : Thread nD τ) arg8 fullShare a0 ∗ owns (c : Thread nD τ) arg9 fullShare a1 ∗ owns (c : Thread nD τ) arg10 fullShare a2
        ∗ (iprop(owns (c : Thread nD τ) arg3 fullShare x0 ∗ owns (c : Thread nD τ) arg4 fullShare x1 ∗ owns (c : Thread nD τ) arg5 fullShare x2 ∗ owns (c : Thread nD τ) arg6 fullShare x3 ∗ (tabE.view.loc (c : Thread nD τ) ↦{fullShare.right} T0) ∗ (tabN.view.loc (c : Thread nD τ) ↦{fullShare.right} T1) ∗ owns (c : Thread nD τ) arg7 fullShare (k0_pay4 x0 a0 a1 a2) ∗ owns (c : Thread nD τ) arg8 fullShare a0 ∗ owns (c : Thread nD τ) arg9 fullShare a1 ∗ owns (c : Thread nD τ) arg10 fullShare a2) -∗ K ⟨⟩))
      ⊢ wp frame (wpE (defs₀ (F := F)) Variants.none c none) E (cc0_expert_ffn i tabE (Memref.isWhole_whole _) tabN (Memref.isWhole_whole _) arg3 harg3 arg4 harg4 arg5 harg5 arg6 harg6 arg7 harg7 arg8 harg8 arg9 harg9 arg10 harg10) K := by
  rw [cc0_expert_ffn_eq_skeleton]; unfold cc0_expert_ffn_skel
  unfold owns
  iintro ⟨⟨%f0, %hf0, H0⟩, ⟨%f1, %hf1, H1⟩, ⟨%f2, %hf2, H2⟩, ⟨%f3, %hf3, H3⟩, HT0, HT1, ⟨%d4, %f4, -, H4⟩, ⟨%g0, %hg0, G0⟩, ⟨%g1, %hg1, G1⟩, ⟨%g2, %hg2, G2⟩, Hk⟩
  have hT0 : tabE.IsWhole := Memref.isWhole_whole _
  have hT1 : tabN.IsWhole := Memref.isWhole_whole _
  obtain rfl := harg3.eq_unread hf0
  obtain rfl := harg4.eq_unread hf1
  obtain rfl := harg5.eq_unread hf2
  obtain rfl := harg6.eq_unread hf3
  obtain rfl := harg8.eq_unread hg0
  obtain rfl := harg9.eq_unread hg1
  obtain rfl := harg10.eq_unread hg2
  have e0 := (View.readAt_full arg3.view (harg3.unread x0) inb_S256x2048_S256x2048_0_0).trans hf0
  have e1 := (View.readAt_full arg4.view (harg4.unread x1) inb_S1x2048x512_S1x2048x512_0_0_0).trans hf1
  have e2 := (View.readAt_full arg5.view (harg5.unread x2) inb_S1x2048x512_S1x2048x512_0_0_0).trans hf2
  have e3 := (View.readAt_full arg6.view (harg6.unread x3) inb_S1x512x2048_S1x512x2048_0_0_0).trans hf3
  have w0 := (View.readAt_full arg8.view (harg8.unread a0) inb_S2048x512_S2048x512_0_0).trans hg0
  have w1 := (View.readAt_full arg9.view (harg9.unread a1) inb_S2048x512_S2048x512_0_0).trans hg1
  have w2 := (View.readAt_full arg10.view (harg10.unread a2) inb_S512x2048_S512x2048_0_0).trans hg2
  sl_exec! (disch := first | (guard_target = Scalar.cmpi = _; exact h1) | (guard_target = ¬(Scalar.cmpi = _); exact h1) | exact h1 | exact h2 | exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  isplitl [H4]
  · iexists _; isplitr
    swap; · iexact H4
    ipureintro
    sl_unfold_run_names
    exact View.read_writes_full _ _ _ _ _
  isplitl [G0]
  · iexists _; isplitr; · ipureintro; exact harg8.read_unread _
    iexact G0
  isplitl [G1]
  · iexists _; isplitr; · ipureintro; exact harg9.read_unread _
    iexact G1
  iexists _; isplitr; · ipureintro; exact harg10.read_unread _
  iexact G2

set_option maxHeartbeats 2000000 in
/-- Past the blocks in use the body stores zeros. -/
theorem body_zeros (c : Dev nD) (i : grid0.Coords) (arg3 : Memref sig .tc .vmem S256x2048 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (T0 : S162.Idx → Elt F .i32) (T1 : S1.Idx → Elt F .i32) (h1 : ¬loads i T0 T1) (h2 : ¬k0_cond2 i (wordN T1) = 1#1) (h3 : k0_cond3 i (wordN T1) = 1#1)
    (x0 : Vec F S256x2048 .bf16) (x1 : Vec F S1x2048x512 .f32) (x2 : Vec F S1x2048x512 .f32) (x3 : Vec F S1x512x2048 .f32) (a0 : Vec F S2048x512 .bf16) (a1 : Vec F S2048x512 .bf16) (a2 : Vec F S512x2048 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (tabE.view.loc (c : Thread nD τ) ↦{fullShare.right} T0) ∗ (tabN.view.loc (c : Thread nD τ) ↦{fullShare.right} T1) ∗ (∃ d, owns (c : Thread nD τ) arg7 fullShare d) ∗ owns (c : Thread nD τ) arg8 fullShare a0 ∗ owns (c : Thread nD τ) arg9 fullShare a1 ∗ owns (c : Thread nD τ) arg10 fullShare a2
        ∗ (iprop(owns (c : Thread nD τ) arg3 fullShare x0 ∗ owns (c : Thread nD τ) arg4 fullShare x1 ∗ owns (c : Thread nD τ) arg5 fullShare x2 ∗ owns (c : Thread nD τ) arg6 fullShare x3 ∗ (tabE.view.loc (c : Thread nD τ) ↦{fullShare.right} T0) ∗ (tabN.view.loc (c : Thread nD τ) ↦{fullShare.right} T1) ∗ owns (c : Thread nD τ) arg7 fullShare (k0_pay5 (F := F)) ∗ owns (c : Thread nD τ) arg8 fullShare a0 ∗ owns (c : Thread nD τ) arg9 fullShare a1 ∗ owns (c : Thread nD τ) arg10 fullShare a2) -∗ K ⟨⟩))
      ⊢ wp frame (wpE (defs₀ (F := F)) Variants.none c none) E (cc0_expert_ffn i tabE (Memref.isWhole_whole _) tabN (Memref.isWhole_whole _) arg3 harg3 arg4 harg4 arg5 harg5 arg6 harg6 arg7 harg7 arg8 harg8 arg9 harg9 arg10 harg10) K := by
  rw [cc0_expert_ffn_eq_skeleton]; unfold cc0_expert_ffn_skel
  unfold owns
  iintro ⟨⟨%f0, %hf0, H0⟩, ⟨%f1, %hf1, H1⟩, ⟨%f2, %hf2, H2⟩, ⟨%f3, %hf3, H3⟩, HT0, HT1, ⟨%d4, %f4, -, H4⟩, ⟨%g0, %hg0, G0⟩, ⟨%g1, %hg1, G1⟩, ⟨%g2, %hg2, G2⟩, Hk⟩
  have hT0 : tabE.IsWhole := Memref.isWhole_whole _
  have hT1 : tabN.IsWhole := Memref.isWhole_whole _
  obtain rfl := harg3.eq_unread hf0
  obtain rfl := harg4.eq_unread hf1
  obtain rfl := harg5.eq_unread hf2
  obtain rfl := harg6.eq_unread hf3
  obtain rfl := harg8.eq_unread hg0
  obtain rfl := harg9.eq_unread hg1
  obtain rfl := harg10.eq_unread hg2
  have e0 := (View.readAt_full arg3.view (harg3.unread x0) inb_S256x2048_S256x2048_0_0).trans hf0
  have e1 := (View.readAt_full arg4.view (harg4.unread x1) inb_S1x2048x512_S1x2048x512_0_0_0).trans hf1
  have e2 := (View.readAt_full arg5.view (harg5.unread x2) inb_S1x2048x512_S1x2048x512_0_0_0).trans hf2
  have e3 := (View.readAt_full arg6.view (harg6.unread x3) inb_S1x512x2048_S1x512x2048_0_0_0).trans hf3
  have w0 := (View.readAt_full arg8.view (harg8.unread a0) inb_S2048x512_S2048x512_0_0).trans hg0
  have w1 := (View.readAt_full arg9.view (harg9.unread a1) inb_S2048x512_S2048x512_0_0).trans hg1
  have w2 := (View.readAt_full arg10.view (harg10.unread a2) inb_S512x2048_S512x2048_0_0).trans hg2
  sl_exec! (disch := first | (guard_target = Scalar.cmpi = _; exact h1) | (guard_target = ¬(Scalar.cmpi = _); exact h1) | exact h1 | exact h2 | exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  isplitl [H4]
  · iexists _; isplitr
    swap; · iexact H4
    ipureintro
    sl_unfold_run_names
    exact View.read_writes_full _ _ _ _ _
  isplitl [G0]
  · iexists _; isplitr; · ipureintro; exact harg8.read_unread _
    iexact G0
  isplitl [G1]
  · iexists _; isplitr; · ipureintro; exact harg9.read_unread _
    iexact G1
  iexists _; isplitr; · ipureintro; exact harg10.read_unread _
  iexact G2

end Cert.Kernel4Ideal.Body

end
-- ==== Proof.ExpertsRunIdeal.lean ====
/- The experts' run: the weights loaded at a point are carried in the scratches through the points of the same expert that follow. -/
module

public import proofs.«01_k».proof.Proof.ExpertsBodyIdeal
public import Idealize.ShloMosaic.Lib.Pipeline.Quiescent
public import Idealize.ShloMosaic.Lib.Pipeline.TableIdle
public import Idealize.ShloMosaic.Lib.Pipeline.ValueKit
public import Idealize.ShloMosaic.Lib.WordCmp
public import Idealize.ShloMosaic.Adequacy
public import Idealize.ShloMosaic.Init

@[expose] public section

set_option maxRecDepth 16384

noncomputable section

namespace Cert.Kernel4Ideal.Body

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The words the body reads -/

/-- The table of the blocks' experts, and the number of blocks in use. -/
def experts : S162.Idx → BitVec 32 := m (((0 : Dev nD) : Thread nD τ).loc main_arg0)
def inUse : S1.Idx → BitVec 32 := m (((0 : Dev nD) : Thread nD τ).loc main_arg1)

theorem dev_eq (c : Dev nD) : c = 0 := Subsingleton.elim c 0

theorem experts_at (c : Dev nD) : m ((c : Thread nD τ).loc main_arg0) = experts m := by rw [dev_eq c]; rfl
theorem inUse_at (c : Dev nD) : m ((c : Thread nD τ).loc main_arg1) = inUse m := by rw [dev_eq c]; rfl

theorem coord (t : Fin grid0.N) : (grid0.coords t 0).val = t.val := by
  have ht : t.val < 162 := Nat.lt_of_lt_of_eq t.isLt N_0
  have e : (grid0.coords t 0).val = t.val / 1 % 162 := Pipeline.Grid.coords_val t 0 (by decide) rfl
  omega

/-- A place of the table. -/
def place (n : ℕ) (h : n < 162) : S162.Idx := fun a => match a with | ⟨0, _⟩ => ⟨n, h⟩

theorem place_ext (x y : S162.Idx) (h : (x 0).val = (y 0).val) : x = y := funext fun a => by
  obtain ⟨a, ha⟩ := a
  have : a = 0 := by have : a < 1 := ha; omega
  subst this; exact Fin.ext h

theorem off1 (t : Fin grid0.N) : k0_off1 (grid0.coords t) 0 = t.val := by
  have ht : t.val < 162 := Nat.lt_of_lt_of_eq t.isLt N_0
  show (Scalar.indexCast (BitVec.ofNat 32 (grid0.coords t 0).val)).toNat = t.val
  rw [coord]
  have e : ∀ k : Fin 162, (Scalar.indexCast (BitVec.ofNat 32 k.val)).toNat = k.val := by decide +kernel
  exact e ⟨t.val, ht⟩

theorem off2 (t : Fin grid0.N) : k0_off2 (grid0.coords t) 0 = t.val - 1 := by
  have ht : t.val < 162 := Nat.lt_of_lt_of_eq t.isLt N_0
  show (Scalar.indexCast (Scalar.maxsi (Scalar.subi (BitVec.ofNat 32 (grid0.coords t 0).val) 1#32) 0#32)).toNat = t.val - 1
  rw [coord]
  have e : ∀ k : Fin 162, (Scalar.indexCast (Scalar.maxsi (Scalar.subi (BitVec.ofNat 32 k.val) 1#32) 0#32)).toNat = k.val - 1 := by decide +kernel
  exact e ⟨t.val, ht⟩

theorem wordE_eq (T0 : S162.Idx → Elt F .i32) (t : Fin grid0.N) :
    wordE (grid0.coords t) T0 = T0 (place t.val (Nat.lt_of_lt_of_eq t.isLt N_0)) := by
  refine congrArg T0 (place_ext _ _ ?_)
  show k0_off1 (grid0.coords t) 0 + _ = _
  rw [off1]; rfl

theorem wordP_eq (T0 : S162.Idx → Elt F .i32) (t : Fin grid0.N) :
    wordP (grid0.coords t) T0 = T0 (place (t.val - 1) (by have := Nat.lt_of_lt_of_eq t.isLt N_0; omega)) := by
  refine congrArg T0 (place_ext _ _ ?_)
  show k0_off2 (grid0.coords t) 0 + _ = _
  rw [off2]; rfl

/-- The number of blocks in use. -/
def count : BitVec 32 := inUse m (Shape.Idx.first (s := S1) (by decide))

instance : Subsingleton S1.Idx := ⟨fun a b => funext fun i => by
  obtain ⟨i, hi⟩ := i
  have : i = 0 := by have : i < 1 := hi; omega
  subst this
  exact Fin.ext (by have := (a ⟨0, hi⟩).isLt; have := (b ⟨0, hi⟩).isLt; have e : S1.size ⟨0, hi⟩ = 1 := rfl; omega)⟩

theorem wordN_eq : wordN (F := F) (inUse m) = count m := congrArg (inUse m) (Subsingleton.elim _ _)

/-- A point is in use. -/
def used (n : ℕ) : Prop := Scalar.cmpi .slt (BitVec.ofNat 32 n) (count m) = 1#1

instance (n : ℕ) : Decidable (used m n) := by unfold used; infer_instance

theorem used_pred (n : ℕ) (hn : n < 162) (h : used m n) : used m (n - 1) := by
  unfold used at *
  have e : ∀ k, k < 162 → (Scalar.cmpi .slt (BitVec.ofNat 32 k) (count m) = 1#1 ↔ (k : ℤ) < (count m).toInt) := by
    intro k hk
    have ek : (BitVec.ofNat 32 k).toInt = k := by
      rw [BitVec.toInt_eq_toNat_of_lt (by rw [BitVec.toNat_ofNat]; omega), BitVec.toNat_ofNat]; omega
    show BitVec.ofBool (BitVec.slt _ _) = 1#1 ↔ _
    rw [← ek, ← BitVec.slt_iff_toInt_lt]
    cases BitVec.slt (BitVec.ofNat 32 k) (count m) <;> decide
  rw [e _ hn] at h
  rw [e _ (by omega)]
  omega

theorem cond2_iff (t : Fin grid0.N) : k0_cond2 (grid0.coords t) (wordN (F := F) (inUse m)) = 1#1 ↔ used m t.val := by
  rw [wordN_eq]; simp only [k0_cond2, coord]; unfold used
  generalize Scalar.cmpi .slt (BitVec.ofNat 32 t.val) (count m) = b
  revert b; decide

theorem cond3_iff (t : Fin grid0.N) : k0_cond3 (grid0.coords t) (wordN (F := F) (inUse m)) = 1#1 ↔ ¬used m t.val := by
  rw [wordN_eq]; simp only [k0_cond3, coord]; unfold used
  generalize Scalar.cmpi .slt (BitVec.ofNat 32 t.val) (count m) = b
  revert b; decide

/-- The expert of a point's block. -/
def expert (n : ℕ) : BitVec 32 := if h : n < 162 then experts m (place n h) else 0#32

theorem loads_iff (t : Fin grid0.N) : loads (F := F) (grid0.coords t) (experts m) (inUse m)
    ↔ used m t.val ∧ (t.val = 0 ∨ expert m t.val ≠ expert m (t.val - 1)) := by
  have ht : t.val < 162 := Nat.lt_of_lt_of_eq t.isLt N_0
  unfold loads
  rw [wordN_eq, wordE_eq, wordP_eq, coord]
  unfold used expert
  rw [dif_pos ht, dif_pos (show t.val - 1 < 162 by omega)]
  have e1 : Scalar.cmpi .eq (BitVec.ofNat 32 t.val) 0#32 = 1#1 ↔ t.val = 0 := by word_cmp
  have e2 : Scalar.cmpi .ne (experts m (place t.val ht)) (experts m (place (t.val - 1) (by omega))) = 1#1
      ↔ experts m (place t.val ht) ≠ experts m (place (t.val - 1) (by omega)) := by
    show BitVec.ofBool (_ != _) = 1#1 ↔ _
    rw [← bne_iff_ne]
    cases (experts m (place t.val ht) != experts m (place (t.val - 1) (by omega))) <;> decide
  rw [← e1, ← e2]
  generalize Scalar.cmpi .slt (BitVec.ofNat 32 t.val) (count m) = b
  generalize Scalar.cmpi .eq (BitVec.ofNat 32 t.val) 0#32 = b1
  generalize Scalar.cmpi .ne (experts m (place t.val ht)) (experts m (place (t.val - 1) (by omega))) = b2
  revert b b1 b2; decide

/-! ## The tables' contents admitted -/

/-- Every block names one of the experts. -/
def InRange : Prop := ∀ x, (experts m x).toNat < 32

/-- The tables' contents. -/
def pf : pre0.Contents (Elt F) := fun | ⟨0, _⟩ => experts m | ⟨1, _⟩ => inUse m | ⟨_ + 2, h⟩ => absurd h (by simp)

theorem cons_le {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

variable (hm : InRange m)
include hm

theorem inside1 (i : grid0.Coords) : ∀ a, (cc0_transform_1 k0_off1_inb numel1_S1 (pf m) i a + 1) * S1x2048x512.size a ≤ S32x2048x512.size a :=
  cons_le (show ((experts m ((Rect.unit (s := S162) (k0_off1 i) S1.size (k0_off1_inb i)).emb (Shape.Idx.first (numel1_S1.symm ▸ Nat.one_pos)))).toNat + 1) * 1 ≤ 32 by
    have := hm ((Rect.unit (s := S162) (k0_off1 i) S1.size (k0_off1_inb i)).emb (Shape.Idx.first (numel1_S1.symm ▸ Nat.one_pos))); omega) (by decide)
theorem inside2 (i : grid0.Coords) : ∀ a, (cc0_transform_2 k0_off1_inb numel1_S1 (pf m) i a + 1) * S1x2048x512.size a ≤ S32x2048x512.size a :=
  inside1 m hm i
theorem inside3 (i : grid0.Coords) : ∀ a, (cc0_transform_3 k0_off1_inb numel1_S1 (pf m) i a + 1) * S1x512x2048.size a ≤ S32x512x2048.size a :=
  cons_le (show ((experts m ((Rect.unit (s := S162) (k0_off1 i) S1.size (k0_off1_inb i)).emb (Shape.Idx.first (numel1_S1.symm ▸ Nat.one_pos)))).toNat + 1) * 1 ≤ 32 by
    have := hm ((Rect.unit (s := S162) (k0_off1 i) S1.size (k0_off1_inb i)).emb (Shape.Idx.first (numel1_S1.symm ▸ Nat.one_pos))); omega) (by decide)

theorem admitted : ok0 (pf m) :=
  ⟨fun i => ⟨inside1 m hm i, .inl rfl⟩, fun i => ⟨inside2 m hm i, .inl rfl⟩, fun i => ⟨inside3 m hm i, .inl rfl⟩⟩

omit hm in
/-- The pipeline at the tables. -/
def adm (hm : InRange m) : (pcfg0 (F := F)).Adm := ⟨pf m, admitted m hm⟩
abbrev cfgE (hm : InRange m) : Pipeline.Cfg sig Λ₀ := cfg0 (F := F) (adm m hm)
abbrev pcsE (hm : InRange m) : Fin 1 → Pipeline.Cfg sig Λ₀ := Pipeline.pin (pcfgs (F := F)) fun _ => adm m hm
abbrev crd (hm : InRange m) (t : Fin (cfgE m hm).N) : (cfgE m hm).grid.Coords := (cfgE m hm).grid.coords t

/-- Window `w`'s block at a point. -/
def iblk (hm : InRange m) (c : Dev nD) (w : Fin (cfgE m hm).W) (t : Fin (cfgE m hm).N) : (((cfgE m hm).win w).xblock (crd m hm t)).Idx → Elt F ((cfgE m hm).win w).elt :=
  (((cfgE m hm).win w).blk t).view.read (Elt F) (m (((cfgE m hm).win w).arr.view.loc (c : Thread nD τ)))

/-- The blocks' places. -/
theorem idx (t : Fin (cfgE m hm).N) : ((cfgE m hm).win 0).index t = ![t.val, 0] ∧ ((cfgE m hm).win 1).index t = ![(expert m t.val).toNat, 0, 0]
    ∧ ((cfgE m hm).win 2).index t = ![(expert m t.val).toNat, 0, 0] ∧ ((cfgE m hm).win 3).index t = ![(expert m t.val).toNat, 0, 0]
    ∧ ((cfgE m hm).win 4).index t = ![t.val, 0] := by
  have ht : t.val < 162 := Nat.lt_of_lt_of_eq t.isLt N_0
  have e0 : (BitVec.ofNat 32 (grid0.coords t 0).val).toNat = t.val := by rw [coord, BitVec.toNat_ofNat]; omega
  have e1 : (wordE (F := F) (grid0.coords t) (experts m)) = expert m t.val := by rw [wordE_eq, expert, dif_pos ht]
  have e0' : cc0_transform_0 (grid0.coords t) = ![t.val, 0] := by
    show ![(BitVec.ofNat 32 (grid0.coords t 0).val).toNat, 0] = _
    rw [e0]
  have e1' : ![(wordE (F := F) (grid0.coords t) (experts m)).toNat, 0, 0] = ![(expert m t.val).toNat, 0, 0] := by rw [e1]
  exact ⟨e0', e1', e1', e1', e0'⟩

/-- The block of an expert's weights depends on the point's expert alone. -/
theorem block_same (c : Dev nD) (t s : Fin (cfgE m hm).N) (h : expert m t.val = expert m s.val) :
    iblk m hm c 1 t = iblk m hm c 1 s ∧ iblk m hm c 2 t = iblk m hm c 2 s ∧ iblk m hm c 3 t = iblk m hm c 3 s := by
  obtain ⟨-, e1, e2, e3, -⟩ := idx m hm t
  obtain ⟨-, f1, f2, f3, -⟩ := idx m hm s
  rw [h] at e1 e2 e3
  have g1 : ((cfgE m hm).win 1).index t = ((cfgE m hm).win 1).index s := e1.trans f1.symm
  have g2 : ((cfgE m hm).win 2).index t = ((cfgE m hm).win 2).index s := e2.trans f2.symm
  have g3 : ((cfgE m hm).win 3).index t = ((cfgE m hm).win 3).index s := e3.trans f3.symm
  refine ⟨funext fun y => congrArg (m _) ?_, funext fun y => congrArg (m _) ?_, funext fun y => congrArg (m _) ?_⟩
  · funext a; refine Fin.ext ?_
    show ((cfgE m hm).win 1).index t a * _ + _ = ((cfgE m hm).win 1).index s a * _ + _
    rw [g1]; rfl
  · funext a; refine Fin.ext ?_
    show ((cfgE m hm).win 2).index t a * _ + _ = ((cfgE m hm).win 2).index s a * _ + _
    rw [g2]; rfl
  · funext a; refine Fin.ext ?_
    show ((cfgE m hm).win 3).index t a * _ + _ = ((cfgE m hm).win 3).index s a * _ + _
    rw [g3]; rfl

/-! ## The pipeline's data -/

/-- What a point leaves in the output's block: in use, the gated feed-forward part of its tokens by its expert's weights; out of use, zeros. -/
def outAt (hm : InRange m) (c : Dev nD) (t : Fin (cfgE m hm).N) : Vec F S256x2048 .f32 :=
  if used m t.val then k0_pay4 (iblk m hm c 0 t) (k0_pay1 (iblk m hm c 1 t)) (k0_pay2 (iblk m hm c 2 t)) (k0_pay3 (iblk m hm c 3 t)) else k0_pay5 (F := F)

/-- The scratches hold the weights of a point's expert. -/
def weightsOf (hm : InRange m) (c : Dev nD) (s : Fin (cfgE m hm).N) (a0 : Vec F S2048x512 .bf16) (a1 : Vec F S2048x512 .bf16) (a2 : Vec F S512x2048 .bf16) : Prop :=
  a0 = k0_pay1 (iblk m hm c 1 s) ∧ a1 = k0_pay2 (iblk m hm c 2 s) ∧ a2 = k0_pay3 (iblk m hm c 3 s)

omit hm in
theorem weights_same (hm : InRange m) (c : Dev nD) (t s : Fin (cfgE m hm).N) (h : expert m t.val = expert m s.val) (a0 a1 a2)
    (w : weightsOf m hm c s a0 a1 a2) : weightsOf m hm c t a0 a1 a2 := by
  obtain ⟨b1, b2, b3⟩ := block_same m hm c t s h
  unfold weightsOf at *
  rw [b1, b2, b3]; exact w

/-- The resource of the staging rounds. -/
abbrev EP : Emb (UR sig nD τ) 𝕄 := emb₁

/-- Held between points: the scratches, with the weights of the point before if that point was in use, and the tables. -/
def held (hm : InRange m) (c : Dev nD) (n : ℕ) : sProp 𝕄 :=
  iprop((∃ a0 a1 a2, ⌜∀ s : Fin (cfgE m hm).N, s.val + 1 = n → used m s.val → weightsOf m hm c s a0 a1 a2⌝
      ∗ owns (c : Thread nD τ) (Memref.whole cc0_scratch0) fullShare a0 ∗ owns (c : Thread nD τ) (Memref.whole cc0_scratch1) fullShare a1
      ∗ owns (c : Thread nD τ) (Memref.whole cc0_scratch2) fullShare a2)
    ∗ (tabE.view.loc (c : Thread nD τ) ↦{fullShare.right} experts m) ∗ (tabN.view.loc (c : Thread nD τ) ↦{fullShare.right} inUse m))

def dats (hm : InRange m) (_ : Fin 1) (c : Dev nD) : Dat τ (Elt F) Unit ℕ (UR sig nD τ) ℕ (cfgE m hm) c where
  A w := m (((cfgE m hm).win w).arr.view.loc (c : Thread nD τ))
  after w t := match w with
    | ⟨0, _⟩ => iblk m hm c 0 t
    | ⟨1, _⟩ => iblk m hm c 1 t
    | ⟨2, _⟩ => iblk m hm c 2 t
    | ⟨3, _⟩ => iblk m hm c 3 t
    | ⟨4, _⟩ => outAt m hm c t
  Φ t := held m hm c t.val
  q _ := fullShare
  owed _ := 0

theorem after_0 (c : Dev nD) (t : Fin (cfgE m hm).N) : (dats m hm 0 c).after (0 : Fin 5) t = iblk m hm c 0 t := rfl
theorem after_1 (c : Dev nD) (t : Fin (cfgE m hm).N) : (dats m hm 0 c).after (1 : Fin 5) t = iblk m hm c 1 t := rfl
theorem after_2 (c : Dev nD) (t : Fin (cfgE m hm).N) : (dats m hm 0 c).after (2 : Fin 5) t = iblk m hm c 2 t := rfl
theorem after_3 (c : Dev nD) (t : Fin (cfgE m hm).N) : (dats m hm 0 c).after (3 : Fin 5) t = iblk m hm c 3 t := rfl
theorem after_4 (c : Dev nD) (t : Fin (cfgE m hm).N) : (dats m hm 0 c).after (4 : Fin 5) t = outAt m hm c t := rfl

theorem before_0 (c : Dev nD) (t : Fin (cfgE m hm).N) (d) : (dats m hm 0 c).before (0 : Fin 5) t d = iblk m hm c 0 t :=
  ((dats m hm 0 c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (c : Dev nD) (t : Fin (cfgE m hm).N) (d) : (dats m hm 0 c).before (1 : Fin 5) t d = iblk m hm c 1 t :=
  ((dats m hm 0 c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (c : Dev nD) (t : Fin (cfgE m hm).N) (d) : (dats m hm 0 c).before (2 : Fin 5) t d = iblk m hm c 2 t :=
  ((dats m hm 0 c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (c : Dev nD) (t : Fin (cfgE m hm).N) (d) : (dats m hm 0 c).before (3 : Fin 5) t d = iblk m hm c 3 t :=
  ((dats m hm 0 c).before_in_eq_fetched (3 : Fin 5) rfl (fun _ => rfl) (fun _ _ _ => rfl) (fun t => by rw [after_3]; unfold Dat.blockOf iblk; rfl) t d).trans
    (by unfold Dat.fetched Dat.blockOf iblk; rfl)

abbrev ms0_0 (t : Fin (cfgE m hm).N) := (spec0_0).stage ((cfgE m hm).slots t 0)
abbrev hs0_0 (t : Fin (cfgE m hm).N) : (ms0_0 m hm t).IsWhole := hstage0_0 (((cfgE m hm).slots t 0).cast nbuf0_0)
abbrev ms0_1 (t : Fin (cfgE m hm).N) := (spec0_1).stage ((cfgE m hm).slots t 1)
abbrev hs0_1 (t : Fin (cfgE m hm).N) : (ms0_1 m hm t).IsWhole := hstage0_1 (((cfgE m hm).slots t 1).cast nbuf0_1)
abbrev ms0_2 (t : Fin (cfgE m hm).N) := (spec0_2).stage ((cfgE m hm).slots t 2)
abbrev hs0_2 (t : Fin (cfgE m hm).N) : (ms0_2 m hm t).IsWhole := hstage0_2 (((cfgE m hm).slots t 2).cast nbuf0_2)
abbrev ms0_3 (t : Fin (cfgE m hm).N) := (spec0_3).stage ((cfgE m hm).slots t 3)
abbrev hs0_3 (t : Fin (cfgE m hm).N) : (ms0_3 m hm t).IsWhole := hstage0_3 (((cfgE m hm).slots t 3).cast nbuf0_3)
abbrev ms0_4 (t : Fin (cfgE m hm).N) := (spec0_4).stage ((cfgE m hm).slots t 4)
abbrev hs0_4 (t : Fin (cfgE m hm).N) : (ms0_4 m hm t).IsWhole := hstage0_4 (((cfgE m hm).slots t 4).cast nbuf0_4)

/-- The body at a point, as the pipeline calls it. -/
abbrev bodyAt (t : Fin (cfgE m hm).N) : Prog (TpuEff nD τ sig (Elt F) Λ₀ .tc) PUnit :=
  cc0_expert_ffn (crd m hm t) tabE (Memref.isWhole_whole _) tabN (Memref.isWhole_whole _) (ms0_0 m hm t) (hs0_0 m hm t) (ms0_1 m hm t) (hs0_1 m hm t) (ms0_2 m hm t) (hs0_2 m hm t) (ms0_3 m hm t) (hs0_3 m hm t) (ms0_4 m hm t) (hs0_4 m hm t) (Memref.whole cc0_scratch0) (Memref.isWhole_whole _) (Memref.whole cc0_scratch1) (Memref.isWhole_whole _) (Memref.whole cc0_scratch2) (Memref.isWhole_whole _)

theorem idle_4 (t : Fin (cfgE m hm).N) : (cfgE m hm).idle (4 : Fin 5) ((cfgE m hm).grid.coords t) = false := by
  have e : (pf m).atD 1 ![0] = wordN (F := F) (inUse m) := by
    unfold Pipeline.Prefetch.Contents.atD
    rw [dif_pos (by decide)]
    exact congrArg (inUse m) (Subsingleton.elim _ _)
  show (!(k0_cond2 (grid0.coords t) ((pf m).atD 1 ![0]) == 1#1) && !(k0_cond3 (grid0.coords t) ((pf m).atD 1 ![0]) == 1#1)) = false
  rw [e]
  by_cases h : used m t.val
  · rw [(cond2_iff m t).mpr h]; rfl
  · rw [(cond3_iff m t).mpr h]; simp

/-- What the body returns at a point. -/
def bodyPost (c : Dev nD) (t : Fin (cfgE m hm).N) : sProp 𝕄 :=
  iprop((dats m hm 0 c).Φ t.succ ∗ (dats m hm 0 c).owesAt () t.succ
    ∗ owns (c : Thread nD τ) (ms0_0 m hm t) fullShare (iblk m hm c 0 t)
    ∗ owns (c : Thread nD τ) (ms0_1 m hm t) fullShare (iblk m hm c 1 t)
    ∗ owns (c : Thread nD τ) (ms0_2 m hm t) fullShare (iblk m hm c 2 t)
    ∗ owns (c : Thread nD τ) (ms0_3 m hm t) fullShare (iblk m hm c 3 t)
    ∗ owns (c : Thread nD τ) (ms0_4 m hm t) fullShare (outAt m hm c t))

set_option maxHeartbeats 4000000 in
/-- The body at a point. -/
theorem body_at (c : Dev nD) (t : Fin (cfgE m hm).N) :
    iprop((dats m hm 0 c).Φ t.castSucc ∗ (dats m hm 0 c).owesAt () t.castSucc
        ∗ (∃ d, owns (c : Thread nD τ) (ms0_0 m hm t) fullShare ((dats m hm 0 c).before (0 : Fin 5) t d))
        ∗ (∃ d, owns (c : Thread nD τ) (ms0_1 m hm t) fullShare ((dats m hm 0 c).before (1 : Fin 5) t d))
        ∗ (∃ d, owns (c : Thread nD τ) (ms0_2 m hm t) fullShare ((dats m hm 0 c).before (2 : Fin 5) t d))
        ∗ (∃ d, owns (c : Thread nD τ) (ms0_3 m hm t) fullShare ((dats m hm 0 c).before (3 : Fin 5) t d))
        ∗ (∃ d, owns (c : Thread nD τ) (ms0_4 m hm t) fullShare ((dats m hm 0 c).before (4 : Fin 5) t d)))
      ⊢ wp frame (wpE (defs₀ (F := F)) Variants.none c none) Set.univ (bodyAt m hm t) fun _ => bodyPost m hm c t := by
  unfold bodyPost
  simp only [before_0, before_1, before_2, before_3]
  rw [show (dats m hm 0 c).owesAt () t.succ = (dats m hm 0 c).owesAt () t.castSucc from rfl]
  rw [show (dats m hm 0 c).Φ t.succ = held m hm c (t.val + 1) from rfl, show (dats m hm 0 c).Φ t.castSucc = held m hm c t.val from rfl]
  unfold held
  iintro ⟨⟨⟨%a0, %a1, %a2, %hw, G0, G1, G2⟩, HT0, HT1⟩, Ho, ⟨%d0, H0⟩, ⟨%d1, H1⟩, ⟨%d2, H2⟩, ⟨%d3, H3⟩, ⟨%d4, H4⟩⟩
  have ht : t.val < 162 := Nat.lt_of_lt_of_eq t.isLt N_0
  by_cases hu : used m t.val
  · have h2 := (cond2_iff (F := F) m t).mpr hu
    have h3 : ¬k0_cond3 (grid0.coords t) (wordN (F := F) (inUse m)) = 1#1 := fun h => (cond3_iff m t).mp h hu
    have ho : outAt m hm c t = k0_pay4 (iblk m hm c 0 t) (k0_pay1 (iblk m hm c 1 t)) (k0_pay2 (iblk m hm c 2 t)) (k0_pay3 (iblk m hm c 3 t)) := by
      unfold outAt; rw [if_pos hu]
    rw [ho]
    by_cases hl : loads (F := F) (grid0.coords t) (experts m) (inUse m)
    · iapply (body_loads c (grid0.coords t) (ms0_0 m hm t) (hs0_0 m hm t) (ms0_1 m hm t) (hs0_1 m hm t) (ms0_2 m hm t) (hs0_2 m hm t) (ms0_3 m hm t) (hs0_3 m hm t) (ms0_4 m hm t) (hs0_4 m hm t) (Memref.whole cc0_scratch0) (Memref.isWhole_whole _) (Memref.whole cc0_scratch1) (Memref.isWhole_whole _) (Memref.whole cc0_scratch2) (Memref.isWhole_whole _) (experts m) (inUse m) hl h2 h3 (iblk m hm c 0 t) (iblk m hm c 1 t) (iblk m hm c 2 t) (iblk m hm c 3 t) Set.univ _)
      isplitl [H0]; · iexact H0
      isplitl [H1]; · iexact H1
      isplitl [H2]; · iexact H2
      isplitl [H3]; · iexact H3
      isplitl [HT0]; · iexact HT0
      isplitl [HT1]; · iexact HT1
      isplitl [H4]; · iexists _; iexact H4
      isplitl [G0]; · iexists _; iexact G0
      isplitl [G1]; · iexists _; iexact G1
      isplitl [G2]; · iexists _; iexact G2
      iintro ⟨H0, H1, H2, H3, HT0, HT1, H4, G0, G1, G2⟩
      isplitl [G0 G1 G2 HT0 HT1]
      · isplitl [G0 G1 G2]
        · iexists _; iexists _; iexists _
          isplitr; swap
          · isplitl [G0]; · iexact G0
            isplitl [G1]; · iexact G1
            iexact G2
          · ipureintro; intro s hs _
            obtain rfl : s = t := Fin.ext (by omega)
            exact ⟨rfl, rfl, rfl⟩
        isplitl [HT0]; · iexact HT0
        iexact HT1
      isplitl [Ho]; · iexact Ho
      isplitl [H0]; · iexact H0
      isplitl [H1]; · iexact H1
      isplitl [H2]; · iexact H2
      isplitl [H3]; · iexact H3
      iexact H4
    · have hk : t.val ≠ 0 ∧ expert m t.val = expert m (t.val - 1) := by
        rw [loads_iff] at hl
        refine ⟨fun h => hl ⟨hu, .inl h⟩, ?_⟩
        by_contra h
        exact hl ⟨hu, .inr h⟩
      have hws : weightsOf m hm c t a0 a1 a2 :=
        weights_same m hm c t ⟨t.val - 1, by have := t.isLt; omega⟩ hk.2 a0 a1 a2
          (hw ⟨t.val - 1, by have := t.isLt; omega⟩ (by show t.val - 1 + 1 = t.val; omega) (used_pred m t.val ht hu))
      obtain ⟨rfl, rfl, rfl⟩ := hws
      iapply (body_keeps c (grid0.coords t) (ms0_0 m hm t) (hs0_0 m hm t) (ms0_1 m hm t) (hs0_1 m hm t) (ms0_2 m hm t) (hs0_2 m hm t) (ms0_3 m hm t) (hs0_3 m hm t) (ms0_4 m hm t) (hs0_4 m hm t) (Memref.whole cc0_scratch0) (Memref.isWhole_whole _) (Memref.whole cc0_scratch1) (Memref.isWhole_whole _) (Memref.whole cc0_scratch2) (Memref.isWhole_whole _) (experts m) (inUse m) hl h2 h3 (iblk m hm c 0 t) (iblk m hm c 1 t) (iblk m hm c 2 t) (iblk m hm c 3 t) (k0_pay1 (iblk m hm c 1 t)) (k0_pay2 (iblk m hm c 2 t)) (k0_pay3 (iblk m hm c 3 t)) Set.univ _)
      isplitl [H0]; · iexact H0
      isplitl [H1]; · iexact H1
      isplitl [H2]; · iexact H2
      isplitl [H3]; · iexact H3
      isplitl [HT0]; · iexact HT0
      isplitl [HT1]; · iexact HT1
      isplitl [H4]; · iexists _; iexact H4
      isplitl [G0]; · iexact G0
      isplitl [G1]; · iexact G1
      isplitl [G2]; · iexact G2
      iintro ⟨H0, H1, H2, H3, HT0, HT1, H4, G0, G1, G2⟩
      isplitl [G0 G1 G2 HT0 HT1]
      · isplitl [G0 G1 G2]
        · iexists _; iexists _; iexists _
          isplitr; swap
          · isplitl [G0]; · iexact G0
            isplitl [G1]; · iexact G1
            iexact G2
          · ipureintro; intro s hs _
            obtain rfl : s = t := Fin.ext (by omega)
            exact ⟨rfl, rfl, rfl⟩
        isplitl [HT0]; · iexact HT0
        iexact HT1
      isplitl [Ho]; · iexact Ho
      isplitl [H0]; · iexact H0
      isplitl [H1]; · iexact H1
      isplitl [H2]; · iexact H2
      isplitl [H3]; · iexact H3
      iexact H4
  · have h2 : ¬k0_cond2 (grid0.coords t) (wordN (F := F) (inUse m)) = 1#1 := fun h => hu ((cond2_iff m t).mp h)
    have h3 := (cond3_iff (F := F) m t).mpr hu
    have hl : ¬loads (F := F) (grid0.coords t) (experts m) (inUse m) := fun h => hu ((loads_iff m t).mp h).1
    have ho : outAt m hm c t = k0_pay5 (F := F) := by unfold outAt; rw [if_neg hu]
    rw [ho]
    iapply (body_zeros c (grid0.coords t) (ms0_0 m hm t) (hs0_0 m hm t) (ms0_1 m hm t) (hs0_1 m hm t) (ms0_2 m hm t) (hs0_2 m hm t) (ms0_3 m hm t) (hs0_3 m hm t) (ms0_4 m hm t) (hs0_4 m hm t) (Memref.whole cc0_scratch0) (Memref.isWhole_whole _) (Memref.whole cc0_scratch1) (Memref.isWhole_whole _) (Memref.whole cc0_scratch2) (Memref.isWhole_whole _) (experts m) (inUse m) hl h2 h3 (iblk m hm c 0 t) (iblk m hm c 1 t) (iblk m hm c 2 t) (iblk m hm c 3 t) a0 a1 a2 Set.univ _)
    isplitl [H0]; · iexact H0
    isplitl [H1]; · iexact H1
    isplitl [H2]; · iexact H2
    isplitl [H3]; · iexact H3
    isplitl [HT0]; · iexact HT0
    isplitl [HT1]; · iexact HT1
    isplitl [H4]; · iexists _; iexact H4
    isplitl [G0]; · iexact G0
    isplitl [G1]; · iexact G1
    isplitl [G2]; · iexact G2
    iintro ⟨H0, H1, H2, H3, HT0, HT1, H4, G0, G1, G2⟩
    isplitl [G0 G1 G2 HT0 HT1]
    · isplitl [G0 G1 G2]
      · iexists _; iexists _; iexists _
        isplitr; swap
        · isplitl [G0]; · iexact G0
          isplitl [G1]; · iexact G1
          iexact G2
        · ipureintro; intro s hs h
          obtain rfl : s = t := Fin.ext (by omega)
          exact absurd h hu
      isplitl [HT0]; · iexact HT0
      iexact HT1
    isplitl [Ho]; · iexact Ho
    isplitl [H0]; · iexact H0
    isplitl [H1]; · iexact H1
    isplitl [H2]; · iexact H2
    isplitl [H3]; · iexact H3
    iexact H4

theorem obligation (c : Dev nD) : BodyObligation (dats m hm 0 c) (defs₀ (F := F)) Variants.none () Set.univ := fun t => by
  rw [bigSep_W0, bigSep_W0]
  have i4 := idle_4 m hm t
  rewrite [i4]
  exact body_at m hm c t

/-! ## The launch -/

def u₀ (hm : InRange m) : UR sig nD τ :=
  initOf (Pipeline.cells (pcsE m hm) ((launch0 (F := F)).cellOf_inj fun _ => adm m hm))
    (Pipeline.launchToks (pcsE m hm) ((launch0 (F := F)).cellOf_inj fun _ => adm m hm))

theorem share_eq (c : Dev nD) (w : Fin (cfgE m hm).W) : (dats m hm 0 c).share w = fullShare := by unfold Dat.share; split <;> rfl

omit hm in
/-- The tables as the launch hands them over. -/
theorem tables_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem held_in (c : Dev nD) :
    iprop(BI.emp ∗ Pipeline.prefHeld pre0 c (fun _ => fullShare.right) (adm m hm).1 ∗ Pipeline.scopedRest spec0 c) ⊢ (dats m hm 0 c).Φ 0 := by
  rw [tables_eq, scopedRest0_eq, show (dats m hm 0 c).Φ 0 = held m hm c 0 from rfl]
  unfold held
  simp only [owns_whole]
  iintro ⟨-, ⟨HT0, HT1⟩, ⟨%a0, HS0⟩, ⟨%a1, HS1⟩, ⟨%a2, HS2⟩⟩
  isplitl [HS0 HS1 HS2]
  · iexists a0; iexists a1; iexists a2
    isplitr; swap
    · isplitl [HS0]; · iexact HS0
      isplitl [HS1]; · iexact HS1
      iexact HS2
    · ipureintro; intro s hs; omega
  isplitl [HT0]
  · iexact HT0
  iexact HT1

theorem held_out (c : Dev nD) : (dats m hm 0 c).Φ (Fin.last (cfgE m hm).N) ⊢ iprop(BI.emp ∗ Pipeline.scopedRest spec0 c) := by
  rw [scopedRest0_eq, show (dats m hm 0 c).Φ (Fin.last (cfgE m hm).N) = held m hm c (cfgE m hm).N from rfl]
  unfold held
  simp only [owns_whole]
  iintro ⟨⟨%a0, %a1, %a2, -, HS0, HS1, HS2⟩, -, -⟩
  isplitr; · iempintro
  isplitl [HS0]
  · iexists a0; iexact HS0
  isplitl [HS1]
  · iexists a1; iexact HS1
  iexists a2; iexact HS2

/-- What the run ends with: every array at what the pipeline computes, every table as it was. -/
def Ends (hm : InRange m) : PUnit × MemSt nD τ sig (Elt F) → Prop := fun r =>
  ∀ c : Dev nD, (∀ w : Fin (cfgE m hm).W, r.2.mem (((cfgE m hm).win w).arr.view.loc (c : Thread nD τ)) = (dats m hm 0 c).arrAt w (cfgE m hm).N)
    ∧ ∀ j, r.2.mem ((c : Thread nD τ).loc (pre0.ref j)) = (adm m hm).1 j

theorem tables_at (c : Dev nD) (j : Fin 2) : m ((c : Thread nD τ).loc (pre0.ref j)) = (adm m hm).1 j := by
  fin_cases j
  · exact experts_at m c
  · exact inUse_at m c

set_option backward.isDefEq.respectTransparency.types false in
set_option maxHeartbeats 4000000 in
/-- The launch: it ends, with the arrays the pipeline computes and every counter at zero. -/
theorem run : θ_run (defs (F := F)) (onTc (τ := τ) (main (F := F))) (s₀ m ρ) (fun r => Ends m hm r ∧ r.2.sem = fun _ => 0) :=
  Pipeline.θ_run_region_noSem_pf_quiescent pcfgs (fun _ => adm m hm) (dats m hm) () ((launch0 (F := F)).cellOf_inj fun _ => adm m hm) (0 : Fin 1)
    (launch0 (F := F)).win.to₀ (launch0 (F := F)).pre EP defs₀ Variants.none m ρ main
    (hbody := fun c => (obligation m hm c).loose) (hne := (launch0 (F := F)).block_pos)
    (harr := (launch0 (F := F)).arr_whole) (hstage := (launch0 (F := F)).stage_whole) (howed := fun _ _ => rfl)
    (u₀ := u₀ m hm) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcsE m hm) (dats m hm) 0 (launch0 (F := F)).win.arr_inj c (launch0 (F := F)).arr_whole
      (share_eq m hm c) _ _ fun _ => rfl)
    (hpf := tables_at m hm)
    (X := fun _ => iprop(emp)) (Y := fun _ => iprop(emp)) (Z := fun _ => iprop(emp))
    (hX := fun c => by rw [unscopedRestP0_eq]; iintro -; isplitr <;> iempintro)
    (hin := held_in m hm)
    (hout := held_out m hm)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run ends with every argument as it was and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 0).trans (tables_at m hm c 0).symm, ((h.1 c).2 1).trans (tables_at m hm c 1).symm,
    ((h.1 c).1 (0 : Fin 5)).trans ((dats m hm 0 c).arrAt_in (0 : Fin 5) rfl _), ((h.1 c).1 (1 : Fin 5)).trans ((dats m hm 0 c).arrAt_in (1 : Fin 5) rfl _),
    ((h.1 c).1 (2 : Fin 5)).trans ((dats m hm 0 c).arrAt_in (2 : Fin 5) rfl _), ((h.1 c).1 (3 : Fin 5)).trans ((dats m hm 0 c).arrAt_in (3 : Fin 5) rfl _)⟩, h.2⟩) (run m ρ hm)

end Cert.Kernel4Ideal.Body

end
-- ==== Proof.ExpertsRead.lean ====
/- The precondition read: where it holds, every block names one of the 32 experts. -/
module

public import proofs.«01_k».proof.Proof.Gen.Pre_experts
public import Idealize.ShloMosaic.Lib.ReduceAll
public import Idealize.ShloMosaic.Lib.WordCmp

@[expose] public section

set_option maxRecDepth 16384

noncomputable section

namespace Cert.Pre_experts.Read

open Idealize.ShloMosaic
open Cert.Pre_experts Cert.Pre_experts.Gen

theorem and_both {a b : BitVec 1} (h : IntOp.andi a b = 1#1) : a = 1#1 ∧ b = 1#1 := by
  revert a b; decide

instance : Subsingleton S_.Idx := ⟨fun a b => funext fun i => i.elim0⟩

/-- A word that is not negative and below 32, the comparisons being signed. -/
theorem below (x : BitVec 32) (h0 : IntOp.cmpi .sge x 0#32 = 1#1) (h1 : IntOp.cmpi .slt x 32#32 = 1#1) : x.toNat < 32 := by
  have e0 : BitVec.sle 0#32 x = true := by
    have h : BitVec.ofBool (BitVec.sle 0#32 x) = 1#1 := h0
    revert h; cases BitVec.sle 0#32 x <;> decide
  have e1 : BitVec.slt x 32#32 = true := by
    have h : BitVec.ofBool (BitVec.slt x 32#32) = 1#1 := h1
    revert h; cases BitVec.slt x 32#32 <;> decide
  rw [BitVec.sle_iff_toInt_le] at e0
  rw [BitVec.slt_iff_toInt_lt] at e1
  have f0 : (0#32 : BitVec 32).toInt = 0 := by decide
  have f1 : (32#32 : BitVec 32).toInt = 32 := by decide
  rw [f0] at e0
  rw [f1] at e1
  have hx := x.isLt
  rw [BitVec.toInt_eq_toNat_cond] at e0 e1
  split at e0 <;> omega

/-- Every block's expert is in range. -/
theorem inRange {F : FTy → Type} [FloatOps F] (a0 : IVec S162 32) (a1 : IVec S1 32) (a2 : FVec F S41472x2048 .bf16) (a3 a4 : FVec F S32x2048x512 .f32) (a5 : FVec F S32x512x2048 .f32)
    (h : fn (F := F) a0 a1 a2 a3 a4 a5 = fun _ => 1#1) (i : S162.Idx) : (a0 i).toNat < 32 := by
  have e := congrFun h (Shape.Idx.first h_S_)
  unfold fn at e
  dsimp only at e
  obtain ⟨h0, h1⟩ := and_both (Host.reduce_andi_all _ _ _ _ _ e i)
  exact below _ h0 h1

end Cert.Pre_experts.Read

end
-- ==== Proof.ExpertsValue.lean ====
/- The experts: every grid point writes one block of the reference's array. -/
module

public import proofs.«01_k».proof.Proof.ExpertsRunIdeal
public import proofs.«01_k».proof.Proof.ExpertsRead
public import proofs.«01_k».proof.Proof.Gen.Reference4Ideal.Run
public import proofs.«01_k».proof.Defs
public import proofs.«01_k».proof.Proof.Gen.Kernel4
public import Idealize.ShloMosaic.Lib.Pipeline.ValueKit
public import Idealize.ShloMosaic.Lib.Quiescent
public import Idealize.ShloMosaic.Lib.Claim
public import Idealize.ShloMosaic.Lib.Routing.OpsPair

@[expose] public section

set_option maxRecDepth 16384

noncomputable section

namespace Cert.Reference4Ideal.Terms

open Idealize.ShloMosaic Idealize.ShloMosaic.TcCoe Idealize.SL.Sem
open Cert.Reference4Ideal Cert.Reference4Ideal.Gen

/-- The index table the reference gathers by. -/
def table (T : IVec S162 32) : IVec S162x1 32 :=
  broadcastInDim S162x1 ![0] bcast_S162_S162x1_0 (select (cmpi .slt T (broadcastInDim S162 ![] bcast_S_S162 (constantI S_ 32 0#32)))
    (addi T (broadcastInDim S162 ![] bcast_S_S162 (constantI S_ 32 32#32))) T)

/-- In range the table is the blocks' experts. -/
theorem table_at (T : IVec S162 32) (hT : ∀ x, (T x).toNat < 32) (b : Fin 162) : table T (ix2 b (0 : Fin 1)) = T (ix1 b) := by
  unfold table
  pointwise
  exact Routing.wrap_of_lt _ _ (Nat.lt_trans (hT _) (by decide))

def upper (w : FVec Ideal S32x2048x512 .f32) (T : IVec S162 32) : FVec Ideal S162x2048x512 .f32 :=
  Host.gather gather_S32x2048x512_S162x1_S162x2048x512_12_0_n_n_0_1_12048512 w (table T)

def lower (w : FVec Ideal S32x512x2048 .f32) (T : IVec S162 32) : FVec Ideal S162x512x2048 .f32 :=
  Host.gather gather_S32x512x2048_S162x1_S162x512x2048_12_0_n_n_0_1_15122048 w (table T)

/-- A block's slice of an array of the experts' weights. -/
theorem upper_at (w : FVec Ideal S32x2048x512 .f32) (T : IVec S162 32) (hT : ∀ x, (T x).toNat < 32) (b : Fin 162) (d : Fin 2048) (f : Fin 512) :
    upper w T (ix3 b d f) = w (ix3 (⟨(T (ix1 b)).toNat, hT _⟩ : Fin 32) d f) := by
  unfold upper Host.gather
  refine congrArg w (funext fun a => Fin.ext ?_)
  have h0 : (gather_S32x2048x512_S162x1_S162x2048x512_12_0_n_n_0_1_12048512).start (ix3 b d f) (table T) 0 = (T (ix1 b)).toNat := by
    unfold GatherDims.start
    rw [dif_pos (show (0 : Fin 3) ∈ (gather_S32x2048x512_S162x1_S162x2048x512_12_0_n_n_0_1_12048512).startIndexMap from List.mem_singleton.mpr rfl)]
    have hs : (gather_S32x2048x512_S162x1_S162x2048x512_12_0_n_n_0_1_12048512).siIdx (ix3 b d f) ⟨List.idxOf (0 : Fin 3) (gather_S32x2048x512_S162x1_S162x2048x512_12_0_n_n_0_1_12048512).startIndexMap,
        List.idxOf_lt_length_iff.2 (List.mem_singleton.mpr rfl)⟩ = ix2 b (0 : Fin 1) := by
      funext k; refine Fin.ext ?_
      match k with
      | ⟨0, _⟩ => rfl
      | ⟨1, _⟩ => rfl
    rw [hs, table_at T hT b]
    have h := hT (ix1 b)
    rw [BitVec.toInt_eq_toNat_of_lt (by omega)]
    show min ((T (ix1 b)).toNat : ℤ).toNat (32 - 1) = (T (ix1 b)).toNat
    omega
  match a with
  | ⟨0, _⟩ =>
    show (gather_S32x2048x512_S162x1_S162x2048x512_12_0_n_n_0_1_12048512).start (ix3 b d f) (table T) 0 + (gather_S32x2048x512_S162x1_S162x2048x512_12_0_n_n_0_1_12048512).batchCoord (ix3 b d f) 0 + (gather_S32x2048x512_S162x1_S162x2048x512_12_0_n_n_0_1_12048512).offCoord (ix3 b d f) 0 = (T (ix1 b)).toNat
    rw [h0]; rfl
  | ⟨1, _⟩ =>
    show (gather_S32x2048x512_S162x1_S162x2048x512_12_0_n_n_0_1_12048512).start (ix3 b d f) (table T) 1 + (gather_S32x2048x512_S162x1_S162x2048x512_12_0_n_n_0_1_12048512).batchCoord (ix3 b d f) 1 + (gather_S32x2048x512_S162x1_S162x2048x512_12_0_n_n_0_1_12048512).offCoord (ix3 b d f) 1 = d.val
    have e : (gather_S32x2048x512_S162x1_S162x2048x512_12_0_n_n_0_1_12048512).start (ix3 b d f) (table T) 1 = 0 := rfl
    rw [e]; exact Nat.zero_add _
  | ⟨2, _⟩ =>
    show (gather_S32x2048x512_S162x1_S162x2048x512_12_0_n_n_0_1_12048512).start (ix3 b d f) (table T) 2 + (gather_S32x2048x512_S162x1_S162x2048x512_12_0_n_n_0_1_12048512).batchCoord (ix3 b d f) 2 + (gather_S32x2048x512_S162x1_S162x2048x512_12_0_n_n_0_1_12048512).offCoord (ix3 b d f) 2 = f.val
    have e : (gather_S32x2048x512_S162x1_S162x2048x512_12_0_n_n_0_1_12048512).start (ix3 b d f) (table T) 2 = 0 := rfl
    rw [e]; exact Nat.zero_add _

/-- A block's slice of an array of the experts' weights. -/
theorem lower_at (w : FVec Ideal S32x512x2048 .f32) (T : IVec S162 32) (hT : ∀ x, (T x).toNat < 32) (b : Fin 162) (d : Fin 512) (f : Fin 2048) :
    lower w T (ix3 b d f) = w (ix3 (⟨(T (ix1 b)).toNat, hT _⟩ : Fin 32) d f) := by
  unfold lower Host.gather
  refine congrArg w (funext fun a => Fin.ext ?_)
  have h0 : (gather_S32x512x2048_S162x1_S162x512x2048_12_0_n_n_0_1_15122048).start (ix3 b d f) (table T) 0 = (T (ix1 b)).toNat := by
    unfold GatherDims.start
    rw [dif_pos (show (0 : Fin 3) ∈ (gather_S32x512x2048_S162x1_S162x512x2048_12_0_n_n_0_1_15122048).startIndexMap from List.mem_singleton.mpr rfl)]
    have hs : (gather_S32x512x2048_S162x1_S162x512x2048_12_0_n_n_0_1_15122048).siIdx (ix3 b d f) ⟨List.idxOf (0 : Fin 3) (gather_S32x512x2048_S162x1_S162x512x2048_12_0_n_n_0_1_15122048).startIndexMap,
        List.idxOf_lt_length_iff.2 (List.mem_singleton.mpr rfl)⟩ = ix2 b (0 : Fin 1) := by
      funext k; refine Fin.ext ?_
      match k with
      | ⟨0, _⟩ => rfl
      | ⟨1, _⟩ => rfl
    rw [hs, table_at T hT b]
    have h := hT (ix1 b)
    rw [BitVec.toInt_eq_toNat_of_lt (by omega)]
    show min ((T (ix1 b)).toNat : ℤ).toNat (32 - 1) = (T (ix1 b)).toNat
    omega
  match a with
  | ⟨0, _⟩ =>
    show (gather_S32x512x2048_S162x1_S162x512x2048_12_0_n_n_0_1_15122048).start (ix3 b d f) (table T) 0 + (gather_S32x512x2048_S162x1_S162x512x2048_12_0_n_n_0_1_15122048).batchCoord (ix3 b d f) 0 + (gather_S32x512x2048_S162x1_S162x512x2048_12_0_n_n_0_1_15122048).offCoord (ix3 b d f) 0 = (T (ix1 b)).toNat
    rw [h0]; rfl
  | ⟨1, _⟩ =>
    show (gather_S32x512x2048_S162x1_S162x512x2048_12_0_n_n_0_1_15122048).start (ix3 b d f) (table T) 1 + (gather_S32x512x2048_S162x1_S162x512x2048_12_0_n_n_0_1_15122048).batchCoord (ix3 b d f) 1 + (gather_S32x512x2048_S162x1_S162x512x2048_12_0_n_n_0_1_15122048).offCoord (ix3 b d f) 1 = d.val
    have e : (gather_S32x512x2048_S162x1_S162x512x2048_12_0_n_n_0_1_15122048).start (ix3 b d f) (table T) 1 = 0 := rfl
    rw [e]; exact Nat.zero_add _
  | ⟨2, _⟩ =>
    show (gather_S32x512x2048_S162x1_S162x512x2048_12_0_n_n_0_1_15122048).start (ix3 b d f) (table T) 2 + (gather_S32x512x2048_S162x1_S162x512x2048_12_0_n_n_0_1_15122048).batchCoord (ix3 b d f) 2 + (gather_S32x512x2048_S162x1_S162x512x2048_12_0_n_n_0_1_15122048).offCoord (ix3 b d f) 2 = f.val
    have e : (gather_S32x512x2048_S162x1_S162x512x2048_12_0_n_n_0_1_15122048).start (ix3 b d f) (table T) 2 = 0 := rfl
    rw [e]; exact Nat.zero_add _

/-- The reference's term over its arguments, by blocks. -/
def blocks (T : IVec S162 32) (N : IVec S1 32) (x : FVec Ideal S41472x2048 .bf16) (w1 w3 : FVec Ideal S32x2048x512 .f32) (w2 : FVec Ideal S32x512x2048 .f32) :
    FVec Ideal S162x256x2048 .f32 :=
  let xb := shapeCast S162x256x2048 (extf .f32 x bitsLt_bf16_f32) shapeCasts_S41472x2048_S162x256x2048
  let a := Host.dotGeneral dot_S162x256x2048_S162x2048x512_S162x256x512_2_1_1_2_0_0 none xb (upper w1 T)
  let one := broadcastInDim S162x256x512 ![] bcast_S_S162x256x512 (constant S_ .f32 0x3F800000#32)
  select (broadcastInDim S162x256x2048 ![0, 1, 2] bcast_S162x1x1_S162x256x2048_0_1_2
      (cmpi .slt (broadcastInDim S162x1x1 ![0] bcast_S162_S162x1x1_0 (iotaInDim S162 32 0)) (broadcastInDim S162x1x1 ![] bcast_S_S162x1x1 (shapeCast S_ N shapeCasts_S1_S_))))
    (Host.dotGeneral dot_S162x256x512_S162x512x2048_S162x256x2048_2_1_1_2_0_0 none
      (mulf (mulf a (Host.divf one (addf one (Host.exp (Host.negf a)))))
        (Host.dotGeneral dot_S162x256x2048_S162x2048x512_S162x256x512_2_1_1_2_0_0 none xb (upper w3 T))) (lower w2 T))
    (broadcastInDim S162x256x2048 ![] bcast_S_S162x256x2048 (id (constant S_ .f32 0x00000000#32)))

/-- The reference's term over its arguments. -/
def ref (T : IVec S162 32) (N : IVec S1 32) (x : FVec Ideal S41472x2048 .bf16) (w1 w3 : FVec Ideal S32x2048x512 .f32) (w2 : FVec Ideal S32x512x2048 .f32) :
    FVec Ideal S41472x2048 .f32 := shapeCast S41472x2048 (blocks T N x w1 w3 w2) shapeCasts_S162x256x2048_S41472x2048

/-- A product of a row of tokens with a column of an expert's weights. -/
def into (x : FVec Ideal S41472x2048 .bf16) (w : FVec Ideal S32x2048x512 .f32) (e : Fin 32) (r : Fin 41472) (f : Fin 512) : EReal :=
  ∑ d : Fin 2048, x (ix2 r d) * w (ix3 e d f)

/-- A row of a block in use, through its expert's gated feed-forward part. -/
def gated (x : FVec Ideal S41472x2048 .bf16) (w1 w3 : FVec Ideal S32x2048x512 .f32) (w2 : FVec Ideal S32x512x2048 .f32) (e : Fin 32) (r : Fin 41472) (j : Fin 2048) : EReal :=
  ∑ f : Fin 512, into x w1 e r f * Ideal.div 1 (1 + Ideal.exp (-into x w1 e r f)) * into x w3 e r f * w2 (ix3 e f j)

/-- An entry of the reference's array. -/
theorem ref_at (T : IVec S162 32) (hT : ∀ x, (T x).toNat < 32) (N : IVec S1 32) (x : FVec Ideal S41472x2048 .bf16) (w1 w3 : FVec Ideal S32x2048x512 .f32) (w2 : FVec Ideal S32x512x2048 .f32)
    (b : Fin 162) (r : Fin 256) (j : Fin 2048) : ref T N x w1 w3 w2 (ix2 (⟨b.val * 256 + r.val, by omega⟩ : Fin 41472) j)
      = if IntOp.cmpi .slt (BitVec.ofNat 32 b.val) (N (ix1 (0 : Fin 1))) = 1#1
        then gated x w1 w3 w2 ⟨(T (ix1 b)).toNat, hT _⟩ ⟨b.val * 256 + r.val, by omega⟩ j else 0 := by
  have e : ref T N x w1 w3 w2 (ix2 (⟨b.val * 256 + r.val, by omega⟩ : Fin 41472) j) = blocks T N x w1 w3 w2 (ix3 b r j) := by
    unfold ref
    generalize blocks T N x w1 w3 w2 = z
    pointwise
  rw [e]
  unfold blocks
  pointwise
  simp only [upper_at _ T hT, lower_at _ T hT]
  unfold Scalar.select gated into
  have z : (id (constant (F := Ideal) S_ .f32 0x00000000#32)) ix0 = (0 : EReal) := by
    exact Ideal.ofBits_zero_f32
  rw [z]; rfl

end Cert.Reference4Ideal.Terms

namespace Cert.Kernel4Ideal.Body

open Cert.Kernel4Ideal Cert.Kernel4Ideal.Gen
open Idealize.ShloMosaic Idealize.ShloMosaic.TcCoe Idealize.SL.Sem
open Idealize.ShloMosaic.Pipeline (Dat Cfg Window)
open Cert.Reference4Ideal.Terms

variable (m : (ℓ : Loc nD τ sig) → Buf (Elt Ideal) ℓ) (hm : InRange m)

/-- The reference's term over the kernel's arguments. -/
def want (c : Dev nD) : S41472x2048.Idx → EReal :=
  ref (experts m) (inUse m) (m ((c : Thread nD τ).loc main_arg2)) (m ((c : Thread nD τ).loc main_arg3)) (m ((c : Thread nD τ).loc main_arg4)) (m ((c : Thread nD τ).loc main_arg5))

include hm in
theorem expert_lt (n : ℕ) : (expert m n).toNat < 32 := by
  unfold expert; split
  · exact hm _
  · decide

/-- A row of a block of tokens. -/
theorem tokens_at (c : Dev nD) (t : Fin (cfgE m hm).N) (r : Fin 256) (d : Fin 2048) (h : t.val * 256 + r.val < 41472) :
    (iblk m hm c 0 t : S256x2048.Idx → EReal) (ix2 r d) = m ((c : Thread nD τ).loc main_arg2) (ix2 (⟨t.val * 256 + r.val, h⟩ : Fin 41472) d) := by
  obtain ⟨e, -⟩ := idx m hm t
  refine congrArg (m _) (funext fun a => Fin.ext ?_)
  show ((cfgE m hm).win 0).index t a * _ + _ = _
  rw [e]
  match a with
  | ⟨0, _⟩ => show t.val * 256 + 1 * r.val = t.val * 256 + r.val; omega
  | ⟨1, _⟩ => show 0 * 2048 + 1 * d.val = d.val; omega

/-- An entry of the block of an expert's weights. -/
theorem weights1_at (c : Dev nD) (t : Fin (cfgE m hm).N) (u : Fin 1) (d : Fin 2048) (f : Fin 512) :
    (iblk m hm c 1 t : S1x2048x512.Idx → EReal) (ix3 u d f) = m ((c : Thread nD τ).loc main_arg3) (ix3 (⟨(expert m t.val).toNat, expert_lt m hm _⟩ : Fin 32) d f) := by
  obtain ⟨-, e, -⟩ := idx m hm t
  have hu : u.val = 0 := by omega
  refine congrArg (m _) (funext fun a => Fin.ext ?_)
  show ((cfgE m hm).win 1).index t a * _ + _ = _
  rw [e]
  match a with
  | ⟨0, _⟩ => show (expert m t.val).toNat * 1 + 1 * u.val = (expert m t.val).toNat; omega
  | ⟨1, _⟩ => show 0 * 2048 + 1 * d.val = d.val; omega
  | ⟨2, _⟩ => show 0 * 512 + 1 * f.val = f.val; omega

/-- An entry of the block of an expert's weights. -/
theorem weights2_at (c : Dev nD) (t : Fin (cfgE m hm).N) (u : Fin 1) (d : Fin 2048) (f : Fin 512) :
    (iblk m hm c 2 t : S1x2048x512.Idx → EReal) (ix3 u d f) = m ((c : Thread nD τ).loc main_arg4) (ix3 (⟨(expert m t.val).toNat, expert_lt m hm _⟩ : Fin 32) d f) := by
  obtain ⟨-, -, e, -⟩ := idx m hm t
  have hu : u.val = 0 := by omega
  refine congrArg (m _) (funext fun a => Fin.ext ?_)
  show ((cfgE m hm).win 2).index t a * _ + _ = _
  rw [e]
  match a with
  | ⟨0, _⟩ => show (expert m t.val).toNat * 1 + 1 * u.val = (expert m t.val).toNat; omega
  | ⟨1, _⟩ => show 0 * 2048 + 1 * d.val = d.val; omega
  | ⟨2, _⟩ => show 0 * 512 + 1 * f.val = f.val; omega

/-- An entry of the block of an expert's weights. -/
theorem weights3_at (c : Dev nD) (t : Fin (cfgE m hm).N) (u : Fin 1) (d : Fin 512) (f : Fin 2048) :
    (iblk m hm c 3 t : S1x512x2048.Idx → EReal) (ix3 u d f) = m ((c : Thread nD τ).loc main_arg5) (ix3 (⟨(expert m t.val).toNat, expert_lt m hm _⟩ : Fin 32) d f) := by
  obtain ⟨-, -, -, e, -⟩ := idx m hm t
  have hu : u.val = 0 := by omega
  refine congrArg (m _) (funext fun a => Fin.ext ?_)
  show ((cfgE m hm).win 3).index t a * _ + _ = _
  rw [e]
  match a with
  | ⟨0, _⟩ => show (expert m t.val).toNat * 1 + 1 * u.val = (expert m t.val).toNat; omega
  | ⟨1, _⟩ => show 0 * 512 + 1 * d.val = d.val; omega
  | ⟨2, _⟩ => show 0 * 2048 + 1 * f.val = f.val; omega

/-- The body's value at an entry of its block, over the blocks read. -/
theorem pay_at (x : Vec Ideal S256x2048 .bf16) (w1 w3 : Vec Ideal S1x2048x512 .f32) (w2 : Vec Ideal S1x512x2048 .f32) (r : Fin 256) (j : Fin 2048) :
    k0_pay4 x (k0_pay1 w1) (k0_pay2 w3) (k0_pay3 w2) (ix2 r j)
      = ∑ f : Fin 512, (∑ d : Fin 2048, x (ix2 r d) * w1 (ix3 (0 : Fin 1) d f)) * Ideal.div 1 (1 + Ideal.exp (-∑ d : Fin 2048, x (ix2 r d) * w1 (ix3 (0 : Fin 1) d f)))
          * (∑ d : Fin 2048, x (ix2 r d) * w3 (ix3 (0 : Fin 1) d f)) * w2 (ix3 (0 : Fin 1) f j) := by
  pointwise [k0_pay4, k0_pay1, k0_pay2, k0_pay3]
  rfl

/-- The value a point leaves is the reference's. -/
theorem point (c : Dev nD) (t : Fin (cfgE m hm).N) (r : Fin 256) (j : Fin 2048) (h : t.val * 256 + r.val < 41472) :
    outAt m hm c t (ix2 r j) = want m c (ix2 (⟨t.val * 256 + r.val, h⟩ : Fin 41472) j) := by
  have ht : t.val < 162 := Nat.lt_of_lt_of_eq t.isLt N_0
  have hx : expert m t.val = experts m (ix1 (⟨t.val, ht⟩ : Fin 162)) := by
    rw [expert, dif_pos ht]; exact congrArg (experts m) (place_ext _ _ rfl)
  have hn : count m = inUse m (ix1 (0 : Fin 1)) := congrArg (inUse m) (Subsingleton.elim _ _)
  refine Eq.trans ?_ (ref_at (experts m) hm (inUse m) _ _ _ _ ⟨t.val, ht⟩ r j).symm
  unfold outAt
  by_cases hu : used m t.val
  · have hu' : IntOp.cmpi .slt (BitVec.ofNat 32 t.val) (inUse m (ix1 (0 : Fin 1))) = 1#1 := hn ▸ hu
    rw [if_pos hu]
    refine Eq.trans ?_ (if_pos hu').symm
    refine (pay_at _ _ _ _ r j).trans ?_
    unfold gated into
    simp only [tokens_at m hm c t r _ h, weights1_at m hm c t, weights2_at m hm c t, weights3_at m hm c t, hx]
  · have hu' : ¬IntOp.cmpi .slt (BitVec.ofNat 32 t.val) (inUse m (ix1 (0 : Fin 1))) = 1#1 := hn ▸ hu
    rw [if_neg hu]
    refine Eq.trans ?_ (if_neg hu').symm
    exact Ideal.ofBits_zero_f32

/-- Every point writes its block back: the next point's is another. -/
theorem flush_all (t : Fin (cfgE m hm).N) : ((cfgE m hm).win (4 : Fin 5)).flush t = true := by
  have h : ∀ t : Fin grid0.N, Pipeline.Window.flushOf grid0 true cc0_transform_0 t = true := by decide +kernel
  exact h t

/-- A block's index in the output array. -/
theorem place4 (t : Fin (cfgE m hm).N) (r : Fin 256) (j : Fin 2048) (h : t.val * 256 + r.val < 41472) :
    ((((cfgE m hm).win (4 : Fin 5)).blk t).view.emb (ix2 r j : S256x2048.Idx) : S41472x2048.Idx) = ix2 (⟨t.val * 256 + r.val, h⟩ : Fin 41472) j := by
  obtain ⟨-, -, -, -, e⟩ := idx m hm t
  funext a; refine Fin.ext ?_
  show ((cfgE m hm).win 4).index t a * _ + _ = _
  rw [e]
  match a with
  | ⟨0, _⟩ => show t.val * 256 + 1 * r.val = t.val * 256 + r.val; omega
  | ⟨1, _⟩ => show 0 * 2048 + 1 * j.val = j.val; omega

theorem row_lt (t : Fin (cfgE m hm).N) (r : Fin 256) : t.val * 256 + r.val < 41472 := by
  have ht : t.val < 162 := Nat.lt_of_lt_of_eq t.isLt N_0
  omega

/-- The output array is the reference's. -/
theorem final (c : Dev nD) : (dats m hm 0 c).arrAt (4 : Fin 5) (cfgE m hm).N = want m c := by
  refine (dats m hm 0 c).arrAt_eq_of_emb (4 : Fin 5) _ (fun t _ y => ?_) (fun i => ?_)
  · obtain ⟨r, j, rfl⟩ : ∃ (r : Fin 256) (j : Fin 2048), y = (ix2 r j : S256x2048.Idx) := ⟨y 0, y 1, eq_ix2 (y : S256x2048.Idx)⟩
    exact (point m hm c t r j (row_lt m hm t r)).trans (congrArg (want m c) (place4 m hm t r j (row_lt m hm t r)).symm)
  · obtain ⟨x, j, rfl⟩ : ∃ (x : Fin 41472) (j : Fin 2048), i = (ix2 x j : S41472x2048.Idx) := ⟨i 0, i 1, eq_ix2 (i : S41472x2048.Idx)⟩
    have hN : (cfgE m hm).N = 162 := N_0
    have hx := x.isLt
    let t : Fin (cfgE m hm).N := ⟨x.val / 256, by omega⟩
    let r : Fin 256 := ⟨x.val % 256, by omega⟩
    have e : (ix2 x j : S41472x2048.Idx) = (((cfgE m hm).win (4 : Fin 5)).blk t).view.emb (ix2 r j : S256x2048.Idx) := by
      rw [place4 m hm t r j (row_lt m hm t r)]
      refine congrArg (fun z : Fin 41472 => ix2 z j) (Fin.ext ?_)
      show x.val = x.val / 256 * 256 + x.val % 256
      omega
    refine ⟨t, flush_all m hm t, ?_⟩
    show (ix2 x j : S41472x2048.Idx) ∈ _
    rw [e]
    exact View.emb_mem_set _ _

end Cert.Kernel4Ideal.Body

namespace Cert.Proof

open Idealize.ShloMosaic Idealize.ShloMosaic.TcCoe Idealize.SL.Sem

theorem algebraic4 : Cert.algebraic_Kernel4Ideal_Reference4Ideal (hKernel4Ideal := Cert.Kernel4Ideal.Gen.facts)
    (hReference4Ideal := Cert.Reference4Ideal.Gen.facts) (hPre_experts := Cert.Pre_experts.Gen.facts) := by
  intro m g m' g' hpre hagree
  have hm : Cert.Kernel4Ideal.Body.InRange m := fun x => Cert.Pre_experts.Read.inRange _ _ _ _ _ _ (hpre 0) x
  refine ⟨fun c => Cert.Kernel4Ideal.Body.want m c, ?_, ?_⟩
  · refine (θ_run _ _ _).mono (fun r h c => ⟨?_, ?_⟩) (θ_run_and (Cert.Kernel4Ideal.Body.run m g hm) (Cert.Kernel4Ideal.Body.frame m g hm))
    · exact ((h.1.1 c).1 (4 : Fin 5)).trans (Cert.Kernel4Ideal.Body.final m hm c)
    · exact h.2.1 c
  · refine (θ_run _ _ _).mono (fun r h c => ⟨?_, (h c).2⟩) (Cert.Reference4Ideal.Value.run m' g')
    obtain ⟨g0, g1, g2, g3, g4, g5⟩ := hagree c
    rw [(h c).1]
    show _ = Cert.Kernel4Ideal.Body.want m c
    unfold Cert.Kernel4Ideal.Body.want
    rw [← Cert.Kernel4Ideal.Body.experts_at m c, ← Cert.Kernel4Ideal.Body.inUse_at m c, ← g0, ← g1, ← g2, ← g3, ← g4, ← g5]
    rfl

theorem frame_reference4 : Cert.quiescent_Reference4Ideal (hReference4Ideal := Cert.Reference4Ideal.Gen.facts) := fun m g _ =>
  (θ_run _ _ _).mono (fun r h => ⟨fun c => (h c).2, sem_eq_zero_of_no_sems rfl r.2⟩) (Cert.Reference4Ideal.Value.run m g)

end Cert.Proof

end
-- ==== Proof.PrepBody.lean ====
/- The preparation of queries and keys: what the body computes of a block, lane by lane. -/
module

public import proofs.«01_k».proof.Proof.Gen.Kernel5Ideal.Value
public import Idealize.ShloMosaic.Lib.Pipeline.ValueKit
public import proofs.«01_k».proof.Proof.Finite
public import proofs.«01_k».proof.Proof.Payloads

@[expose] public section

set_option maxRecDepth 16384

noncomputable section

namespace Cert.Kernel5Ideal.Body

open Idealize.ShloMosaic Idealize.ShloMosaic.TcCoe Idealize.SL.Sem
open Cert.Kernel5Ideal Cert.Kernel5Ideal.Gen

/-- Multiplying by the sixty-fourth is dividing by 64. -/
theorem mul_64th (x : EReal) : x * Ideal.ofBits .f32 0x3C800000#32 = Ideal.div x (Ideal.ofBits .f32 0x42800000#32) := by
  have h1 : Ideal.ofBits .f32 0x3C800000#32 = (((64 : ℝ)⁻¹ : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [h1, h2, Ideal.div_coe (by norm_num : (64 : ℝ) ≠ 0), inv_eq_one_div]

/-- A row's group of 64 lanes. -/
theorem group_row (i j : Fin 512) : k0_pay5 (ix2 i j) = BitVec.ofNat 32 (i.val / 64) := by
  unfold k0_pay5
  pointwise
  revert i
  decide +kernel

/-- The same, of the keys. -/
theorem group_row' : k0_pay21 = k0_pay5 := rfl

/-- The first 64 lanes of a head. -/
theorem first_map (i j : Fin 512) : k0_pay16 (ix2 i j) = if j.val % 128 < 64 then 1#1 else 0#1 := by
  unfold k0_pay16
  pointwise
  revert j
  decide +kernel

theorem lane32 (i j : Fin 512) : k0_pay26 (ix2 i j) = BitVec.ofNat 32 (j.val % 32) := by
  unfold k0_pay26
  pointwise
  revert j
  decide +kernel

/-- A group's mean square, its gain: a block's normalized row. -/
def normed (x : Vec Ideal S512x512 .f32) (g : FVec Ideal S1x512 .f32) (i j : Fin 512) : EReal :=
  x (ix2 i j) * Ideal.rsqrt (Ideal.div (∑ k : Fin 512, if k.val / 64 = j.val / 64 then x (ix2 i k) * x (ix2 i k) else 0) (Ideal.ofBits .f32 0x42800000#32)
    + Ideal.ofBits .f32 0x358637BD#32) * g (ix2 0 j)

/-- A lane's group of 64, as the body counts it. -/
theorem group_lane : ∀ j : Fin 512, Scalar.select
    (IntOp.andi (IntOp.cmpi .ne (IntOp.subi (BitVec.setWidth 32 (IntOp.cmpi .sgt (BitVec.ofNat 32 j.val) 0#32))
        (BitVec.setWidth 32 (IntOp.cmpi .slt (BitVec.ofNat 32 j.val) 0#32)))
        (Scalar.subi (Scalar.extui (Scalar.cmpi .sgt 64#32 0#32)) (Scalar.extui (Scalar.cmpi .slt 64#32 0#32))))
      (IntOp.cmpi .ne (IntOp.remsi .vector (BitVec.ofNat 32 j.val) 64#32) 0#32))
    (IntOp.subi (IntOp.divsi .vector (BitVec.ofNat 32 j.val) 64#32) 1#32)
    (IntOp.divsi .vector (BitVec.ofNat 32 j.val) 64#32) = BitVec.ofNat 32 (j.val / 64) := by
  decide +kernel

/-- Two groups are the same number where they are the same group. -/
theorem same_group : ∀ a b : Fin 8, IntOp.cmpi .eq (BitVec.ofNat 32 a.val) (BitVec.ofNat 32 b.val) = if a.val = b.val then 1#1 else 0#1 := by
  decide +kernel

/-- What the body takes for a block's normalized row. -/
theorem normed_eq (x : Vec Ideal S512x512 .f32) (g : FVec Ideal S1x512 .f32) (i j : Fin 512) :
    k0_pay9 x g k0_pay5 (iota .tc S512x512 32 [1] iota_S512x512_d1_w32) 64#32 k0_pay6 k0_pay7 k0_pay8 (ix2 i j) = normed x g i j := by
  unfold k0_pay9
  pointwise
  simp only [group_row, mul_64th]
  unfold k0_pay6 k0_pay7 k0_pay8
  pointwise
  simp only [group_lane]
  unfold normed
  refine congrArg (fun z => x (ix2 i j) * Ideal.rsqrt (Ideal.div z _ + _) * g (ix2 0 j)) (Finset.sum_congr rfl fun k _ => ?_)
  refine (congrArg (fun z => Scalar.select z _ _) (same_group ⟨k.val / 64, by have := k.isLt; omega⟩ ⟨j.val / 64, by have := j.isLt; omega⟩)).trans ?_
  by_cases h : k.val / 64 = j.val / 64
  · rw [if_pos h, if_pos h]; rfl
  · rw [if_neg h, if_neg h]; rfl

/-- The same, of the keys. -/
theorem normed_keys (x : Vec Ideal S512x512 .f32) (g : FVec Ideal S1x512 .f32) :
    k0_pay24 x g k0_pay21 (iota .tc S512x512 32 [1] iota_S512x512_d1_w32) 64#32 k0_pay22 k0_pay23 (Scalar.cmpi .sgt 64#32 0#32)
    = k0_pay9 x g k0_pay5 (iota .tc S512x512 32 [1] iota_S512x512_d1_w32) 64#32 k0_pay6 k0_pay7 k0_pay8 := rfl

/-- The tables of a head, of every head. -/
theorem table_at (v : Vec Ideal S512x128 .f32) (i j : Fin 512) : k0_pay2 v (ix2 i j) = v (ix2 i ⟨j.val % 128, Nat.mod_lt _ (by decide)⟩) := by
  unfold k0_pay2
  pointwise
  have hj := j.isLt
  have e : ∀ (k l : Fin 128), k.val = l.val → v (ix2 i k) = v (ix2 i l) := fun k l h => congrArg v (congrArg (ix2 i) (Fin.ext h))
  by_cases h1 : j.val < 128
  · rw [dif_pos h1]
    exact e _ _ (by show j.val = j.val % 128; omega)
  rw [dif_neg h1]
  by_cases h2 : j.val - 128 < 128
  · rw [dif_pos h2]
    exact e _ _ (by show j.val - 128 = j.val % 128; omega)
  rw [dif_neg h2]
  by_cases h3 : j.val - 128 - 128 < 128
  · rw [dif_pos h3]
    exact e _ _ (by show j.val - 128 - 128 = j.val % 128; omega)
  rw [dif_neg h3]
  exact e _ _ (by show j.val - 128 - 128 - 128 = j.val % 128; omega)

/-- The first lanes of each 32. -/
theorem first_lane : ∀ j : Fin 512, IntOp.cmpi .slt (BitVec.ofNat 32 (j.val % 32)) 16#32 = if j.val % 32 < 16 then 1#1 else 0#1 := by
  decide +kernel

/-- A row turned by its place: its lanes by the first table, their partners by the second. -/
def turned (n : FVec Ideal S512x512 .f32) (c s : Vec Ideal S512x128 .f32) (i j : Fin 512) : EReal :=
  n (ix2 i j) * c (ix2 i ⟨j.val % 128, Nat.mod_lt _ (by decide)⟩)
    + (if j.val % 32 < 16 then n (ix2 i ⟨(j.val + 16) % 512, Nat.mod_lt _ (by decide)⟩) else n (ix2 i ⟨(j.val + 496) % 512, Nat.mod_lt _ (by decide)⟩))
      * s (ix2 i ⟨j.val % 128, Nat.mod_lt _ (by decide)⟩)

theorem turned_keys (n : FVec Ideal S512x512 .f32) (c s : Vec Ideal S512x128 .f32) (i j : Fin 512) :
    k0_pay27 (k0_pay3 s) n (mulf n (k0_pay2 c)) k0_pay26 (ix2 i j) = turned n c s i j := by
  have hs : k0_pay3 s = k0_pay2 s := rfl
  unfold k0_pay27
  rw [hs]
  pointwise
  simp only [table_at, lane32, first_lane]
  unfold turned
  by_cases h : j.val % 32 < 16
  · rw [if_pos h, if_pos h]; rfl
  · rw [if_neg h, if_neg h]; rfl

theorem turned_queries (n : FVec Ideal S512x512 .f32) (c s : Vec Ideal S512x128 .f32) (i j : Fin 512) :
    k0_pay15 (k0_pay3 s) n (mulf n (k0_pay2 c)) (Scalar.select (Scalar.cmpi .eq 32#32 0#32) 1#32 32#32) k0_pay11 k0_pay12 k0_pay13 k0_pay14 (ix2 i j)
      = turned n c s i j * Ideal.ofBits .f32 0x3E000000#32 := by
  refine Eq.trans ?_ (congrArg (· * Ideal.ofBits .f32 0x3E000000#32) (turned_keys n c s i j))
  rfl

/-- The normalized rows of a block, as one array. -/
def normedBlock (x : Vec Ideal S512x512 .f32) (g : FVec Ideal S1x512 .f32) : FVec Ideal S512x512 .f32 :=
  fun y => normed x g (y 0) (y 1)

theorem normedBlock_eq (x : Vec Ideal S512x512 .f32) (g : FVec Ideal S1x512 .f32) :
    k0_pay9 x g k0_pay5 (iota .tc S512x512 32 [1] iota_S512x512_d1_w32) 64#32 k0_pay6 k0_pay7 k0_pay8 = normedBlock x g := by
  funext y
  rw [eq_ix2 y]
  exact normed_eq x g _ _

/-- The whole block, read at its own index. -/
theorem at_block (y : S512x512.Idx) : r0_1.idx y = y := by
  funext a
  refine Fin.ext ?_
  match a with
  | ⟨0, _⟩ => show 0 + 1 * (y 0).val = (y 0).val; omega
  | ⟨1, _⟩ => show 0 + 1 * (y 1).val = (y 1).val; omega

theorem at_table (y : S512x128.Idx) : r0_0.idx y = y := by
  funext a
  refine Fin.ext ?_
  match a with
  | ⟨0, _⟩ => show 0 + 1 * (y 0).val = (y 0).val; omega
  | ⟨1, _⟩ => show 0 + 1 * (y 1).val = (y 1).val; omega

theorem at_gain (y : S1x512.Idx) : r0_2.idx y = y := by
  funext a
  refine Fin.ext ?_
  match a with
  | ⟨0, _⟩ => show 0 + 1 * (y 0).val = (y 0).val; omega
  | ⟨1, _⟩ => show 0 + 1 * (y 1).val = (y 1).val; omega

/-- The first copy of the queries' block, and the second. -/
theorem at_first (x : S1x512x512.Idx) : r0_3.idx x = ix3 (0 : Fin 2) (x 1) (x 2) := by
  have h0 : (x 0).val < 1 := (x 0).isLt
  funext a
  refine Fin.ext ?_
  match a with
  | ⟨0, _⟩ => show 0 + 1 * (x 0).val = 0; omega
  | ⟨1, _⟩ => show 0 + 1 * (x 1).val = (x 1).val; omega
  | ⟨2, _⟩ => show 0 + 1 * (x 2).val = (x 2).val; omega

theorem at_second (x : S1x512x512.Idx) : r0_4.idx x = ix3 (1 : Fin 2) (x 1) (x 2) := by
  have h0 : (x 0).val < 1 := (x 0).isLt
  funext a
  refine Fin.ext ?_
  match a with
  | ⟨0, _⟩ => show 1 + 1 * (x 0).val = 1; omega
  | ⟨1, _⟩ => show 0 + 1 * (x 1).val = (x 1).val; omega
  | ⟨2, _⟩ => show 0 + 1 * (x 2).val = (x 2).val; omega

theorem ld_block (x : Vec Ideal S512x512 .f32) : View.ld x r0_1 = x := by
  funext y
  exact congrArg x (at_block y)

theorem ld_table (x : Vec Ideal S512x128 .f32) : View.ld x r0_0 = x := by
  funext y
  exact congrArg x (at_table y)

theorem ld_gain (x : Vec Ideal S1x512 .f32) : k0_pay4 (View.ld x r0_2) = x := by
  have e : (View.ld x r0_2 : Vec Ideal S1x512 .f32) = x := by
    funext y
    exact congrArg x (at_gain y)
  rw [e]
  unfold k0_pay4
  funext y
  rw [eq_ix2 y]
  pointwise

/-- What a point leaves of the keys, as one array. -/
def keys (x1 : Vec Ideal S512x512 .f32) (x3 x4 : Vec Ideal S512x128 .f32) (x6 : Vec Ideal S1x512 .f32) : Vec Ideal S512x512 .bf16 :=
  k0_pay27 (k0_pay3 x4) (normedBlock x1 x6) (mulf (normedBlock x1 x6) (k0_pay2 x3)) k0_pay26

theorem pay_keys (x0 x1 x2 : Vec Ideal S512x512 .f32) (x3 x4 : Vec Ideal S512x128 .f32) (x5 x6 : Vec Ideal S1x512 .f32) :
    out0_8 x0 x1 x2 x3 x4 x5 x6 = View.canon [⟨r0_1, keys x1 x3 x4 x6⟩] := by
  unfold keys
  rw [← normedBlock_eq]
  unfold_out out0_8
  rw [ld_block, ld_table, ld_table, show k0_pay20 (View.ld x6 r0_2) = x6 from ld_gain x6]
  rfl

/-- What a point leaves of the keys. -/
theorem out8_at (x0 x1 x2 : Vec Ideal S512x512 .f32) (x3 x4 : Vec Ideal S512x128 .f32) (x5 x6 : Vec Ideal S1x512 .f32) (i j : Fin 512) :
    out0_8 x0 x1 x2 x3 x4 x5 x6 (ix2 i j) = turned (normedBlock x1 x6) x3 x4 i j := by
  refine Eq.trans ?_ (turned_keys _ _ _ _ _)
  rw [pay_keys]
  refine View.canon_apply_of_pieces (keys x1 x3 x4 x6) _ ?_ _ (cover0_8 _ _)
  intro pc hpc
  rcases List.mem_cons.mp hpc with rfl | hpc
  · intro x
    exact congrArg (keys x1 x3 x4 x6) (at_block x).symm
  nomatch hpc

/-- What a point leaves of the queries. -/
def queries (x0 : Vec Ideal S512x512 .f32) (x3 x4 : Vec Ideal S512x128 .f32) (x5 : Vec Ideal S1x512 .f32) : Vec Ideal S2x512x512 .bf16 :=
  fun y => if (y 2).val % 128 / 64 = (y 0).val then turned (normedBlock x0 x5) x3 x4 (y 1) (y 2) * Ideal.ofBits .f32 0x3E000000#32 else 0

theorem piece7_0 (n : FVec Ideal S512x512 .f32) (c s : Vec Ideal S512x128 .f32) (u : Fin 1) (i j : Fin 512) :
    k0_pay17 (k0_pay3 s) n (mulf n (k0_pay2 c)) (Scalar.select (Scalar.cmpi .eq 32#32 0#32) 1#32 32#32) k0_pay11 k0_pay12 k0_pay13 k0_pay14 (ix3 u i j)
      = if j.val % 128 / 64 = 0 then turned n c s i j * Ideal.ofBits .f32 0x3E000000#32 else 0 := by
  unfold k0_pay17
  pointwise
  simp only [first_map, turned_queries]
  by_cases h : j.val % 128 < 64
  · rw [if_pos h, if_pos (by omega)]; rfl
  · rw [if_neg h, if_neg (by omega)]; rfl

theorem piece7_1 (n : FVec Ideal S512x512 .f32) (c s : Vec Ideal S512x128 .f32) (u : Fin 1) (i j : Fin 512) :
    k0_pay19 (k0_pay18 (k0_pay3 s) n (mulf n (k0_pay2 c)) (Scalar.select (Scalar.cmpi .eq 32#32 0#32) 1#32 32#32) k0_pay11 k0_pay12 k0_pay13 k0_pay14) (ix3 u i j)
      = if j.val % 128 / 64 = 1 then turned n c s i j * Ideal.ofBits .f32 0x3E000000#32 else 0 := by
  unfold k0_pay19 k0_pay18
  pointwise
  simp only [first_map, turned_queries]
  by_cases h : j.val % 128 < 64
  · rw [if_pos h, if_neg (by omega)]; rfl
  · rw [if_neg h, if_pos (by omega)]; rfl

/-- What a point leaves of the queries: a head's first half in the first copy, its second half in the second. -/
theorem out7_eq (x0 x1 x2 : Vec Ideal S512x512 .f32) (x3 x4 : Vec Ideal S512x128 .f32) (x5 x6 : Vec Ideal S1x512 .f32) (y : S2x512x512.Idx) :
    out0_7 x0 x1 x2 x3 x4 x5 x6 y = queries x0 x3 x4 x5 y := by
  have e : out0_7 x0 x1 x2 x3 x4 x5 x6 = View.canon [
      ⟨r0_4, k0_pay19 (k0_pay18 (k0_pay3 x4) (normedBlock x0 x5) (mulf (normedBlock x0 x5) (k0_pay2 x3)) (Scalar.select (Scalar.cmpi .eq 32#32 0#32) 1#32 32#32) k0_pay11 k0_pay12 k0_pay13 k0_pay14)⟩,
      ⟨r0_3, k0_pay17 (k0_pay3 x4) (normedBlock x0 x5) (mulf (normedBlock x0 x5) (k0_pay2 x3)) (Scalar.select (Scalar.cmpi .eq 32#32 0#32) 1#32 32#32) k0_pay11 k0_pay12 k0_pay13 k0_pay14⟩] := by
    rw [← normedBlock_eq]
    unfold_out out0_7
    rw [ld_block, ld_table, ld_table, ld_gain]
    rfl
  rw [e]
  refine View.canon_apply_of_pieces (queries x0 x3 x4 x5) _ ?_ _ (cover0_7 _ _ _)
  intro pc hpc
  rcases List.mem_cons.mp hpc with rfl | hpc
  · intro x
    refine (congrArg _ (eq_ix3 x)).trans ((piece7_1 _ _ _ _ _ _).trans ?_)
    refine (congrArg (queries x0 x3 x4 x5) (at_second x)).symm
  rcases List.mem_cons.mp hpc with rfl | hpc
  · intro x
    refine (congrArg _ (eq_ix3 x)).trans ((piece7_0 _ _ _ _ _ _).trans ?_)
    refine (congrArg (queries x0 x3 x4 x5) (at_first x)).symm
  nomatch hpc

end Cert.Kernel5Ideal.Body

end
-- ==== Proof.PrepReads.lean ====
/- The preparation's tables and gains, entry by entry. -/
module

public import proofs.«01_k».proof.Proof.PrepBody

@[expose] public section

set_option maxRecDepth 16384

noncomputable section

namespace Cert.Kernel5Ideal.Body

open Idealize.ShloMosaic Idealize.ShloMosaic.TcCoe Idealize.SL.Sem
open Idealize.ShloMosaic.Pipeline (Dat)
open Cert.Kernel5Ideal Cert.Kernel5Ideal.Gen

/-- One half head's table, twice in a row. -/
def twice (x : FVec Ideal S16384x64 .f32) : FVec Ideal S16384x128 .f32 :=
  shapeCast S16384x128 (broadcastInDim S1x16384x2x64 ![0, 1, 2, 3] bcast_S1x16384x1x64_S1x16384x2x64_0_1_2_3
    (shapeCast S1x16384x1x64 x shapeCasts_S16384x64_S1x16384x1x64)) shapeCasts_S1x16384x2x64_S16384x128

/-- Four tables side by side. -/
def four (a b c d : FVec Ideal S16384x16 .f32) : FVec Ideal S16384x64 .f32 :=
  concatenate S16384x64 1 [⟨S16384x16, a⟩, ⟨S16384x16, b⟩, ⟨S16384x16, c⟩, ⟨S16384x16, d⟩] concatenates_S16384x16_S16384x16_S16384x16_S16384x16_S16384x64_d1

/-- A gain, for every half head. -/
def eight (g : FVec Ideal S64 .f32) : FVec Ideal S1x512 .f32 :=
  broadcastInDim S1x512 ![1] bcast_S512_S1x512_1 (shapeCast S512 (broadcastInDim S8x64 ![0, 1] bcast_S1x64_S8x64_0_1 (shapeCast S1x64 g shapeCasts_S64_S1x64)) shapeCasts_S8x64_S512)

theorem wide_at (y : FVec Ideal S1x16384x1x64 .f32) (r : Fin 16384) (u : Fin 2) (d : Fin 64) :
    broadcastInDim S1x16384x2x64 ![0, 1, 2, 3] bcast_S1x16384x1x64_S1x16384x2x64_0_1_2_3 y (ix4 0 r u d) = y (ix4 0 r 0 d) := by
  pointwise

theorem row_at (y : FVec Ideal S512 .f32) (l : Fin 512) : broadcastInDim S1x512 ![1] bcast_S512_S1x512_1 y (ix2 0 l) = y (ix1 l) := by
  pointwise

theorem tall_at (y : FVec Ideal S1x64 .f32) (u : Fin 8) (d : Fin 64) : broadcastInDim S8x64 ![0, 1] bcast_S1x64_S8x64_0_1 y (ix2 u d) = y (ix2 0 d) := by
  pointwise

theorem flat_at (g : FVec Ideal S64 .f32) (d : Fin 64) : shapeCast S1x64 g shapeCasts_S64_S1x64 (ix2 0 d) = g (ix1 d) := by
  pointwise

theorem twice_at (x : FVec Ideal S16384x64 .f32) (r : Fin 16384) (u : Fin 2) (d : Fin 64) (l : Fin 128) (h : l.val = u.val * 64 + d.val) :
    twice x (ix2 r l) = x (ix2 r d) := by
  unfold twice
  have e2 : (S16384x128.rowMajor (ix2 r l)).val = r.val * 128 + l.val := Shape.rowMajor_val_two _
  have e4 : (S1x16384x2x64.rowMajor (ix4 (0 : Fin 1) r u d)).val = (((0 : Fin 1).val * 16384 + r.val) * 2 + u.val) * 64 + d.val := Shape.rowMajor_val_four _
  refine (shapeCast_apply _ _ (ix2 r l) (ix4 (0 : Fin 1) r u d) ((e4.trans (by have := Fin.val_zero 1; omega)).trans e2.symm)).trans ?_
  refine Eq.trans (b := shapeCast S1x16384x1x64 x shapeCasts_S16384x64_S1x16384x1x64 (ix4 (0 : Fin 1) r (0 : Fin 1) d)) ?_ ?_
  · exact wide_at _ r u d
  · have f2 : (S16384x64.rowMajor (ix2 r d)).val = r.val * 64 + d.val := Shape.rowMajor_val_two _
    have f4 : (S1x16384x1x64.rowMajor (ix4 (0 : Fin 1) r (0 : Fin 1) d)).val = (((0 : Fin 1).val * 16384 + r.val) * 1 + (0 : Fin 1).val) * 64 + d.val := Shape.rowMajor_val_four _
    exact shapeCast_apply _ _ (ix4 (0 : Fin 1) r (0 : Fin 1) d) (ix2 r d) ((f2.trans (by have := Fin.val_zero 1; omega)).trans f4.symm)

theorem four_at (x1 x2 x3 x4 : FVec Ideal S16384x16 .f32) (r : Fin 16384) (d : Fin 64) :
    four x1 x2 x3 x4 (ix2 r d) = if h1 : d.val < 16 then x1 (ix2 r ⟨d.val, h1⟩) else if h2 : d.val - 16 < 16 then x2 (ix2 r ⟨d.val - 16, h2⟩)
      else if h3 : d.val - 16 - 16 < 16 then x3 (ix2 r ⟨d.val - 16 - 16, h3⟩) else x4 (ix2 r ⟨d.val - 16 - 16 - 16, by omega⟩) := by
  unfold four
  pointwise

theorem eight_at (g : FVec Ideal S64 .f32) (l : Fin 512) (u : Fin 8) (d : Fin 64) (h : l.val = u.val * 64 + d.val) :
    eight g (ix2 0 l) = g (ix1 d) := by
  unfold eight
  refine Eq.trans (b := shapeCast S512 (broadcastInDim S8x64 ![0, 1] bcast_S1x64_S8x64_0_1 (shapeCast S1x64 g shapeCasts_S64_S1x64)) shapeCasts_S8x64_S512 (ix1 l)) ?_ ?_
  · exact row_at _ l
  have e1 : (S512.rowMajor (ix1 l)).val = l.val := Shape.rowMajor_val_one _
  have e2 : (S8x64.rowMajor (ix2 u d)).val = u.val * 64 + d.val := Shape.rowMajor_val_two _
  refine (shapeCast_apply _ _ (ix1 l) (ix2 u d) ((e2.trans h.symm).trans e1.symm)).trans ?_
  exact (tall_at _ u d).trans (flat_at g d)

end Cert.Kernel5Ideal.Body

end
-- ==== Proof.PrepRef.lean ====
/- The preparation of queries and keys as the reference states it, entry by entry. -/
module

public import proofs.«01_k».proof.Proof.Gen.Reference5Ideal.Run
public import Idealize.ShloMosaic.Lib.Pipeline.ValueKit

@[expose] public section

set_option maxRecDepth 16384

noncomputable section

namespace Cert.Reference5Ideal.Body

open Idealize.ShloMosaic Idealize.ShloMosaic.TcCoe Idealize.SL.Sem
open Cert.Reference5Ideal Cert.Reference5Ideal.Gen

/-- The angles of a place's row. -/
def angR : FVec Ideal S16384x16 .f32 :=
  mulf (broadcastInDim S16384x16 ![0, 1] bcast_S16384x1_S16384x16_0_1 (broadcastInDim S16384x1 ![0] bcast_S16384_S16384x1_0 (sitofp .f32 (select (andi (cmpi .ne (signi (iotaInDim S16384 32 0)) (broadcastInDim S16384 ![] bcast_S_S16384 (signi (id (constantI S_ 32 64#32))))) (cmpi .ne (Host.remsi (iotaInDim S16384 32 0) (broadcastInDim S16384 ![] bcast_S_S16384 (id (constantI S_ 32 64#32)))) (broadcastInDim S16384 ![] bcast_S_S16384 (constantI S_ 32 0#32)))) (subi (Host.divsi (iotaInDim S16384 32 0) (broadcastInDim S16384 ![] bcast_S_S16384 (id (constantI S_ 32 64#32)))) (broadcastInDim S16384 ![] bcast_S_S16384 (constantI S_ 32 1#32))) (Host.divsi (iotaInDim S16384 32 0) (broadcastInDim S16384 ![] bcast_S_S16384 (id (constantI S_ 32 64#32)))))))) (broadcastInDim S16384x16 ![0, 1] bcast_S1x16_S16384x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- The angles of a place's column. -/
def angC : FVec Ideal S16384x16 .f32 :=
  mulf (broadcastInDim S16384x16 ![0, 1] bcast_S16384x1_S16384x16_0_1 (broadcastInDim S16384x1 ![0] bcast_S16384_S16384x1_0 (sitofp .f32 (select (andi (cmpi .ne (cmpi .slt (Host.remsi (iotaInDim S16384 32 0) (broadcastInDim S16384 ![] bcast_S_S16384 (select (cmpi .eq (id (constantI S_ 32 64#32)) (constantI S_ 32 0#32)) (constantI S_ 32 1#32) (id (constantI S_ 32 64#32))))) (broadcastInDim S16384 ![] bcast_S_S16384 (constantI S_ 32 0#32))) (broadcastInDim S16384 ![] bcast_S_S16384 (cmpi .slt (select (cmpi .eq (id (constantI S_ 32 64#32)) (constantI S_ 32 0#32)) (constantI S_ 32 1#32) (id (constantI S_ 32 64#32))) (constantI S_ 32 0#32)))) (cmpi .ne (Host.remsi (iotaInDim S16384 32 0) (broadcastInDim S16384 ![] bcast_S_S16384 (select (cmpi .eq (id (constantI S_ 32 64#32)) (constantI S_ 32 0#32)) (constantI S_ 32 1#32) (id (constantI S_ 32 64#32))))) (broadcastInDim S16384 ![] bcast_S_S16384 (constantI S_ 32 0#32)))) (addi (Host.remsi (iotaInDim S16384 32 0) (broadcastInDim S16384 ![] bcast_S_S16384 (select (cmpi .eq (id (constantI S_ 32 64#32)) (constantI S_ 32 0#32)) (constantI S_ 32 1#32) (id (constantI S_ 32 64#32))))) (broadcastInDim S16384 ![] bcast_S_S16384 (select (cmpi .eq (id (constantI S_ 32 64#32)) (constantI S_ 32 0#32)) (constantI S_ 32 1#32) (id (constantI S_ 32 64#32))))) (Host.remsi (iotaInDim S16384 32 0) (broadcastInDim S16384 ![] bcast_S_S16384 (select (cmpi .eq (id (constantI S_ 32 64#32)) (constantI S_ 32 0#32)) (constantI S_ 32 1#32) (id (constantI S_ 32 64#32))))))))) (broadcastInDim S16384x16 ![0, 1] bcast_S1x16_S16384x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- Each half head divided by its root mean square, its gain on it. -/
def normRef (x : FVec Ideal S16384x512 .f32) (g : FVec Ideal S64 .f32) : FVec Ideal S16384x4x2x64 .f32 :=
  mulf (mulf (shapeCast _ x shapeCasts_S16384x512_S16384x4x2x64) (broadcastInDim S16384x4x2x64 ![0, 1, 2, 3] bcast_S16384x4x2x1_S16384x4x2x64_0_1_2_3 (Host.rsqrt (addf (Host.divf (broadcastInDim S16384x4x2x1 ![0, 1, 2] bcast_S16384x4x2_S16384x4x2x1_0_1_2 (Host.reduceAdd (mulf (shapeCast _ x shapeCasts_S16384x512_S16384x4x2x64) (shapeCast _ x shapeCasts_S16384x512_S16384x4x2x64)) (constant S_ .f32 0x00000000#32) reducesTo_S16384x4x2x64_S16384x4x2_d3 h_S_)) (broadcastInDim S16384x4x2x1 ![] bcast_S_S16384x4x2x1 (constant S_ .f32 0x42800000#32))) (broadcastInDim S16384x4x2x1 ![] bcast_S_S16384x4x2x1 (constant S_ .f32 0x358637BD#32)))))) (broadcastInDim S16384x4x2x64 ![0, 1, 2, 3] bcast_S1x1x1x64_S16384x4x2x64_0_1_2_3 (broadcastInDim S1x1x1x64 ![3] bcast_S64_S1x1x1x64_3 g))

/-- Each half head turned by its place's angles. -/
def ropeRef (n : FVec Ideal S16384x4x2x64 .f32) : FVec Ideal S16384x4x2x64 .f32 :=
  (concatenate S16384x4x2x64 3 [⟨S16384x4x2x16, ((subf (mulf (extractStridedSlice S16384x4x2x16 ![0, 0, 0, 0] n slices_S16384x4x2x64_S16384x4x2x16_0_0_0_0) (broadcastInDim S16384x4x2x16 ![0, 1, 2, 3] bcast_S16384x1x1x16_S16384x4x2x16_0_1_2_3 (broadcastInDim S16384x1x1x16 ![0, 3] bcast_S16384x16_S16384x1x1x16_0_3 (Host.cos angR)))) (mulf (extractStridedSlice S16384x4x2x16 ![0, 0, 0, 16] n slices_S16384x4x2x64_S16384x4x2x16_0_0_0_16) (broadcastInDim S16384x4x2x16 ![0, 1, 2, 3] bcast_S16384x1x1x16_S16384x4x2x16_0_1_2_3 (broadcastInDim S16384x1x1x16 ![0, 3] bcast_S16384x16_S16384x1x1x16_0_3 (Host.sin angR))))) : (⟨S16384x4x2x16, .f32⟩ : BufTy).Contents (Elt Ideal))⟩, ⟨S16384x4x2x16, ((addf (mulf (extractStridedSlice S16384x4x2x16 ![0, 0, 0, 16] n slices_S16384x4x2x64_S16384x4x2x16_0_0_0_16) (broadcastInDim S16384x4x2x16 ![0, 1, 2, 3] bcast_S16384x1x1x16_S16384x4x2x16_0_1_2_3 (broadcastInDim S16384x1x1x16 ![0, 3] bcast_S16384x16_S16384x1x1x16_0_3 (Host.cos angR)))) (mulf (extractStridedSlice S16384x4x2x16 ![0, 0, 0, 0] n slices_S16384x4x2x64_S16384x4x2x16_0_0_0_0) (broadcastInDim S16384x4x2x16 ![0, 1, 2, 3] bcast_S16384x1x1x16_S16384x4x2x16_0_1_2_3 (broadcastInDim S16384x1x1x16 ![0, 3] bcast_S16384x16_S16384x1x1x16_0_3 (Host.sin angR))))) : (⟨S16384x4x2x16, .f32⟩ : BufTy).Contents (Elt Ideal))⟩, ⟨S16384x4x2x16, ((subf (mulf (extractStridedSlice S16384x4x2x16 ![0, 0, 0, 32] n slices_S16384x4x2x64_S16384x4x2x16_0_0_0_32) (broadcastInDim S16384x4x2x16 ![0, 1, 2, 3] bcast_S16384x1x1x16_S16384x4x2x16_0_1_2_3 (broadcastInDim S16384x1x1x16 ![0, 3] bcast_S16384x16_S16384x1x1x16_0_3 (Host.cos angC)))) (mulf (extractStridedSlice S16384x4x2x16 ![0, 0, 0, 48] n slices_S16384x4x2x64_S16384x4x2x16_0_0_0_48) (broadcastInDim S16384x4x2x16 ![0, 1, 2, 3] bcast_S16384x1x1x16_S16384x4x2x16_0_1_2_3 (broadcastInDim S16384x1x1x16 ![0, 3] bcast_S16384x16_S16384x1x1x16_0_3 (Host.sin angC))))) : (⟨S16384x4x2x16, .f32⟩ : BufTy).Contents (Elt Ideal))⟩, ⟨S16384x4x2x16, ((addf (mulf (extractStridedSlice S16384x4x2x16 ![0, 0, 0, 48] n slices_S16384x4x2x64_S16384x4x2x16_0_0_0_48) (broadcastInDim S16384x4x2x16 ![0, 1, 2, 3] bcast_S16384x1x1x16_S16384x4x2x16_0_1_2_3 (broadcastInDim S16384x1x1x16 ![0, 3] bcast_S16384x16_S16384x1x1x16_0_3 (Host.cos angC)))) (mulf (extractStridedSlice S16384x4x2x16 ![0, 0, 0, 32] n slices_S16384x4x2x64_S16384x4x2x16_0_0_0_32) (broadcastInDim S16384x4x2x16 ![0, 1, 2, 3] bcast_S16384x1x1x16_S16384x4x2x16_0_1_2_3 (broadcastInDim S16384x1x1x16 ![0, 3] bcast_S16384x16_S16384x1x1x16_0_3 (Host.sin angC))))) : (⟨S16384x4x2x16, .f32⟩ : BufTy).Contents (Elt Ideal))⟩] concatenates_S16384x4x2x16_S16384x4x2x16_S16384x4x2x16_S16384x4x2x16_S16384x4x2x64_d3 : (⟨S16384x4x2x64, .f32⟩ : BufTy).Contents (Elt Ideal))

/-- The queries in their two copies: a head's first half in the first, its second half in the second. -/
def halves (q : FVec Ideal S16384x4x2x64 .f32) : FVec Ideal S2x16384x4x2x64 .f32 :=
  concatenate S2x16384x4x2x64 0 [⟨S1x16384x4x2x64, (broadcastInDim S1x16384x4x2x64 ![1, 2, 3, 4] bcast_S16384x4x2x64_S1x16384x4x2x64_1_2_3_4 (concatenate S16384x4x2x64 2 [⟨S16384x4x1x64, (extractStridedSlice S16384x4x1x64 ![0, 0, 0, 0] (mulf q (broadcastInDim S16384x4x2x64 ![] bcast_S_S16384x4x2x64 (constant S_ .f32 0x3E000000#32))) slices_S16384x4x2x64_S16384x4x1x64_0_0_0_0)⟩, ⟨S16384x4x1x64, (broadcastInDim S16384x4x1x64 ![] bcast_S_S16384x4x1x64 (constant S_ .f32 0x00000000#32))⟩] concatenates_S16384x4x1x64_S16384x4x1x64_S16384x4x2x64_d2))⟩, ⟨S1x16384x4x2x64, (broadcastInDim S1x16384x4x2x64 ![1, 2, 3, 4] bcast_S16384x4x2x64_S1x16384x4x2x64_1_2_3_4 (concatenate S16384x4x2x64 2 [⟨S16384x4x1x64, (broadcastInDim S16384x4x1x64 ![] bcast_S_S16384x4x1x64 (constant S_ .f32 0x00000000#32))⟩, ⟨S16384x4x1x64, (extractStridedSlice S16384x4x1x64 ![0, 0, 1, 0] (mulf q (broadcastInDim S16384x4x2x64 ![] bcast_S_S16384x4x2x64 (constant S_ .f32 0x3E000000#32))) slices_S16384x4x2x64_S16384x4x1x64_0_0_1_0)⟩] concatenates_S16384x4x1x64_S16384x4x1x64_S16384x4x2x64_d2))⟩] concatenates_S1x16384x4x2x64_S1x16384x4x2x64_S2x16384x4x2x64_d0

/-- The copies, a place's lanes in one row. -/
def copies (q : FVec Ideal S16384x4x2x64 .f32) : FVec Ideal S2x16384x512 .bf16 :=
  truncf .bf16 (shapeCast S2x16384x512 (halves q) shapeCasts_S2x16384x4x2x64_S2x16384x512) bitsLt_bf16_f32

/-- The lane of a half head. -/
abbrev lane (a : Fin 4) (b : Fin 2) (d : Fin 64) : Fin 512 := ⟨a.val * 128 + b.val * 64 + d.val, by omega⟩

theorem normRef_at (x : FVec Ideal S16384x512 .f32) (g : FVec Ideal S64 .f32) (r : Fin 16384) (a : Fin 4) (b : Fin 2) (d : Fin 64) :
    normRef x g (ix4 r a b d) = x (ix2 r (lane a b d))
      * Ideal.rsqrt (Ideal.div (∑ e : Fin 64, x (ix2 r (lane a b e)) * x (ix2 r (lane a b e))) (Ideal.ofBits .f32 0x42800000#32) + Ideal.ofBits .f32 0x358637BD#32)
      * g (ix1 d) := by
  unfold normRef
  pointwise

/-- A turned lane: the first and second sixteen by the row's angles, the third and fourth by the column's, each lane with its partner. -/
def turnedRef (n : Fin 64 → EReal) (r : Fin 16384) (d : Fin 64) : EReal :=
  if h1 : d.val < 16 then n d * Ideal.cos (angR (ix2 r ⟨d.val, h1⟩)) - n ⟨d.val + 16, by omega⟩ * Ideal.sin (angR (ix2 r ⟨d.val, h1⟩))
  else if h2 : d.val < 32 then n d * Ideal.cos (angR (ix2 r ⟨d.val - 16, by omega⟩)) + n ⟨d.val - 16, by omega⟩ * Ideal.sin (angR (ix2 r ⟨d.val - 16, by omega⟩))
  else if h3 : d.val < 48 then n d * Ideal.cos (angC (ix2 r ⟨d.val - 32, by omega⟩)) - n ⟨d.val + 16, by omega⟩ * Ideal.sin (angC (ix2 r ⟨d.val - 32, by omega⟩))
  else n d * Ideal.cos (angC (ix2 r ⟨d.val - 48, by omega⟩)) + n ⟨d.val - 16, by omega⟩ * Ideal.sin (angC (ix2 r ⟨d.val - 48, by omega⟩))

theorem quarter (n : Fin 64 → EReal) (cR sR cC sC : Fin 16 → EReal) (d : Fin 64) :
    (if h : d.val < 16 then n d * cR ⟨d.val, h⟩ - n ⟨16 + d.val, by omega⟩ * sR ⟨d.val, h⟩
    else if h2 : d.val - 16 < 16 then n ⟨16 + (d.val - 16), by omega⟩ * cR ⟨d.val - 16, h2⟩ + n ⟨d.val - 16, by omega⟩ * sR ⟨d.val - 16, h2⟩
    else if h3 : d.val - 16 - 16 < 16 then n ⟨32 + (d.val - 16 - 16), by omega⟩ * cC ⟨d.val - 16 - 16, h3⟩ - n ⟨48 + (d.val - 16 - 16), by omega⟩ * sC ⟨d.val - 16 - 16, h3⟩
    else n ⟨48 + (d.val - 16 - 16 - 16), by omega⟩ * cC ⟨d.val - 16 - 16 - 16, by omega⟩ + n ⟨32 + (d.val - 16 - 16 - 16), by omega⟩ * sC ⟨d.val - 16 - 16 - 16, by omega⟩)
    = if h1 : d.val < 16 then n d * cR ⟨d.val, h1⟩ - n ⟨d.val + 16, by omega⟩ * sR ⟨d.val, h1⟩
      else if h2 : d.val < 32 then n d * cR ⟨d.val - 16, by omega⟩ + n ⟨d.val - 16, by omega⟩ * sR ⟨d.val - 16, by omega⟩
      else if h3 : d.val < 48 then n d * cC ⟨d.val - 32, by omega⟩ - n ⟨d.val + 16, by omega⟩ * sC ⟨d.val - 32, by omega⟩
      else n d * cC ⟨d.val - 48, by omega⟩ + n ⟨d.val - 16, by omega⟩ * sC ⟨d.val - 48, by omega⟩ := by
  obtain ⟨d, hd⟩ := d
  by_cases h1 : d < 16
  · rw [dif_pos h1, dif_pos h1]
    simp only [Nat.add_comm 16 d]
  rw [dif_neg h1, dif_neg h1]
  by_cases h2 : d < 32
  · rw [dif_pos (show d - 16 < 16 by omega), dif_pos h2]
    simp only [show 16 + (d - 16) = d by omega]
  rw [dif_neg (show ¬ d - 16 < 16 by omega), dif_neg h2]
  by_cases h3 : d < 48
  · rw [dif_pos (show d - 16 - 16 < 16 by omega), dif_pos h3]
    simp only [show d - 16 - 16 = d - 32 by omega, show 32 + (d - 32) = d by omega, show 48 + (d - 32) = d + 16 by omega]
  rw [dif_neg (show ¬ d - 16 - 16 < 16 by omega), dif_neg h3]
  simp only [show d - 16 - 16 - 16 = d - 48 by omega, show 48 + (d - 48) = d by omega, show 32 + (d - 48) = d - 16 by omega]

theorem ropeRef_at (n : FVec Ideal S16384x4x2x64 .f32) (r : Fin 16384) (a : Fin 4) (b : Fin 2) (d : Fin 64) :
    ropeRef n (ix4 r a b d) = turnedRef (fun e => n (ix4 r a b e)) r d := by
  unfold ropeRef turnedRef
  pointwise
  exact quarter (fun e => n (ix4 r a b e)) (fun e => Ideal.cos (angR (ix2 r e))) (fun e => Ideal.sin (angR (ix2 r e)))
    (fun e => Ideal.cos (angC (ix2 r e))) (fun e => Ideal.sin (angC (ix2 r e))) d

/-- The same lanes, of the keys. -/
theorem rows_at (k : FVec Ideal S16384x4x2x64 .f32) (r : Fin 16384) (a : Fin 4) (b : Fin 2) (d : Fin 64) :
    (truncf .bf16 (shapeCast S16384x512 k shapeCasts_S16384x4x2x64_S16384x512) bitsLt_bf16_f32 : FVec Ideal S16384x512 .bf16) (ix2 r (lane a b d)) = k (ix4 r a b d) := by
  show shapeCast S16384x512 k shapeCasts_S16384x4x2x64_S16384x512 (ix2 r (lane a b d)) = _
  refine (shapeCast_apply _ _ (ix2 r (lane a b d)) (ix4 r a b d) ?_)
  rw [Shape.rowMajor_val_four, Shape.rowMajor_val_two]
  show ((r.val * 4 + a.val) * 2 + b.val) * 64 + d.val = r.val * 512 + (a.val * 128 + b.val * 64 + d.val)
  omega

theorem second (b : Fin 2) (h : ¬ b.val < 1) : 1 + (b.val - 1) = b.val := by omega

theorem halves_at (q : FVec Ideal S16384x4x2x64 .f32) (h : Fin 2) (r : Fin 16384) (a : Fin 4) (b : Fin 2) (d : Fin 64) :
    halves q (ix5 h r a b d) = if b.val = h.val then q (ix4 r a b d) * Ideal.ofBits .f32 0x3E000000#32 else 0 := by
  unfold halves
  pointwise
  have hh := h.isLt
  have hb := b.isLt
  by_cases h1 : h.val < 1
  · rw [dif_pos h1]
    by_cases h2 : b.val < 1
    · rw [dif_pos h2, if_pos (by omega)]
    · rw [dif_neg h2, if_neg (by omega)]
  · rw [dif_neg h1]
    by_cases h2 : b.val < 1
    · rw [dif_pos h2, if_neg (by omega)]
    · refine Eq.trans ?_ (if_pos (show b.val = h.val by omega)).symm
      refine (dif_neg h2).trans ?_
      exact congrArg (fun k => q (ix4 r a k d) * _) (Fin.ext (second b h2))

end Cert.Reference5Ideal.Body

end
-- ==== Proof.PrepCopies.lean ====
/- The reference's results of the preparation. -/
module

public import proofs.«01_k».proof.Proof.PrepRef
public import Idealize.ShloMosaic.Lib.Pipeline.ValueKit

@[expose] public section

set_option maxRecDepth 16384

noncomputable section

namespace Cert.Reference5Ideal.Body

open Idealize.ShloMosaic Idealize.ShloMosaic.TcCoe Idealize.SL.Sem
open Cert.Reference5Ideal Cert.Reference5Ideal.Gen

theorem copies_at (q : FVec Ideal S16384x4x2x64 .f32) (h : Fin 2) (r : Fin 16384) (a : Fin 4) (b : Fin 2) (d : Fin 64) :
    copies q (ix3 h r (lane a b d)) = if b.val = h.val then q (ix4 r a b d) * Ideal.ofBits .f32 0x3E000000#32 else 0 := by
  refine Eq.trans ?_ (halves_at q h r a b d)
  unfold copies
  generalize halves q = y
  refine (truncf_apply _ _ _ _).trans ?_
  refine (shapeCast_apply y _ (ix3 h r (lane a b d)) (ix5 h r a b d) ?_)
  have e5 : (S2x16384x4x2x64.rowMajor (ix5 h r a b d)).val = (((h.val * 16384 + r.val) * 4 + a.val) * 2 + b.val) * 64 + d.val := Shape.rowMajor_val_five _
  have e3 : (S2x16384x512.rowMajor (ix3 h r (lane a b d))).val = (h.val * 16384 + r.val) * 512 + (a.val * 128 + b.val * 64 + d.val) := Shape.rowMajor_val_three _
  exact (e5.trans (by omega)).trans e3.symm

variable (m : (ℓ : Loc nD τ sig) → Buf (Elt Ideal) ℓ) (c : Dev nD)

/-- The reference's queries. -/
theorem queries_eq : Cert.Reference5Ideal.Value.res_main_v122 m c = copies (ropeRef (normRef (extractStridedSlice S16384x512 ![0, 5120]
    (m ((c.tc : Thread nD τ).loc main_arg0)) slices_S16384x6656_S16384x512_0_5120) (m ((c.tc : Thread nD τ).loc main_arg1)))) := rfl

/-- The reference's keys. -/
theorem keys_eq : Cert.Reference5Ideal.Value.res_main_v124 m c = truncf .bf16 (shapeCast S16384x512 (ropeRef (normRef (extractStridedSlice S16384x512 ![0, 5632]
    (m ((c.tc : Thread nD τ).loc main_arg0)) slices_S16384x6656_S16384x512_0_5632) (m ((c.tc : Thread nD τ).loc main_arg2)))) shapeCasts_S16384x4x2x64_S16384x512) bitsLt_bf16_f32 := rfl

end Cert.Reference5Ideal.Body

end
-- ==== Proof.PrepTurn.lean ====
/- The body's turned rows are the reference's, lane by lane. -/
module

public import proofs.«01_k».proof.Proof.PrepReads
public import proofs.«01_k».proof.Proof.PrepBody
public import proofs.«01_k».proof.Proof.PrepCopies

@[expose] public section

set_option maxRecDepth 16384

noncomputable section

namespace Cert.Kernel5Ideal.Body

open Idealize.ShloMosaic Idealize.ShloMosaic.TcCoe Idealize.SL.Sem
open Idealize.ShloMosaic.Pipeline (Dat)
open Cert.Kernel5Ideal Cert.Kernel5Ideal.Gen
open Cert.Reference5Ideal.Body (angR angC lane turnedRef)

/-- A group's lanes, alone. -/
theorem group_sum (f : Fin 512 → EReal) (a : Fin 4) (b : Fin 2) (d : Fin 64) :
    (∑ k : Fin 512, if k.val / 64 = (lane a b d).val / 64 then f k else 0) = ∑ e : Fin 64, f (lane a b e) := by
  rw [← Finset.sum_filter]
  refine (Finset.sum_bij (fun e _ => lane a b e) ?_ ?_ ?_ ?_).symm
  · intro e _
    refine Finset.mem_filter.mpr ⟨Finset.mem_univ _, ?_⟩
    show (a.val * 128 + b.val * 64 + e.val) / 64 = (a.val * 128 + b.val * 64 + d.val) / 64
    omega
  · intro e _ e' _ h
    have h' : a.val * 128 + b.val * 64 + e.val = a.val * 128 + b.val * 64 + e'.val := congrArg Fin.val h
    exact Fin.ext (by omega)
  · intro k hk
    have h' : k.val / 64 = (a.val * 128 + b.val * 64 + d.val) / 64 := (Finset.mem_filter.mp hk).2
    exact ⟨⟨k.val % 64, by omega⟩, Finset.mem_univ _, Fin.ext (by show a.val * 128 + b.val * 64 + k.val % 64 = k.val; omega)⟩
  · intro e _
    rfl

theorem normed_lane (x : Vec Ideal S512x512 .f32) (g : FVec Ideal S1x512 .f32) (i : Fin 512) (a : Fin 4) (b : Fin 2) (d : Fin 64) :
    normed x g i (lane a b d) = x (ix2 i (lane a b d))
      * Ideal.rsqrt (Ideal.div (∑ e : Fin 64, x (ix2 i (lane a b e)) * x (ix2 i (lane a b e))) (Ideal.ofBits .f32 0x42800000#32) + Ideal.ofBits .f32 0x358637BD#32)
      * g (ix2 0 (lane a b d)) := by
  unfold normed
  rw [group_sum (fun k => x (ix2 i k) * x (ix2 i k)) a b d]

/-- The tables by the angles. -/
def cosTable : FVec Ideal S16384x64 .f32 := four (Host.cos angR) (Host.cos angR) (Host.cos angC) (Host.cos angC)

/-- The tables by the angles. -/
def sinTable : FVec Ideal S16384x64 .f32 := four (Host.negf (Host.sin angR)) (Host.sin angR) (Host.negf (Host.sin angC)) (Host.sin angC)

theorem cosTable_at (r : Fin 16384) (d : Fin 64) :
    cosTable (ix2 r d) = if h1 : d.val < 16 then Ideal.cos (angR (ix2 r ⟨d.val, h1⟩)) else if h2 : d.val - 16 < 16 then Ideal.cos (angR (ix2 r ⟨d.val - 16, h2⟩))
      else if h3 : d.val - 16 - 16 < 16 then Ideal.cos (angC (ix2 r ⟨d.val - 16 - 16, h3⟩)) else Ideal.cos (angC (ix2 r ⟨d.val - 16 - 16 - 16, by omega⟩)) :=
  four_at _ _ _ _ r d

theorem sinTable_at (r : Fin 16384) (d : Fin 64) :
    sinTable (ix2 r d) = if h1 : d.val < 16 then -Ideal.sin (angR (ix2 r ⟨d.val, h1⟩)) else if h2 : d.val - 16 < 16 then Ideal.sin (angR (ix2 r ⟨d.val - 16, h2⟩))
      else if h3 : d.val - 16 - 16 < 16 then -Ideal.sin (angC (ix2 r ⟨d.val - 16 - 16, h3⟩)) else Ideal.sin (angC (ix2 r ⟨d.val - 16 - 16 - 16, by omega⟩)) :=
  four_at _ _ _ _ r d

/-- The four quarters' sums, the tables' signs outside. -/
theorem quarters (n : Fin 64 → EReal) (cR sR cC sC : Fin 16 → EReal) (d : Fin 64) (p : EReal)
    (hp : p = if h : d.val % 32 < 16 then n ⟨d.val + 16, by omega⟩ else n ⟨d.val - 16, by omega⟩) :
    n d * (if h1 : d.val < 16 then cR ⟨d.val, h1⟩ else if h2 : d.val - 16 < 16 then cR ⟨d.val - 16, h2⟩
      else if h3 : d.val - 16 - 16 < 16 then cC ⟨d.val - 16 - 16, h3⟩ else cC ⟨d.val - 16 - 16 - 16, by omega⟩)
    + p * (if h1 : d.val < 16 then -sR ⟨d.val, h1⟩ else if h2 : d.val - 16 < 16 then sR ⟨d.val - 16, h2⟩
      else if h3 : d.val - 16 - 16 < 16 then -sC ⟨d.val - 16 - 16, h3⟩ else sC ⟨d.val - 16 - 16 - 16, by omega⟩)
    = if h1 : d.val < 16 then n d * cR ⟨d.val, h1⟩ - n ⟨d.val + 16, by omega⟩ * sR ⟨d.val, h1⟩
      else if h2 : d.val < 32 then n d * cR ⟨d.val - 16, by omega⟩ + n ⟨d.val - 16, by omega⟩ * sR ⟨d.val - 16, by omega⟩
      else if h3 : d.val < 48 then n d * cC ⟨d.val - 32, by omega⟩ - n ⟨d.val + 16, by omega⟩ * sC ⟨d.val - 32, by omega⟩
      else n d * cC ⟨d.val - 48, by omega⟩ + n ⟨d.val - 16, by omega⟩ * sC ⟨d.val - 48, by omega⟩ := by
  subst hp
  obtain ⟨d, hd⟩ := d
  by_cases h1 : d < 16
  · rw [dif_pos h1, dif_pos h1, dif_pos h1, dif_pos (show d % 32 < 16 by omega), mul_neg, sub_eq_add_neg]
  rw [dif_neg h1, dif_neg h1, dif_neg h1]
  by_cases h2 : d < 32
  · rw [dif_pos (show d - 16 < 16 by omega), dif_pos (show d - 16 < 16 by omega), dif_pos h2, dif_neg (show ¬ d % 32 < 16 by omega)]
  rw [dif_neg (show ¬ d - 16 < 16 by omega), dif_neg (show ¬ d - 16 < 16 by omega), dif_neg h2]
  by_cases h3 : d < 48
  · rw [dif_pos (show d - 16 - 16 < 16 by omega), dif_pos (show d - 16 - 16 < 16 by omega), dif_pos h3, dif_pos (show d % 32 < 16 by omega), mul_neg, sub_eq_add_neg]
    simp only [show d - 16 - 16 = d - 32 by omega]
  rw [dif_neg (show ¬ d - 16 - 16 < 16 by omega), dif_neg (show ¬ d - 16 - 16 < 16 by omega), dif_neg h3, dif_neg (show ¬ d % 32 < 16 by omega)]
  simp only [show d - 16 - 16 - 16 = d - 48 by omega]

theorem turned_lane (n : FVec Ideal S512x512 .f32) (c s : Vec Ideal S512x128 .f32) (N : Fin 64 → EReal) (r : Fin 16384) (i : Fin 512)
    (a : Fin 4) (b : Fin 2) (d : Fin 64) (hn : ∀ e, n (ix2 i (lane a b e)) = N e)
    (hc : ∀ (l : Fin 128) (u : Fin 2) (e : Fin 64), l.val = u.val * 64 + e.val → c (ix2 i l) = cosTable (ix2 r e))
    (hs : ∀ (l : Fin 128) (u : Fin 2) (e : Fin 64), l.val = u.val * 64 + e.val → s (ix2 i l) = sinTable (ix2 r e)) :
    turned n c s i (lane a b d) = turnedRef N r d := by
  unfold turned turnedRef
  have en : ∀ (k : Fin 512) (e : Fin 64), k.val = a.val * 128 + b.val * 64 + e.val → n (ix2 i k) = N e := fun k e h =>
    (congrArg (fun k => n (ix2 i k)) (Fin.ext h)).trans (hn e)
  rw [hn d, hc _ b d (show (a.val * 128 + b.val * 64 + d.val) % 128 = b.val * 64 + d.val by omega),
    hs _ b d (show (a.val * 128 + b.val * 64 + d.val) % 128 = b.val * 64 + d.val by omega), cosTable_at, sinTable_at]
  refine quarters N (fun e => Ideal.cos (angR (ix2 r e))) (fun e => Ideal.sin (angR (ix2 r e)))
    (fun e => Ideal.cos (angC (ix2 r e))) (fun e => Ideal.sin (angC (ix2 r e))) d _ ?_
  by_cases h : d.val % 32 < 16
  · rw [dif_pos h, if_pos (show (a.val * 128 + b.val * 64 + d.val) % 32 < 16 by omega)]
    exact en _ _ (show (a.val * 128 + b.val * 64 + d.val + 16) % 512 = a.val * 128 + b.val * 64 + (d.val + 16) by omega)
  · rw [dif_neg h, if_neg (show ¬ (a.val * 128 + b.val * 64 + d.val) % 32 < 16 by omega)]
    exact en _ _ (show (a.val * 128 + b.val * 64 + d.val + 496) % 512 = a.val * 128 + b.val * 64 + (d.val - 16) by omega)

end Cert.Kernel5Ideal.Body

end
-- ==== Proof.PrepTables.lean ====
/- The tables and gains the preparation's region finds, entry by entry. -/
module

public import proofs.«01_k».proof.Proof.PrepReads
public import proofs.«01_k».proof.Proof.PrepRef

@[expose] public section

set_option maxRecDepth 16384

noncomputable section

namespace Cert.Kernel5Ideal.Body

open Idealize.ShloMosaic Idealize.ShloMosaic.TcCoe Idealize.SL.Sem
open Idealize.ShloMosaic.Pipeline (Dat)
open Cert.Kernel5Ideal Cert.Kernel5Ideal.Gen
open Cert.Reference5Ideal.Body (angR angC)

variable (m : (ℓ : Loc nD τ sig) → Buf (Elt Ideal) ℓ) (c : Dev nD)

theorem entry_gainQ : V m c main_v44 = eight (m ((c : Thread nD τ).loc main_arg1)) := by
  entry_read
  rfl

theorem entry_gainK : V m c main_v48 = eight (m ((c : Thread nD τ).loc main_arg2)) := by
  entry_read
  rfl

set_option maxHeartbeats 4000000 in
theorem entry_cos : V m c main_v35 = twice (four (Host.cos angR) (Host.cos angR) (Host.cos angC) (Host.cos angC)) := by
  show StableHlo.after (hostOps0 ++ (hostOps0_1 ++ (hostOps0_2 ++ (hostOps0_3 ++ hostOps0_4)))) (fun b => m (c, b)) (Proc.tc.devRef main_v35) = _
  simp only [List.cons_append, List.nil_append, StableHlo.TRef.binary, StableHlo.TRef.nullary, StableHlo.TRef.ternary, StableHlo.TRef.unary, StableHlo.TRef.toBuf, StableHlo.TRef.ofBuf, cast_eq]
  after_results_simp
  dsimp only [Matrix.cons_val]
  rfl

set_option maxHeartbeats 4000000 in
theorem entry_sin : V m c main_v38 = twice (four (Host.negf (Host.sin angR)) (Host.sin angR) (Host.negf (Host.sin angC)) (Host.sin angC)) := by
  show StableHlo.after (hostOps0 ++ (hostOps0_1 ++ (hostOps0_2 ++ (hostOps0_3 ++ hostOps0_4)))) (fun b => m (c, b)) (Proc.tc.devRef main_v38) = _
  simp only [List.cons_append, List.nil_append, StableHlo.TRef.binary, StableHlo.TRef.nullary, StableHlo.TRef.ternary, StableHlo.TRef.unary, StableHlo.TRef.toBuf, StableHlo.TRef.ofBuf, cast_eq]
  after_results_simp
  dsimp only [Matrix.cons_val]
  rfl

end Cert.Kernel5Ideal.Body

end
-- ==== Proof.PrepBlocks.lean ====
/- What each grid point's blocks hold, and the values' columns. -/
module

public import proofs.«01_k».proof.Proof.PrepTurn
public import proofs.«01_k».proof.Proof.PrepTables

@[expose] public section

set_option maxRecDepth 16384

noncomputable section

namespace Cert.Kernel5Ideal.Body

open Idealize.ShloMosaic Idealize.ShloMosaic.TcCoe Idealize.SL.Sem
open Idealize.ShloMosaic.Pipeline (Dat)
open Cert.Kernel5Ideal Cert.Kernel5Ideal.Gen
open Cert.Reference5Ideal.Body (lane turnedRef normRef ropeRef copies)

variable (m : (ℓ : Loc nD τ sig) → Buf (Elt Ideal) ℓ) (c : Dev nD)

/-- The blocks' places. -/
theorem idx : ∀ t : Fin cfg0.N, win0_0.index t = ![t.val, 10] ∧ win0_1.index t = ![t.val, 11] ∧ win0_2.index t = ![t.val, 12]
    ∧ win0_3.index t = ![t.val, 0] ∧ win0_4.index t = ![t.val, 0] ∧ win0_5.index t = ![0, 0] ∧ win0_6.index t = ![0, 0]
    ∧ win0_7.index t = ![0, t.val, 0] ∧ win0_8.index t = ![t.val, 0] ∧ win0_9.index t = ![0, t.val, 0, 0] :=
  (by decide +kernel : ∀ t : Fin grid0.N, _)

/-- The array row of a block's row. -/
def row (t : Fin cfg0.N) (i : Fin 512) : Fin 16384 := ⟨t.val * 512 + i.val, by have ht : t.val < 32 := Nat.lt_of_lt_of_eq t.isLt N_0; omega⟩

/-- The columns of the projected rows the queries, the keys and the values are read from. -/
def colsQ (x : FVec Ideal S16384x6656 .f32) : FVec Ideal S16384x512 .f32 :=
  extractStridedSlice S16384x512 ![0, 5120] x Cert.Reference5Ideal.Gen.slices_S16384x6656_S16384x512_0_5120
@[inherit_doc colsQ] def colsK (x : FVec Ideal S16384x6656 .f32) : FVec Ideal S16384x512 .f32 :=
  extractStridedSlice S16384x512 ![0, 5632] x Cert.Reference5Ideal.Gen.slices_S16384x6656_S16384x512_0_5632
@[inherit_doc colsQ] def colsV (x : FVec Ideal S16384x6656 .f32) : FVec Ideal S16384x512 .f32 :=
  extractStridedSlice S16384x512 ![0, 6144] x Cert.Reference5Ideal.Gen.slices_S16384x6656_S16384x512_0_6144

theorem block_q (t : Fin cfg0.N) (i k : Fin 512) : iblk m c 0 t (ix2 i k) = colsQ (m ((c : Thread nD τ).loc main_arg0)) (ix2 (row t i) k) := by
  unfold iblk colsQ row
  blk_simp
  refine (congrFun (V_main_arg0 m c) _).trans ?_
  pointwise
  blk_ext [idx t]

theorem block_k (t : Fin cfg0.N) (i k : Fin 512) : iblk m c 1 t (ix2 i k) = colsK (m ((c : Thread nD τ).loc main_arg0)) (ix2 (row t i) k) := by
  unfold iblk colsK row
  blk_simp
  refine (congrFun (V_main_arg0 m c) _).trans ?_
  pointwise
  blk_ext [idx t]

theorem block_v (t : Fin cfg0.N) (i k : Fin 512) : iblk m c 2 t (ix2 i k) = colsV (m ((c : Thread nD τ).loc main_arg0)) (ix2 (row t i) k) := by
  unfold iblk colsV row
  blk_simp
  refine (congrFun (V_main_arg0 m c) _).trans ?_
  pointwise
  blk_ext [idx t]

theorem block_cos (t : Fin cfg0.N) (i : Fin 512) (l : Fin 128) (u : Fin 2) (e : Fin 64) (h : l.val = u.val * 64 + e.val) :
    iblk m c 3 t (ix2 i l) = cosTable (ix2 (row t i) e) := by
  have p : (win0_3.blk t).view.emb (ix2 i l) = ix2 (row t i) l := by unfold row; blk_ext [idx t]
  unfold iblk
  blk_simp
  refine (congrArg (V m c main_v35) p).trans ((congrFun (entry_cos m c) _).trans ?_)
  exact twice_at _ _ u e l h

theorem block_sin (t : Fin cfg0.N) (i : Fin 512) (l : Fin 128) (u : Fin 2) (e : Fin 64) (h : l.val = u.val * 64 + e.val) :
    iblk m c 4 t (ix2 i l) = sinTable (ix2 (row t i) e) := by
  have p : (win0_4.blk t).view.emb (ix2 i l) = ix2 (row t i) l := by unfold row; blk_ext [idx t]
  unfold iblk
  blk_simp
  refine (congrArg (V m c main_v38) p).trans ((congrFun (entry_sin m c) _).trans ?_)
  exact twice_at _ _ u e l h

theorem block_gainQ (t : Fin cfg0.N) (a : Fin 4) (b : Fin 2) (d : Fin 64) :
    iblk m c 5 t (ix2 0 (lane a b d)) = m ((c : Thread nD τ).loc main_arg1) (ix1 d) := by
  have p : (win0_5.blk t).view.emb (ix2 0 (lane a b d)) = ix2 0 (lane a b d) := by blk_ext [idx t]
  unfold iblk
  blk_simp
  refine (congrArg (V m c main_v44) p).trans ((congrFun (entry_gainQ m c) _).trans ?_)
  exact eight_at _ _ ⟨a.val * 2 + b.val, by omega⟩ d (by show a.val * 128 + b.val * 64 + d.val = (a.val * 2 + b.val) * 64 + d.val; omega)

theorem block_gainK (t : Fin cfg0.N) (a : Fin 4) (b : Fin 2) (d : Fin 64) :
    iblk m c 6 t (ix2 0 (lane a b d)) = m ((c : Thread nD τ).loc main_arg2) (ix1 d) := by
  have p : (win0_6.blk t).view.emb (ix2 0 (lane a b d)) = ix2 0 (lane a b d) := by blk_ext [idx t]
  unfold iblk
  blk_simp
  refine (congrArg (V m c main_v48) p).trans ((congrFun (entry_gainK m c) _).trans ?_)
  exact eight_at _ _ ⟨a.val * 2 + b.val, by omega⟩ d (by show a.val * 128 + b.val * 64 + d.val = (a.val * 2 + b.val) * 64 + d.val; omega)

/-- The values, each head's rows turned into columns, a block of 512 places at a time. -/
def valuesRef (x : FVec Ideal S16384x512 .f32) : FVec Ideal Cert.Reference5Ideal.S4x32x128x512 .bf16 :=
  truncf .bf16 (transpose Cert.Reference5Ideal.S4x32x128x512 [2, 0, 3, 1] (shapeCast Cert.Reference5Ideal.S32x512x4x128 x
    Cert.Reference5Ideal.Gen.shapeCasts_S16384x512_S32x512x4x128) Cert.Reference5Ideal.Gen.transposes_S32x512x4x128_S4x32x128x512_2_0_3_1) Cert.Reference5Ideal.Gen.bitsLt_bf16_f32

theorem turn_at (y : FVec Ideal Cert.Reference5Ideal.S32x512x4x128 .f32) (a : Fin 4) (t : Fin 32) (l : Fin 128) (i : Fin 512) :
    transpose Cert.Reference5Ideal.S4x32x128x512 [2, 0, 3, 1] y Cert.Reference5Ideal.Gen.transposes_S32x512x4x128_S4x32x128x512_2_0_3_1 (ix4 a t l i) = y (ix4 t i a l) := by
  pointwise

theorem valuesRef_at (x : FVec Ideal S16384x512 .f32) (a : Fin 4) (t : Fin 32) (l : Fin 128) (i : Fin 512) :
    valuesRef x (ix4 a t l i) = x (ix2 ⟨t.val * 512 + i.val, by omega⟩ ⟨a.val * 128 + l.val, by omega⟩) := by
  unfold valuesRef
  refine (truncf_apply _ _ _ _).trans ((turn_at _ a t l i).trans ?_)
  have e4 : (Cert.Reference5Ideal.S32x512x4x128.rowMajor (ix4 t i a l)).val = ((t.val * 512 + i.val) * 4 + a.val) * 128 + l.val := Shape.rowMajor_val_four _
  have e2 : (S16384x512.rowMajor (ix2 (⟨t.val * 512 + i.val, by omega⟩ : Fin 16384) (⟨a.val * 128 + l.val, by omega⟩ : Fin 512))).val
      = (t.val * 512 + i.val) * 512 + (a.val * 128 + l.val) := Shape.rowMajor_val_two _
  exact shapeCast_apply _ _ (ix4 t i a l) _ ((e2.trans (by omega)).trans e4.symm)

end Cert.Kernel5Ideal.Body

end
-- ==== Proof.PrepValue.lean ====
/- The preparation of queries, keys and values: every grid point writes 512 places of the reference's three arrays. -/
module

public import proofs.«01_k».proof.Proof.PrepBlocks
public import proofs.«01_k».proof.Defs
public import proofs.«01_k».proof.Proof.Gen.Kernel5
public import Idealize.ShloMosaic.Lib.Claim
public import Idealize.ShloMosaic.Lib.Quiescent

@[expose] public section

set_option maxRecDepth 16384

noncomputable section

namespace Cert.Kernel5Ideal.Body

open Idealize.ShloMosaic Idealize.ShloMosaic.TcCoe Idealize.SL.Sem
open Idealize.ShloMosaic.Pipeline (Dat)
open Cert.Kernel5Ideal Cert.Kernel5Ideal.Gen
open Cert.Reference5Ideal.Body (lane turnedRef normRef ropeRef copies copies_at normRef_at ropeRef_at rows_at)

variable (m : (ℓ : Loc nD τ sig) → Buf (Elt Ideal) ℓ) (c : Dev nD)

/-- The queries' normalized rows, as the reference states them. -/
abbrev normQ : FVec Ideal Cert.Reference5Ideal.S16384x4x2x64 .f32 := normRef (colsQ (m ((c : Thread nD τ).loc main_arg0))) (m ((c : Thread nD τ).loc main_arg1))

/-- The keys' normalized rows, as the reference states them. -/
abbrev normK : FVec Ideal Cert.Reference5Ideal.S16384x4x2x64 .f32 := normRef (colsK (m ((c : Thread nD τ).loc main_arg0))) (m ((c : Thread nD τ).loc main_arg2))

/-- The keys, as the reference states them. -/
def keysRef (k : FVec Ideal Cert.Reference5Ideal.S16384x4x2x64 .f32) : FVec Ideal S16384x512 .bf16 :=
  truncf .bf16 (shapeCast S16384x512 k Cert.Reference5Ideal.Gen.shapeCasts_S16384x4x2x64_S16384x512) Cert.Reference5Ideal.Gen.bitsLt_bf16_f32

theorem lanes (j : Fin 512) : ∃ (a : Fin 4) (b : Fin 2) (d : Fin 64), j = lane a b d :=
  ⟨⟨j.val / 128, by omega⟩, ⟨j.val % 128 / 64, by omega⟩, ⟨j.val % 64, by omega⟩,
    Fin.ext (by show j.val = j.val / 128 * 128 + j.val % 128 / 64 * 64 + j.val % 64; omega)⟩

theorem norm_q (t : Fin cfg0.N) (i : Fin 512) (a : Fin 4) (b : Fin 2) (d : Fin 64) :
    normedBlock (iblk m c 0 t) (iblk m c 5 t) (ix2 i (lane a b d)) = normQ m c (ix4 (row t i) a b d) := by
  refine (normed_lane (iblk m c 0 t) (iblk m c 5 t) i a b d).trans ?_
  refine Eq.trans ?_ (normRef_at _ _ _ _ _ _).symm
  simp only [block_q]
  rw [block_gainQ]

theorem norm_k (t : Fin cfg0.N) (i : Fin 512) (a : Fin 4) (b : Fin 2) (d : Fin 64) :
    normedBlock (iblk m c 1 t) (iblk m c 6 t) (ix2 i (lane a b d)) = normK m c (ix4 (row t i) a b d) := by
  refine (normed_lane (iblk m c 1 t) (iblk m c 6 t) i a b d).trans ?_
  refine Eq.trans ?_ (normRef_at _ _ _ _ _ _).symm
  simp only [block_k]
  rw [block_gainK]

theorem turn_q (t : Fin cfg0.N) (i : Fin 512) (a : Fin 4) (b : Fin 2) (d : Fin 64) :
    turned (normedBlock (iblk m c 0 t) (iblk m c 5 t)) (iblk m c 3 t) (iblk m c 4 t) i (lane a b d) = ropeRef (normQ m c) (ix4 (row t i) a b d) :=
  (turned_lane _ _ _ (fun e => normQ m c (ix4 (row t i) a b e)) (row t i) i a b d (norm_q m c t i a b) (block_cos m c t i) (block_sin m c t i)).trans
    (ropeRef_at _ _ _ _ _).symm

theorem turn_k (t : Fin cfg0.N) (i : Fin 512) (a : Fin 4) (b : Fin 2) (d : Fin 64) :
    turned (normedBlock (iblk m c 1 t) (iblk m c 6 t)) (iblk m c 3 t) (iblk m c 4 t) i (lane a b d) = ropeRef (normK m c) (ix4 (row t i) a b d) :=
  (turned_lane _ _ _ (fun e => normK m c (ix4 (row t i) a b e)) (row t i) i a b d (norm_k m c t i a b) (block_cos m c t i) (block_sin m c t i)).trans
    (ropeRef_at _ _ _ _ _).symm

theorem point_q (t : Fin cfg0.N) (h : Fin 2) (i j : Fin 512) :
    queries (iblk m c 0 t) (iblk m c 3 t) (iblk m c 4 t) (iblk m c 5 t) (ix3 h i j) = copies (ropeRef (normQ m c)) (ix3 h (row t i) j) := by
  obtain ⟨a, b, d, rfl⟩ := lanes j
  rw [copies_at]
  show (if (a.val * 128 + b.val * 64 + d.val) % 128 / 64 = h.val then turned (normedBlock (iblk m c 0 t) (iblk m c 5 t)) (iblk m c 3 t) (iblk m c 4 t) i (lane a b d)
    * Ideal.ofBits .f32 0x3E000000#32 else 0) = _
  rw [turn_q, show (a.val * 128 + b.val * 64 + d.val) % 128 / 64 = b.val by omega]

theorem point_k (t : Fin cfg0.N) (i j : Fin 512) :
    turned (normedBlock (iblk m c 1 t) (iblk m c 6 t)) (iblk m c 3 t) (iblk m c 4 t) i j = keysRef (ropeRef (normK m c)) (ix2 (row t i) j) := by
  obtain ⟨a, b, d, rfl⟩ := lanes j
  rw [turn_k]
  exact (rows_at _ _ _ _ _).symm

theorem point_v (t : Fin cfg0.N) (y : S4x1x128x512.Idx) :
    Value.E9 (iblk m c 2 t) y = valuesRef (colsV (m ((c : Thread nD τ).loc main_arg0)))
      (ix4 (y 0) (⟨t.val, Nat.lt_of_lt_of_eq t.isLt N_0⟩ : Fin 32) (y 2) (y 3)) := by
  have h0 : (y 0).val < 4 := (y 0).isLt
  have h2 : (y 2).val < 128 := (y 2).isLt
  refine Eq.trans ?_ (valuesRef_at _ (y 0) ⟨t.val, Nat.lt_of_lt_of_eq t.isLt N_0⟩ (y 2) (y 3)).symm
  refine Eq.trans ?_ (block_v m c t (y 3) ⟨(y 0).val * 128 + (y 2).val, by omega⟩)
  show iblk m c 2 t (Value.ix9_0 y) = _
  refine congrArg (iblk m c 2 t) ?_
  funext a
  refine Fin.ext ?_
  match a with
  | ⟨0, _⟩ => rfl
  | ⟨1, _⟩ => show Fin.val (Value.ix9_0 y 1) = (y 0).val * 128 + (y 2).val; dsimp only [Value.ix9_0]; try omega

/-- The queries' array after the run. -/
theorem final_q : (dats m 0 c).arrAt 7 (cfgs 0).N = copies (ropeRef (normQ m c)) := by
  refine (dats m 0 c).arrAt_eq_of_covers 7 _ (by decide +kernel) fun t _ y => ?_
  blk_simp
  rw [after0_7, out7_eq]
  have e : ((cfg0.win 7).blk t).view.emb y = ix3 (y 0) (row t (y 1)) (y 2) := by unfold row; blk_ext [idx t]
  refine Eq.trans ?_ (congrArg (copies (ropeRef (normQ m c))) e).symm
  refine Eq.trans ?_ (point_q m c t (y 0) (y 1) (y 2))
  exact congrArg _ (eq_ix3 y)

/-- The keys' array after the run. -/
theorem final_k : (dats m 0 c).arrAt 8 (cfgs 0).N = keysRef (ropeRef (normK m c)) := by
  refine (dats m 0 c).arrAt_eq_of_covers 8 _ (by decide +kernel) fun t _ y => ?_
  blk_simp
  rw [after0_8]
  have e : ((cfg0.win 8).blk t).view.emb y = ix2 (row t (y 0)) (y 1) := by unfold row; blk_ext [idx t]
  refine Eq.trans ?_ (congrArg (keysRef (ropeRef (normK m c))) e).symm
  refine (congrArg _ (eq_ix2 y)).trans ((out8_at _ _ _ _ _ _ _ (y 0) (y 1)).trans ?_)
  exact point_k m c t (y 0) (y 1)

/-- The values' array after the run. -/
theorem final_v : (dats m 0 c).arrAt 9 (cfgs 0).N = valuesRef (colsV (m ((c : Thread nD τ).loc main_arg0))) := by
  refine (dats m 0 c).arrAt_eq_of_covers 9 _ (by decide +kernel) fun t _ y => ?_
  blk_simp
  rw [after0_9]
  have ht : t.val < 32 := Nat.lt_of_lt_of_eq t.isLt N_0
  have e : ((cfg0.win 9).blk t).view.emb y = ix4 (y 0) (⟨t.val, ht⟩ : Fin 32) (y 2) (y 3) := by
    have h1 : (y 1).val < 1 := (y 1).isLt
    blk_ext [idx t]
  refine Eq.trans ?_ (congrArg (valuesRef (colsV (m ((c : Thread nD τ).loc main_arg0)))) e).symm
  unfold_out out0_9
  refine (Value.canon9_eq _ y).trans ?_
  rw [ld_block]
  exact point_v m c t y

end Cert.Kernel5Ideal.Body

namespace Cert.Proof

open Idealize.ShloMosaic Idealize.ShloMosaic.TcCoe Idealize.SL.Sem

theorem algebraic5 : Cert.algebraic_Kernel5Ideal_Reference5Ideal (hKernel5Ideal := Cert.Kernel5Ideal.Gen.facts)
    (hReference5Ideal := Cert.Reference5Ideal.Gen.facts) := by
  pair_intro
  · run_from Cert.Kernel5Ideal.Value.run_blocks m g
  · refine (θ_run _ _ _).mono (fun r h c => ⟨?_, ?_, ?_, (h c).2.2.2⟩) (Cert.Reference5Ideal.Value.run m' g')
    · obtain ⟨g0, g1, g2⟩ := hagree c
      rw [(h c).1, Cert.Kernel5Ideal.Body.final_q m c, Cert.Reference5Ideal.Body.queries_eq, g0, g1]
      rfl
    · obtain ⟨g0, g1, g2⟩ := hagree c
      rw [(h c).2.1, Cert.Kernel5Ideal.Body.final_k m c, Cert.Reference5Ideal.Body.keys_eq, g0, g2]
      rfl
    · obtain ⟨g0, g1, g2⟩ := hagree c
      rw [(h c).2.2.1, Cert.Kernel5Ideal.Body.final_v m c, g0]
      rfl

theorem frame_reference5 : Cert.quiescent_Reference5Ideal (hReference5Ideal := Cert.Reference5Ideal.Gen.facts) := fun m g _ =>
  (θ_run _ _ _).mono (fun r h => ⟨fun c => (h c).2.2.2, sem_eq_zero_of_no_sems rfl r.2⟩) (Cert.Reference5Ideal.Value.run m g)

end Cert.Proof

end
-- ==== Proof.ContextRun.lean ====
/- What the context rows' attention stores into its output block: the term over the input blocks, and that term at one
   element, over real scores and values. -/
module

public import proofs.«01_k».proof.Proof.Gen.Kernel6Ideal.Frame
public import proofs.«01_k».proof.Proof.Softmax
public import Idealize.ShloMosaic.Lib.Pipeline.ValueKit
public import Idealize.ShloMosaic.Lib.VecWindow
public import Idealize.ShloMosaic.Lib.Pointwise

@[expose] public section

set_option maxRecDepth 16384

noncomputable section

namespace Cert.Kernel6Ideal.Run

open Idealize.ShloMosaic Idealize.ShloMosaic.TcCoe Idealize.SL.Sem
open Cert.Kernel6Ideal Cert.Kernel6Ideal.Gen Cert.Softmax

/-- The sum of the exponentials over the keys. -/
def lEnd (x1 : Vec Ideal S2x256x128 .bf16) (x2 : Vec Ideal S256x128 .bf16) : FVec Ideal S1x512 .f32 :=
  k0_pay12 (k0_pay10 x1 x2 (k0_pay2 (F := Ideal)) (k0_pay3 (F := Ideal))) (k0_pay11 x1 x2 (k0_pay2 (F := Ideal)))

/-- The weighted sum of the values. -/
def accEnd (x1 : Vec Ideal S2x256x128 .bf16) (x2 : Vec Ideal S256x128 .bf16) (x3 : Vec Ideal S1x1x128x256 .bf16) : FVec Ideal S128x512 .f32 :=
  k0_pay13 (k0_pay5 x3) (k0_pay8 x1 x2 (k0_pay2 (F := Ideal))) (k0_pay9 x1 x2 (k0_pay2 (F := Ideal))) (k0_pay4 (F := Ideal))

/-- The block stored. -/
def outOf (x0 : Vec Ideal S1x1 .f32) (x1 : Vec Ideal S2x256x128 .bf16) (x2 : Vec Ideal S256x128 .bf16) (x3 : Vec Ideal S1x1x128x256 .bf16)
    (x4 : Vec Ideal S128x1 .f32) : FVec Ideal S256x128 .f32 :=
  k0_pay1 (k0_pay15 (accEnd x1 x2 x3) (lEnd x1 x2) (x0 (Shape.Idx.first (by decide))))
    (k0_pay16 (accEnd x1 x2 x3) (lEnd x1 x2) (x0 (Shape.Idx.first (by decide)))) x4

section

variable (c : Dev nD) (i : grid0.Coords) (arg2 : Memref sig .tc .smem S1x1 .f32) (harg2 : arg2.IsWhole) (arg3 : Memref sig .tc .vmem S2x256x128 .bf16) (harg3 : arg3.IsWhole) (arg4 : Memref sig .tc .vmem S256x128 .bf16) (harg4 : arg4.IsWhole) (arg5 : Memref sig .tc .vmem S1x1x128x256 .bf16) (harg5 : arg5.IsWhole) (arg6 : Memref sig .tc .vmem S128x1 .f32) (harg6 : arg6.IsWhole) (arg7 : Memref sig .tc .vmem S256x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S128x512 .f32) (harg10 : arg10.IsWhole)
  (x0 : Vec Ideal S1x1 .f32) (x1 : Vec Ideal S2x256x128 .bf16) (x2 : Vec Ideal S256x128 .bf16) (x3 : Vec Ideal S1x1x128x256 .bf16) (x4 : Vec Ideal S128x1 .f32)

/-- The kernel's output block. -/
theorem out_eq : out0_A_5 (F := Ideal) c i arg2 harg2 arg3 harg3 arg4 harg4 arg5 harg5 arg6 harg6 arg7 harg7 arg8 harg8 arg9 harg9 arg10 harg10 x0 x1 x2 x3 x4
    = outOf x0 x1 x2 x3 x4 := by
  have e2 : View.readAt (Elt Ideal) arg2.view (Rect.unit ![0, 0] S1x1.size inb_S1x1_S1x1_0_0).toLoadRect (harg2.unread x0) = x0 :=
    (View.readAt_full _ _ _).trans (harg2.read_unread _)
  have e3 : View.readAt (Elt Ideal) arg3.view (Rect.unit ![0, 0, 0] S2x256x128.size inb_S2x256x128_S2x256x128_0_0_0).toLoadRect (harg3.unread x1) = x1 :=
    (View.readAt_full _ _ _).trans (harg3.read_unread _)
  have e4 : View.readAt (Elt Ideal) arg4.view (Rect.unit ![0, 0] S256x128.size inb_S256x128_S256x128_0_0).toLoadRect (harg4.unread x2) = x2 :=
    (View.readAt_full _ _ _).trans (harg4.read_unread _)
  have e5 : View.readAt (Elt Ideal) arg5.view (Rect.unit ![0, 0, 0, 0] S1x1x128x256.size inb_S1x1x128x256_S1x1x128x256_0_0_0_0).toLoadRect (harg5.unread x3) = x3 :=
    (View.readAt_full _ _ _).trans (harg5.read_unread _)
  have e6 : View.readAt (Elt Ideal) arg6.view (Rect.unit ![0, 0] S128x1.size inb_S128x1_S128x1_0_0).toLoadRect (harg6.unread x4) = x4 :=
    (View.readAt_full _ _ _).trans (harg6.read_unread _)
  have f8 : ∀ w L, View.readAt (Elt Ideal) arg8.view (Rect.unit ![0, 0] S1x512.size inb_S1x512_S1x512_0_0).toLoadRect (arg8.view.writes (Elt Ideal) arg8.view.junk (⟨Rect.unit ![0, 0] S1x512.size inb_S1x512_S1x512_0_0, w⟩ :: L)) = w :=
    fun w L => View.readAt_writes_full _ _ _ _ _ _
  have f9 : ∀ w L, View.readAt (Elt Ideal) arg9.view (Rect.unit ![0, 0] S1x512.size inb_S1x512_S1x512_0_0).toLoadRect (arg9.view.writes (Elt Ideal) arg9.view.junk (⟨Rect.unit ![0, 0] S1x512.size inb_S1x512_S1x512_0_0, w⟩ :: L)) = w :=
    fun w L => View.readAt_writes_full _ _ _ _ _ _
  have f10 : ∀ w L, View.readAt (Elt Ideal) arg10.view (Rect.unit ![0, 0] S128x512.size inb_S128x512_S128x512_0_0).toLoadRect (arg10.view.writes (Elt Ideal) arg10.view.junk (⟨Rect.unit ![0, 0] S128x512.size inb_S128x512_S128x512_0_0, w⟩ :: L)) = w :=
    fun w L => View.readAt_writes_full _ _ _ _ _ _
  unfold out0_A_5 kernelRun0_A
  dsimp only
  refine (View.read_writes_full _ _ _ _ _).trans ?_
  sl_unfold_run_names
  rw [e6, e2, e3, e4, e5]
  unfold View.readCov
  simp only [f8, f9, f10]
  rfl

end

/-- The word of `-∞`. -/
theorem ofBits_bot : Ideal.ofBits .f32 4286578688#32 = ⊥ := by
  simp [Ideal.ofBits, Ideal.ieee]

/-- The word of `-10³⁰`. -/
theorem ofBits_real : ∃ μ : ℝ, Ideal.ofBits .f32 4048155338#32 = (μ : EReal) := by
  simp only [Ideal.ofBits, Ideal.ieee]
  rw [if_neg (by decide), if_neg (by decide)]
  exact ⟨_, rfl⟩

section

variable (x1 : Vec Ideal S2x256x128 .bf16) (C : Vec Ideal S256x128 .bf16) (W : Vec Ideal S1x1x128x256 .bf16) (m l : Vec Ideal S1x512 .f32)
  (a : Vec Ideal S128x512 .f32)

theorem pay6_at (r : Fin 256) (j : Fin 512) :
    k0_pay6 (F := Ideal) x1 C (ix2 r j) = ∑ x : Fin 128, C (ix2 r x) * x1 (ix3 ⟨j.val / 256, by omega⟩ ⟨j.val % 256, by omega⟩ x) := by
  pointwise [k0_pay6]

theorem pay7_at (j : Fin 512) :
    k0_pay7 (F := Ideal) x1 C m (ix2 0 j) = max (m (ix2 0 j)) (Finset.univ.fold max ⊥ fun r : Fin 256 => k0_pay6 x1 C (ix2 r j)) := by
  pointwise [k0_pay7]
  rw [ofBits_bot]

theorem pay12_at (j : Fin 512) :
    k0_pay12 (F := Ideal) (k0_pay10 x1 C m l) (k0_pay11 x1 C m) (ix2 0 j) = Ideal.exp (m (ix2 0 j) - k0_pay7 x1 C m (ix2 0 j)) * l (ix2 0 j)
      + ∑ r : Fin 256, Ideal.exp (k0_pay6 x1 C (ix2 r j) - k0_pay7 x1 C m (ix2 0 j)) := by
  pointwise [k0_pay8, k0_pay9, k0_pay10, k0_pay11, k0_pay12]

theorem pay13_at (d : Fin 128) (j : Fin 512) :
    k0_pay13 (F := Ideal) (k0_pay5 W) (k0_pay8 x1 C m) (k0_pay9 x1 C m) a (ix2 d j)
      = Ideal.exp (m (ix2 0 j) - k0_pay7 x1 C m (ix2 0 j)) * a (ix2 d j)
      + ∑ r : Fin 256, W (ix4 0 0 d r) * Ideal.exp (k0_pay6 x1 C (ix2 r j) - k0_pay7 x1 C m (ix2 0 j)) := by
  pointwise [k0_pay5, k0_pay8, k0_pay9, k0_pay13]

theorem pay15_at (lam : Elt Ideal .f32) (d : Fin 128) (j : Fin 256) :
    k0_pay15 (F := Ideal) a l lam (ix2 d j)
      = Ideal.div (a (ix2 d ⟨j.val, by omega⟩)) (l (ix2 0 ⟨j.val, by omega⟩))
        - lam * Ideal.div (a (ix2 d ⟨256 + j.val, by omega⟩)) (l (ix2 0 ⟨256 + j.val, by omega⟩)) := by
  pointwise [k0_pay15]

theorem pay16_at (lam : Elt Ideal .f32) (j : Fin 256) :
    k0_pay16 (F := Ideal) a l lam (ix2 0 j)
      = Ideal.rsqrt (Ideal.div (∑ x : Fin 128, k0_pay15 a l lam (ix2 x j) * k0_pay15 a l lam (ix2 x j)) (Ideal.ofBits FTy.f32 1124073472#32)
        + Ideal.ofBits FTy.f32 897988541#32) := by
  pointwise [k0_pay16]

theorem pay1_at (o : FVec Ideal S128x256 .f32) (ss : FVec Ideal S1x256 .f32) (g : Vec Ideal S128x1 .f32) (d : Fin 128) (j : Fin 256) :
    k0_pay1 (F := Ideal) o ss g (ix2 j d) = o (ix2 d j) * ss (ix2 0 j) * (g (ix2 d 0) * Ideal.ofBits FTy.f32 1061997773#32) := by
  pointwise [k0_pay1]

end

/-- The starting maximum is a number. -/
theorem pay2_at : ∃ μ : ℝ, ∀ j, k0_pay2 (F := Ideal) j = (μ : EReal) := by
  obtain ⟨μ, h⟩ := ofBits_real
  refine ⟨μ, fun j => ?_⟩
  pointwise [k0_pay2]
  exact h

theorem pay3_at (j : S1x512.Idx) : k0_pay3 (F := Ideal) j = 0 := by pointwise [k0_pay3]

theorem pay4_at (j : S128x512.Idx) : k0_pay4 (F := Ideal) j = 0 := by pointwise [k0_pay4]

/-- The blocks hold real scores `S` (of column `j` against key `r`) and real values `V` (of channel `d` at key `r`). -/
structure Holds (x1 : Vec Ideal S2x256x128 .bf16) (x2 : Vec Ideal S256x128 .bf16) (x3 : Vec Ideal S1x1x128x256 .bf16)
    (S : Fin 512 → ℕ → ℝ) (V : Fin 128 → ℕ → ℝ) : Prop where
  score : ∀ (r : Fin 256) j, k0_pay6 (F := Ideal) x1 x2 (ix2 r j) = (S j r.val : EReal)
  value : ∀ (d : Fin 128) (r : Fin 256), x3 (ix4 0 0 d r) = (V d r.val : EReal)

variable {x0 : Vec Ideal S1x1 .f32} {x1 : Vec Ideal S2x256x128 .bf16} {x2 : Vec Ideal S256x128 .bf16} {x3 : Vec Ideal S1x1x128x256 .bf16}
  {x4 : Vec Ideal S128x1 .f32} {S : Fin 512 → ℕ → ℝ} {V : Fin 128 → ℕ → ℝ}

/-- The sums after all keys. -/
theorem seen_end (h : Holds x1 x2 x3 S V) (j : Fin 512) (d : Fin 128) :
    ∃ m, Seen 256 (S j) (V d) m (lEnd x1 x2 (ix2 0 j)) (accEnd x1 x2 x3 (ix2 d j)) := by
  obtain ⟨μ, hμ⟩ := pay2_at
  have hs := (Seen.zero (S j) (V d) μ).step (K := 256) (s := fun r => k0_pay6 (F := Ideal) x1 x2 (ix2 r j)) (v := fun r => x3 (ix4 0 0 d r))
    (fun r => by rw [h.score, Nat.zero_add]) (fun r => by rw [h.value, Nat.zero_add])
  unfold lEnd accEnd
  rw [pay12_at, pay13_at, pay7_at, hμ, pay3_at, pay4_at]
  rw [Nat.zero_add] at hs
  exact ⟨_, hs⟩

/-- Row `i`'s difference of the two averages, at channel `d`. -/
def avg (S : Fin 512 → ℕ → ℝ) (V : Fin 128 → ℕ → ℝ) (lam : ℝ) (i : Fin 256) (d : Fin 128) : ℝ :=
  ∑ r ∈ Finset.range 256, V d r * (wt 256 (S ⟨i.val, by omega⟩) r - lam * wt 256 (S ⟨256 + i.val, by omega⟩) r)

/-- A row normalised: divided by its root mean square (with the reference's small constant), times the gain and the
    constant factor. -/
def norm (o : Fin 128 → ℝ) (g : EReal) (d : Fin 128) : EReal :=
  (o d : EReal) * Ideal.rsqrt (Ideal.div (∑ x, (o x : EReal) * (o x : EReal)) (Ideal.ofBits .f32 1124073472#32) + Ideal.ofBits .f32 897988541#32)
    * (g * Ideal.ofBits .f32 1061997773#32)

/-- The output block at row `i`, channel `d`. -/
theorem out_at (h : Holds x1 x2 x3 S V) {lam : ℝ} (h0 : ∀ z, x0 z = (lam : EReal)) (i : Fin 256) (d : Fin 128) :
    outOf x0 x1 x2 x3 x4 (ix2 i d) = norm (avg S V lam i) (x4 (ix2 d 0)) d := by
  have ho : ∀ d, k0_pay15 (F := Ideal) (accEnd x1 x2 x3) (lEnd x1 x2) (lam : EReal) (ix2 d i) = (avg S V lam i d : EReal) := fun d => by
    obtain ⟨m₀, s₀⟩ := seen_end h ⟨i.val, by omega⟩ d
    obtain ⟨m₁, s₁⟩ := seen_end h ⟨256 + i.val, by omega⟩ d
    rw [pay15_at, s₀.div (by norm_num), s₁.div (by norm_num), sub_avg]
    rfl
  unfold outOf
  rw [h0, pay1_at, pay16_at]
  simp only [ho]
  rfl

end Cert.Kernel6Ideal.Run

end
-- ==== Proof.ContextRef.lean ====
/- The attention of the context rows to the context alone: what it computes over the real numbers, and the reference's
   term in stages, each read at one index. -/
module

public import proofs.«01_k».proof.Proof.Gen.Reference6Ideal.Run
public import proofs.«01_k».proof.Proof.Ref
public import proofs.«01_k».proof.Proof.Softmax
public import Idealize.ShloMosaic.Lib.Pointwise

@[expose] public section

set_option maxRecDepth 16384

noncomputable section

namespace Cert.ContextSpec

open Idealize.ShloMosaic

/-- Element `x` of key `r`. -/
def key (kc : (⟨2, ![256, 512]⟩ : Shape).Idx → ℝ) (r : ℕ) (x : Fin 512) : ℝ := if h : r < 256 then kc (ix2 ⟨r, h⟩ x) else 0

/-- Element `d` of the value at key `r`, in head `h`. -/
def val (vc : (⟨4, ![4, 1, 128, 256]⟩ : Shape).Idx → ℝ) (h : Fin 4) (d : Fin 128) (r : ℕ) : ℝ :=
  if g : r < 256 then vc (ix4 h 0 d ⟨r, g⟩) else 0

/-- The score of query row `i` (of the first or the second query, `c`) with key `r`, in head `h`. -/
def score (q : (⟨3, ![2, 256, 512]⟩ : Shape).Idx → ℝ) (kc : (⟨2, ![256, 512]⟩ : Shape).Idx → ℝ) (h : Fin 4) (c : Fin 2) (i : Fin 256) (r : ℕ) : ℝ :=
  ∑ x : Fin 128, key kc r ⟨h.val * 128 + x.val, by omega⟩ * q (ix3 c i ⟨h.val * 128 + x.val, by omega⟩)

/-- The difference of the two averages. -/
def out (q : (⟨3, ![2, 256, 512]⟩ : Shape).Idx → ℝ) (kc : (⟨2, ![256, 512]⟩ : Shape).Idx → ℝ) (vc : (⟨4, ![4, 1, 128, 256]⟩ : Shape).Idx → ℝ)
    (lam : ℝ) (h : Fin 4) (i : Fin 256) (d : Fin 128) : ℝ :=
  ∑ r ∈ Finset.range 256, val vc h d r * (Softmax.wt 256 (score q kc h 0 i) r - lam * Softmax.wt 256 (score q kc h 1 i) r)

end Cert.ContextSpec

namespace Cert.Reference6Ideal.Value

open Idealize.ShloMosaic Idealize.ShloMosaic.TcCoe Idealize.SL.Sem
open Cert.Reference6Ideal Cert.Reference6Ideal.Gen

variable (a0 : FVec Ideal S1x1 .f32) (a1 : FVec Ideal S2x256x512 .bf16) (a2 : FVec Ideal S256x512 .bf16) (a3 : FVec Ideal S4x1x128x256 .bf16)
  (a4 : FVec Ideal S128x1 .f32)

/-- The scores. -/
def sc : FVec Ideal S4x2x256x256 .f32 :=
  Host.dotGeneral dot_S2x256x4x128_S256x4x128_S4x2x256x256_3_2_01_0_2_1 none (shapeCast _ (extf .f32 a1 bitsLt_bf16_f32) shapeCasts_S2x256x512_S2x256x4x128) (shapeCast _ (extf .f32 a2 bitsLt_bf16_f32) shapeCasts_S256x512_S256x4x128)

/-- The maxima of the rows. -/
def top (s : FVec Ideal S4x2x256x256 .f32) : FVec Ideal S4x2x256 .f32 :=
  Host.reduce FloatOps.maximumf s (constant S_ .f32 0xFF800000#32) reducesTo_S4x2x256x256_S4x2x256_d3 h_S_

/-- The rows' maxima, one for each score. -/
def mx (s : FVec Ideal S4x2x256 .f32) : FVec Ideal S4x2x256x256 .f32 :=
  broadcastInDim S4x2x256x256 ![0, 1, 2, 3] bcast_S4x2x256x1_S4x2x256x256_0_1_2_3 (broadcastInDim S4x2x256x1 ![0, 1, 2] bcast_S4x2x256_S4x2x256x1_0_1_2 (maximumf (broadcastInDim S4x2x256 ![] bcast_S_S4x2x256 (constant S_ .f32 0xFF800000#32)) s))

/-- The shifted exponentials. -/
def ex (s : FVec Ideal S4x2x256x256 .f32) : FVec Ideal S4x2x256x256 .f32 := Host.exp (subf s (mx (top s)))

/-- The softmax of the scores. -/
def pr (e : FVec Ideal S4x2x256x256 .f32) : FVec Ideal S4x2x256x256 .f32 :=
  Host.divf e (broadcastInDim S4x2x256x256 ![0, 1, 2, 3] bcast_S4x2x256x1_S4x2x256x256_0_1_2_3 (broadcastInDim S4x2x256x1 ![0, 1, 2] bcast_S4x2x256_S4x2x256x1_0_1_2 (Host.reduceAdd e (constant S_ .f32 0x00000000#32) reducesTo_S4x2x256x256_S4x2x256_d3 h_S_)))

/-- The difference of the two softmaxes. -/
def df (p : FVec Ideal S4x2x256x256 .f32) : FVec Ideal S4x256x256 .f32 :=
  subf (shapeCast _ (extractStridedSlice S4x1x256x256 ![0, 0, 0, 0] p slices_S4x2x256x256_S4x1x256x256_0_0_0_0) shapeCasts_S4x1x256x256_S4x256x256) (mulf (broadcastInDim S4x256x256 ![] bcast_S_S4x256x256 (shapeCast _ a0 shapeCasts_S1x1_S_)) (shapeCast _ (extractStridedSlice S4x1x256x256 ![0, 1, 0, 0] p slices_S4x2x256x256_S4x1x256x256_0_1_0_0) shapeCasts_S4x1x256x256_S4x256x256))

/-- The weighted sums of the values. -/
def av (w : FVec Ideal S4x256x256 .f32) : FVec Ideal S256x4x128 .f32 :=
  transpose S256x4x128 [2, 0, 1] (Host.dotGeneral dot_S4x256x128_S4x256x256_S4x128x256_1_2_2_1_0_0 none (shapeCast _ (transpose S4x1x256x128 [0, 1, 3, 2] (extf .f32 a3 bitsLt_bf16_f32) transposes_S4x1x128x256_S4x1x256x128_0_1_3_2) shapeCasts_S4x1x256x128_S4x256x128) w) transposes_S4x128x256_S256x4x128_2_0_1

/-- The normalised heads, with their gain and the constant factor. -/
def nm (o : FVec Ideal S256x4x128 .f32) : FVec Ideal S256x512 .f32 :=
  shapeCast _ (mulf (mulf (mulf o (broadcastInDim S256x4x128 ![0, 1, 2] bcast_S256x4x1_S256x4x128_0_1_2 (Host.rsqrt (addf (Host.divf (broadcastInDim S256x4x1 ![0, 1] bcast_S256x4_S256x4x1_0_1 (Host.reduceAdd (mulf o o) (constant S_ .f32 0x00000000#32) reducesTo_S256x4x128_S256x4_d2 h_S_)) (broadcastInDim S256x4x1 ![] bcast_S_S256x4x1 (constant S_ .f32 0x43000000#32))) (broadcastInDim S256x4x1 ![] bcast_S_S256x4x1 (constant S_ .f32 0x358637BD#32)))))) (broadcastInDim S256x4x128 ![0, 1, 2] bcast_S1x1x128_S256x4x128_0_1_2 (broadcastInDim S1x1x128 ![2] bcast_S128_S1x1x128_2 (shapeCast _ a4 shapeCasts_S128x1_S128)))) (broadcastInDim S256x4x128 ![] bcast_S_S256x4x128 (constant S_ .f32 0x3F4CCCCD#32))) shapeCasts_S256x4x128_S256x512

theorem sc_at (h : Fin 4) (c : Fin 2) (i t : Fin 256) :
    sc a1 a2 (ix4 h c i t) = ∑ x : Fin 128, a1 (ix3 c i ⟨h.val * 128 + x.val, by omega⟩) * a2 (ix2 t ⟨h.val * 128 + x.val, by omega⟩) := by
  pointwise [sc]

theorem mx_at (s : FVec Ideal S4x2x256 .f32) (h : Fin 4) (c : Fin 2) (i t : Fin 256) :
    mx s (ix4 h c i t) = max (Ideal.ofBits .f32 0xFF800000#32) (s (ix3 h c i)) := by
  pointwise [mx]

theorem ex_at (s : FVec Ideal S4x2x256x256 .f32) (h : Fin 4) (c : Fin 2) (i t : Fin 256) :
    ex s (ix4 h c i t) = Ideal.exp (s (ix4 h c i t) - mx (top s) (ix4 h c i t)) := by
  pointwise [ex]

theorem pr_at (e : FVec Ideal S4x2x256x256 .f32) (h : Fin 4) (c : Fin 2) (i t : Fin 256) :
    pr e (ix4 h c i t) = Ideal.div (e (ix4 h c i t)) (∑ x : Fin 256, e (ix4 h c i x)) := by
  pointwise [pr]

theorem df_at (p : FVec Ideal S4x2x256x256 .f32) (h : Fin 4) (i t : Fin 256) :
    df a0 p (ix3 h i t) = p (ix4 h 0 i t) - a0 (ix2 0 0) * p (ix4 h 1 i t) := by
  pointwise [df]

theorem av_at (w : FVec Ideal S4x256x256 .f32) (h : Fin 4) (i : Fin 256) (d : Fin 128) :
    av a3 w (ix3 i h d) = ∑ x : Fin 256, a3 (ix4 h 0 d x) * w (ix3 h i x) := by
  pointwise [av]

theorem nm_at (o : FVec Ideal S256x4x128 .f32) (i : Fin 256) (z : Fin 512) :
    nm a4 o (ix2 i z) = o (ix3 i ⟨z.val / 128, by omega⟩ ⟨z.val % 128, by omega⟩) *
          Ideal.rsqrt (Ideal.div (∑ x : Fin 128, o (ix3 i ⟨z.val / 128, by omega⟩ x) * o (ix3 i ⟨z.val / 128, by omega⟩ x))
              (Ideal.ofBits .f32 1124073472#32) + Ideal.ofBits .f32 897988541#32)
        * a4 (ix2 ⟨z.val % 128, by omega⟩ 0) * Ideal.ofBits .f32 1061997773#32 := by
  pointwise [nm]

section

variable (m : (ℓ : Loc nD τ sig) → Buf (Elt Ideal) ℓ) (c : Dev nD)

set_option maxRecDepth 65536 in
/-- The reference's result is its stages one after another. -/
theorem res_eq : res_main_v45 m c = nm (m ((c.tc : Thread nD τ).loc main_arg4)) (av (m ((c.tc : Thread nD τ).loc main_arg3))
    (df (m ((c.tc : Thread nD τ).loc main_arg0)) (pr (ex (sc (m ((c.tc : Thread nD τ).loc main_arg1)) (m ((c.tc : Thread nD τ).loc main_arg2))))))) := by
  unfold res_main_v45 nm av df pr ex mx top sc
  rfl

end

variable {a0 a1 a2 a3} {lam : ℝ} {q : S2x256x512.Idx → ℝ} {kc : S256x512.Idx → ℝ} {vc : S4x1x128x256.Idx → ℝ}

theorem ofBits_bot : Ideal.ofBits .f32 0xFF800000#32 = ⊥ := by simp [Ideal.ofBits, Ideal.ieee]

theorem sc_real (h1 : ∀ i, a1 i = (q i : EReal)) (h2 : ∀ i, a2 i = (kc i : EReal)) (h : Fin 4) (c : Fin 2) (i t : Fin 256) :
    sc a1 a2 (ix4 h c i t) = (ContextSpec.score q kc h c i t.val : EReal) := by
  rw [sc_at, ContextSpec.score, ← Softmax.coe_sum]
  refine Finset.sum_congr rfl fun x _ => ?_
  rw [h1, h2, EReal.coe_mul, mul_comm, ContextSpec.key, dif_pos t.isLt]

theorem pr_real (h1 : ∀ i, a1 i = (q i : EReal)) (h2 : ∀ i, a2 i = (kc i : EReal)) (h : Fin 4) (c : Fin 2) (i t : Fin 256) :
    pr (ex (sc a1 a2)) (ix4 h c i t) = (Softmax.wt 256 (ContextSpec.score q kc h c i) t.val : EReal) := by
  obtain ⟨μ, e⟩ : ∃ μ : ℝ, top (sc a1 a2) (ix3 h c i) = (μ : EReal) := by
    refine Softmax.reduce_max_real (a := 3) (sc a1 a2) (fun z => ContextSpec.score q kc (z 0) (z 1) (z 2) (z 3).val) (fun z => ?_) _ _
      (by decide) _ ?_ ⟨0, by decide⟩ _
    · idx_vars z
      exact sc_real h1 h2 _ _ _ _
    · exact ofBits_bot
  have m : ∀ t, mx (top (sc a1 a2)) (ix4 h c i t) = (μ : EReal) := fun t => by
    rw [mx_at, e, ofBits_bot, max_eq_right bot_le]
  have x : ∀ t : Fin 256, ex (sc a1 a2) (ix4 h c i t) = (Real.exp (ContextSpec.score q kc h c i t.val - μ) : EReal) := fun t => by
    rw [ex_at, m, sc_real h1 h2, ← EReal.coe_sub, Ideal.exp_coe]
  rw [pr_at, ← Softmax.wt_div (by norm_num) _ μ]
  simp only [x]
  rw [Softmax.coe_sum, ← Finset.sum_range (fun r => Real.exp (ContextSpec.score q kc h c i r - μ)), ← EReal.coe_sub, Ideal.exp_coe]

theorem av_real (h0 : ∀ i, a0 i = (lam : EReal)) (h1 : ∀ i, a1 i = (q i : EReal)) (h2 : ∀ i, a2 i = (kc i : EReal))
    (h3 : ∀ i, a3 i = (vc i : EReal)) (h : Fin 4) (i : Fin 256) (d : Fin 128) :
    av a3 (df a0 (pr (ex (sc a1 a2)))) (ix3 i h d) = (ContextSpec.out q kc vc lam h i d : EReal) := by
  have w : ∀ t : Fin 256, df a0 (pr (ex (sc a1 a2))) (ix3 h i t)
      = ((Softmax.wt 256 (ContextSpec.score q kc h 0 i) t.val - lam * Softmax.wt 256 (ContextSpec.score q kc h 1 i) t.val : ℝ) : EReal) := fun t => by
    rw [df_at, pr_real h1 h2, pr_real h1 h2, h0, EReal.coe_sub, EReal.coe_mul]
  rw [av_at]
  simp only [w, h3, ← EReal.coe_mul, Softmax.coe_sum]
  refine congrArg (fun z : ℝ => (z : EReal)) ?_
  rw [ContextSpec.out, Finset.sum_range]
  exact Finset.sum_congr rfl fun x _ => by rw [ContextSpec.val, dif_pos x.isLt]

end Cert.Reference6Ideal.Value

end
-- ==== Proof.ContextFinite.lean ====
/- The precondition of the context rows' attention read: where it holds, every element of the first four arguments is a real number. -/
module

public import proofs.«01_k».proof.Defs
public import proofs.«01_k».proof.Proof.Gen.Pre_finite_ctx
public import proofs.«01_k».proof.Proof.Finite

@[expose] public section

set_option maxRecDepth 16384

noncomputable section

namespace Cert.Pre_finite_ctx.Read

open Idealize.ShloMosaic Idealize.ShloMosaic.TcCoe Idealize.SL.Sem
open Cert.Pre_finite_ctx Cert.Pre_finite_ctx.Gen
open Cert.Pre_finite.Read (real_of_cmp top32 top16 and_left and_right)

instance : Subsingleton S_.Idx := ⟨fun a b => funext fun i => i.elim0⟩

/-- The four arrays. -/
theorem reals (a0 : FVec Ideal S1x1 .f32) (a1 : FVec Ideal S2x256x512 .bf16) (a2 : FVec Ideal S256x512 .bf16)
    (a3 : FVec Ideal S4x1x128x256 .bf16) (a4 : FVec Ideal S128x1 .f32) (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have e := congrFun h (Shape.Idx.first h_S_)
  unfold fn fn_part1 at e
  dsimp only at e
  have h3 := and_right e
  have e := and_left e
  have h2 := and_right e
  have e := and_left e
  have h1 := and_right e
  have h0 := and_left e
  exact ⟨fun i => real_of_cmp _ _ top32 (Host.reduce_andi_all _ _ _ _ _ h0 i), fun i => real_of_cmp _ _ top16 (Host.reduce_andi_all _ _ _ _ _ h1 i),
    fun i => real_of_cmp _ _ top16 (Host.reduce_andi_all _ _ _ _ _ h2 i), fun i => real_of_cmp _ _ top16 (Host.reduce_andi_all _ _ _ _ _ h3 i)⟩

end Cert.Pre_finite_ctx.Read

end
-- ==== Proof.ContextValue.lean ====
/- The context rows' attention: every grid point writes the block of one head, and that block holds the reference's values; so
   over finite arguments the kernel and the reference leave the same array. -/
module

public import proofs.«01_k».proof.Proof.Gen.Kernel6Ideal.Value
public import proofs.«01_k».proof.Proof.ContextRun
public import proofs.«01_k».proof.Proof.ContextRef
public import proofs.«01_k».proof.Proof.ContextFinite
public import Idealize.ShloMosaic.Lib.Pipeline.ValueKit
public import proofs.«01_k».proof.Defs
public import proofs.«01_k».proof.Proof.Gen.Kernel6
public import Idealize.ShloMosaic.Lib.Claim
public import Idealize.ShloMosaic.Lib.Quiescent

@[expose] public section

set_option maxRecDepth 16384

noncomputable section

namespace Cert.Kernel6Ideal.Value

open Idealize.ShloMosaic Idealize.ShloMosaic.TcCoe Idealize.SL.Sem
open Idealize.ShloMosaic.Pipeline (Dat)
open Cert.Kernel6Ideal Cert.Kernel6Ideal.Gen Cert.Kernel6Ideal.Run

variable (m : (ℓ : Loc nD τ sig) → Buf (Elt Ideal) ℓ)

/-- The blocks' places: the grid point is the head. -/
theorem idx : ∀ t : Fin cfg0.N, win0_0.index t = ![0, 0] ∧ win0_1.index t = ![0, 0, t.val] ∧ win0_2.index t = ![0, t.val]
    ∧ win0_3.index t = ![t.val, 0, 0, 0] ∧ win0_4.index t = ![0, 0] ∧ win0_5.index t = ![0, t.val] :=
  (by decide +kernel : ∀ t : Fin grid0.N, _)

/-- The head of grid point `t`. -/
abbrev head (t : Fin cfg0.N) : Fin 4 := ⟨t.val, t.isLt⟩

variable (c : Dev nD) (t : Fin cfg0.N)

theorem blk0_at (z) : iblk m c 0 t z = m ((c : Thread nD τ).loc main_arg0) (ix2 0 0) := by
  idx_vars z
  blk_ext [iblk, V, idx t]

theorem blk1_at (a : Fin 2) (i : Fin 256) (x : Fin 128) : iblk m c 1 t (ix3 a i x)
    = m ((c : Thread nD τ).loc main_arg1) (ix3 a i ⟨(head t).val * 128 + x.val, by omega⟩) := by
  blk_ext [iblk, V, idx t]

theorem blk2_at (r : Fin 256) (x : Fin 128) : iblk m c 2 t (ix2 r x)
    = m ((c : Thread nD τ).loc main_arg2) (ix2 r ⟨(head t).val * 128 + x.val, by omega⟩) := by
  blk_ext [iblk, V, idx t]

theorem blk3_at (d : Fin 128) (r : Fin 256) : iblk m c 3 t (ix4 0 0 d r)
    = m ((c : Thread nD τ).loc main_arg3) (ix4 (head t) 0 d r) := by
  blk_ext [iblk, V, idx t]

theorem blk4_at (d : Fin 128) : iblk m c 4 t (ix2 d 0) = m ((c : Thread nD τ).loc main_arg4) (ix2 d 0) := by
  blk_ext [iblk, V, idx t]

variable {m c}
variable {lam : ℝ} {q : S2x256x512.Idx → ℝ} {kc : S256x512.Idx → ℝ} {vc : S4x1x128x256.Idx → ℝ}

/-- The scores of one grid point: column `j` is row `j % 256` of query `j / 256`. -/
abbrev scores (q : S2x256x512.Idx → ℝ) (kc : S256x512.Idx → ℝ) (t : Fin cfg0.N) (j : Fin 512) (r : ℕ) : ℝ :=
  ContextSpec.score q kc (head t) ⟨j.val / 256, by omega⟩ ⟨j.val % 256, by omega⟩ r

/-- The blocks of grid point `t` hold the scores and values of its head. -/
theorem holds (h1 : ∀ i, m ((c : Thread nD τ).loc main_arg1) i = (q i : EReal)) (h2 : ∀ i, m ((c : Thread nD τ).loc main_arg2) i = (kc i : EReal))
    (h3 : ∀ i, m ((c : Thread nD τ).loc main_arg3) i = (vc i : EReal)) :
    Holds (iblk m c 1 t) (iblk m c 2 t) (iblk m c 3 t) (scores q kc t) (ContextSpec.val vc (head t)) where
  score r j := by
    rw [pay6_at, scores, ContextSpec.score, ← Softmax.coe_sum]
    refine Finset.sum_congr rfl fun x _ => ?_
    rw [blk2_at, blk1_at, h1, h2, EReal.coe_mul, ContextSpec.key, dif_pos r.isLt]
  value d r := by
    rw [blk3_at, h3, ContextSpec.val, dif_pos r.isLt]

/-- The reference's term over the kernel's arguments. -/
def ref (m : (ℓ : Loc nD τ sig) → Buf (Elt Ideal) ℓ) (c : Dev nD) : FVec Ideal S256x512 .f32 :=
  Reference6Ideal.Value.nm (m ((c : Thread nD τ).loc main_arg4)) (Reference6Ideal.Value.av (m ((c : Thread nD τ).loc main_arg3))
    (Reference6Ideal.Value.df (m ((c : Thread nD τ).loc main_arg0)) (Reference6Ideal.Value.pr (Reference6Ideal.Value.ex
      (Reference6Ideal.Value.sc (m ((c : Thread nD τ).loc main_arg1)) (m ((c : Thread nD τ).loc main_arg2)))))))

/-- The block's element at row `i` and channel `d` is the reference's. -/
theorem point_at (h0 : ∀ i, m ((c : Thread nD τ).loc main_arg0) i = (lam : EReal))
    (h1 : ∀ i, m ((c : Thread nD τ).loc main_arg1) i = (q i : EReal)) (h2 : ∀ i, m ((c : Thread nD τ).loc main_arg2) i = (kc i : EReal))
    (h3 : ∀ i, m ((c : Thread nD τ).loc main_arg3) i = (vc i : EReal)) (i : Fin 256) (d : Fin 128) :
    outOf (iblk m c 0 t) (iblk m c 1 t) (iblk m c 2 t) (iblk m c 3 t) (iblk m c 4 t) (ix2 i d)
      = ref m c (ix2 i ⟨(head t).val * 128 + d.val, by omega⟩) := by
  have ea : ∀ x, avg (scores q kc t) (ContextSpec.val vc (head t)) lam i x = ContextSpec.out q kc vc lam (head t) i x := fun x => by
    have s₀ : scores q kc t ⟨i.val, by omega⟩ = ContextSpec.score q kc (head t) 0 i := by
      funext r
      have e₁ : i.val / 256 = 0 := by omega
      have e₂ : i.val % 256 = i.val := by omega
      simp only [scores, e₁, e₂]
      rfl
    have s₁ : scores q kc t ⟨256 + i.val, by omega⟩ = ContextSpec.score q kc (head t) 1 i := by
      funext r
      have e₁ : (256 + i.val) / 256 = 1 := by omega
      have e₂ : (256 + i.val) % 256 = i.val := by omega
      simp only [scores, e₁, e₂]
      rfl
    rw [avg, ContextSpec.out, s₀, s₁]
  have eh : (⟨((head t).val * 128 + d.val) / 128, by omega⟩ : Fin 4) = head t := Fin.ext (by simp only; omega)
  have ed : (⟨((head t).val * 128 + d.val) % 128, by omega⟩ : Fin 128) = d := Fin.ext (by simp only; omega)
  rw [out_at (holds t h1 h2 h3) (fun z => (blk0_at m c t z).trans (h0 _)), blk4_at, ref, Reference6Ideal.Value.nm_at]
  unfold Run.norm
  simp only [ea, eh, ed]
  simp only [Reference6Ideal.Value.av_real h0 h1 h2 h3]
  rw [mul_assoc, mul_assoc, mul_assoc]

/-- The result array after the run. -/
theorem final (h0 : ∀ i, m ((c : Thread nD τ).loc main_arg0) i = (lam : EReal))
    (h1 : ∀ i, m ((c : Thread nD τ).loc main_arg1) i = (q i : EReal)) (h2 : ∀ i, m ((c : Thread nD τ).loc main_arg2) i = (kc i : EReal))
    (h3 : ∀ i, m ((c : Thread nD τ).loc main_arg3) i = (vc i : EReal)) : (dats m 0 c).arrAt 5 (cfgs 0).N = ref m c := by
  refine (dats m 0 c).arrAt_eq_of_covers 5 _ (by decide +kernel) fun t _ y => ?_
  blk_simp
  rw [after0_5, outsAt0, out_eq]
  idx_vars y
  rw [point_at t h0 h1 h2 h3]
  refine congrArg (ref m c) ?_
  blk_ext [idx t]

end Cert.Kernel6Ideal.Value

namespace Cert.Proof

open Idealize.ShloMosaic Idealize.ShloMosaic.TcCoe Idealize.SL.Sem

/-- The kernel's result array is the reference's term, where the precondition holds. -/
theorem kernel6_final (m : (ℓ : Loc Cert.Kernel6Ideal.nD Cert.Kernel6Ideal.τ Cert.Kernel6Ideal.sig) → Buf (Elt Ideal) ℓ)
    (hp : Cert.Pre_Kernel6Ideal_finite_ctx (hPre_finite_ctx := Cert.Pre_finite_ctx.Gen.facts) m) (c : Dev Cert.Kernel6Ideal.nD) :
    (Cert.Kernel6Ideal.Gen.dats m 0 c).arrAt 5 (Cert.Kernel6Ideal.cfgs 0).N = Cert.Kernel6Ideal.Value.ref m c := by
  obtain ⟨h0, h1, h2, h3⟩ := Cert.Pre_finite_ctx.Read.reals _ _ _ _ _ (hp c)
  choose q h1 using h1
  choose kc h2 using h2
  choose vc h3 using h3
  obtain ⟨lam, e0⟩ := h0 (ix2 0 0)
  refine Cert.Kernel6Ideal.Value.final (lam := lam) (fun i => ?_) h1 h2 h3
  have : i = ix2 0 0 := by
    idx_vars i
    congr 1 <;> exact Subsingleton.elim _ _
  rw [this]
  exact e0

theorem algebraic6 : Cert.algebraic_Kernel6Ideal_Reference6Ideal_pre_finite_ctx (hKernel6Ideal := Cert.Kernel6Ideal.Gen.facts)
    (hReference6Ideal := Cert.Reference6Ideal.Gen.facts) (hPre_finite_ctx := Cert.Pre_finite_ctx.Gen.facts) := by
  pair_intro
  · run_from Cert.Kernel6Ideal.Gen.run_main m g
  · refine (θ_run _ _ _).mono (fun r h c => ⟨?_, (h c).2⟩) (Cert.Reference6Ideal.Value.run m' g')
    obtain ⟨g0, g1, g2, g3, g4⟩ := hagree c
    rw [(h c).1, Cert.Reference6Ideal.Value.res_eq, kernel6_final m hpre c, Cert.Kernel6Ideal.Value.ref, g0, g1, g2, g3, g4]

theorem frame_reference6 : Cert.quiescent_Reference6Ideal (hReference6Ideal := Cert.Reference6Ideal.Gen.facts) := fun m g _ =>
  (θ_run _ _ _).mono (fun r h => ⟨fun c => (h c).2, sem_eq_zero_of_no_sems rfl r.2⟩) (Cert.Reference6Ideal.Value.run m g)

end Cert.Proof

end
-- ==== Proof.OutProjContext.lean ====
/- The output projection: over the context rows the one grid point writes the reference's array. -/
module

public import proofs.«01_k».proof.Proof.Gen.Kernel7Ideal.Value
public import proofs.«01_k».proof.Proof.Gen.Reference7Ideal.Run
public import Idealize.ShloMosaic.Lib.Pipeline.ValueKit
public import Idealize.ShloMosaic.Lib.Claim
public import proofs.«01_k».proof.Defs
public import proofs.«01_k».proof.Proof.Gen.Kernel7
public import Idealize.ShloMosaic.Lib.Quiescent

@[expose] public section

set_option maxRecDepth 16384

noncomputable section

namespace Cert.Kernel7Ideal.Value

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

/-- The reference's term over its four arguments. -/
def ref (a x : FVec Ideal S256x2048 .f32) (gate : FVec Ideal S1x2048 .f32) (w : FVec Ideal S2048x2048 .f32) : FVec Ideal S256x2048 .f32 :=
  addf x (mulf (broadcastInDim S256x2048 ![0, 1] Cert.Reference7Ideal.Gen.bcast_S1x2048_S256x2048_0_1 gate)
    (Host.dotGeneral Cert.Reference7Ideal.dot_S256x2048_S2048x2048_S256x2048_1_0_0_1_n_n none a w))

/-- The blocks' places. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

variable (c : Dev nD)

/-- What grid point `t` stores is the reference's block. -/
theorem point (t : Fin cfg0.N) (y) : k0_pay1 (iblk m c 0 t) (iblk m c 3 t) (iblk m c 1 t) (iblk m c 2 t) y
    = ref (m ((c : Thread nD τ).loc main_arg0)) (m ((c : Thread nD τ).loc main_arg1)) (m ((c : Thread nD τ).loc main_arg2))
        (m ((c : Thread nD τ).loc main_arg3)) (((cfg0.win 4).blk t).view.emb y) := by
  pointwise [k0_pay1, ref]
  blk_point [iblk, V, idx t]

/-- The result array after the run. -/
theorem final : (dats m 0 c).arrAt 4 (cfgs 0).N
    = ref (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]; frame_out
  exact point m c t y

end Cert.Kernel7Ideal.Value

namespace Cert.Proof

open Idealize.ShloMosaic Idealize.ShloMosaic.TcCoe Idealize.SL.Sem

theorem algebraic7 : Cert.algebraic_Kernel7Ideal_Reference7Ideal (hKernel7Ideal := Cert.Kernel7Ideal.Gen.facts)
    (hReference7Ideal := Cert.Reference7Ideal.Gen.facts) := by
  pair_intro
  · run_from Cert.Kernel7Ideal.Gen.run_main m g
  · refine (θ_run _ _ _).mono (fun r h c => ⟨?_, (h c).2⟩) (Cert.Reference7Ideal.Value.run m' g')
    obtain ⟨g0, g1, g2, g3⟩ := hagree c
    rw [(h c).1, Cert.Kernel7Ideal.Value.final m c, Cert.Kernel7Ideal.Value.ref, g0, g1, g2, g3]

theorem frame_reference7 : Cert.quiescent_Reference7Ideal (hReference7Ideal := Cert.Reference7Ideal.Gen.facts) := fun m g _ =>
  (θ_run _ _ _).mono (fun r h => ⟨fun c => (h c).2, sem_eq_zero_of_no_sems rfl r.2⟩) (Cert.Reference7Ideal.Value.run m g)

end Cert.Proof

end
-- ==== Proof.InProjContextBodyIdeal.lean ====
/- The body of the context rows' input projection: what it stores at a first column block, and at a later one. -/
module

public import Idealize.ShloMosaic.Lib.VecWindow
public import proofs.«01_k».proof.Proof.Gen.Kernel8Ideal.Frame
public import proofs.«01_k».proof.Proof.Gen.Kernel8Ideal.Skeleton

@[expose] public section

set_option maxRecDepth 16384

noncomputable section

namespace Cert.Kernel8Ideal.Body

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a first column block the body stores the normalized rows, their small projection and one block of the main projection. -/
theorem first (c : Dev nD) (i : grid0.Coords) (arg2 : Memref sig .tc .vmem S256x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x128 .bf16) (harg7 : arg7.IsWhole) (arg8 : Memref sig .tc .vmem S256x512 .f32) (harg8 : arg8.IsWhole) (arg9 : Memref sig .tc .vmem S256x128 .f32) (harg9 : arg9.IsWhole) (arg10 : Memref sig .tc .vmem S256x2048 .bf16) (harg10 : arg10.IsWhole) (hc : k0_cond1 i = 1#1)
    (x0 : Vec F S256x2048 .f32) (x1 : Vec F S1x2048 .f32) (x2 : Vec F S1x2048 .f32) (x3 : Vec F S1x2048 .f32) (x4 : Vec F S2048x512 .bf16) (x5 : Vec F S2048x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 (k0_pay2 x0 x1 x3 x2) x4) ∗ owns (c : Thread nD τ) arg9 fullShare (k0_pay3 x0 x1 x3 x2 x5) ∗ owns (c : Thread nD τ) arg10 fullShare (k0_pay2 x0 x1 x3 x2)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  have e0 := (View.readAt_full arg2.view (harg2.unread x0) inb_S256x2048_S256x2048_0_0).trans hf0
  have e1 := (View.readAt_full arg3.view (harg3.unread x1) inb_S1x2048_S1x2048_0_0).trans hf1
  have e2 := (View.readAt_full arg4.view (harg4.unread x2) inb_S1x2048_S1x2048_0_0).trans hf2
  have e3 := (View.readAt_full arg5.view (harg5.unread x3) inb_S1x2048_S1x2048_0_0).trans hf3
  have e4 := (View.readAt_full arg6.view (harg6.unread x4) inb_S2048x512_S2048x512_0_0).trans hf4
  have e5 := (View.readAt_full arg7.view (harg7.unread x5) inb_S2048x128_S2048x128_0_0).trans hf5
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_run_names
    exact (View.read_writes_full _ _ _ _ _).trans (congrArg (fun y => k0_pay4 y x4) (View.readCov_full arg10.view inb_S256x2048_S256x2048_0_0 inb_S256x2048_S256x2048_0_0 _ []))
  isplitl [H7]
  · iexists _; isplitr
    swap; · iexact H7
    ipureintro
    sl_unfold_run_names
    exact View.read_writes_full _ _ _ _ _
  iexists _; isplitr
  swap; · iexact H8
  ipureintro
  sl_unfold_run_names
  exact View.read_writes_full _ _ _ _ _

set_option maxHeartbeats 1000000 in
/-- At a later column block the body stores one block of the main projection of the rows it finds. -/
theorem later (c : Dev nD) (i : grid0.Coords) (arg2 : Memref sig .tc .vmem S256x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x128 .bf16) (harg7 : arg7.IsWhole) (arg8 : Memref sig .tc .vmem S256x512 .f32) (harg8 : arg8.IsWhole) (arg9 : Memref sig .tc .vmem S256x128 .f32) (harg9 : arg9.IsWhole) (arg10 : Memref sig .tc .vmem S256x2048 .bf16) (harg10 : arg10.IsWhole) (hc : ¬k0_cond1 i = 1#1)
    (x0 : Vec F S256x2048 .f32) (x1 : Vec F S1x2048 .f32) (x2 : Vec F S1x2048 .f32) (x3 : Vec F S1x2048 .f32) (x4 : Vec F S2048x512 .bf16) (x5 : Vec F S2048x128 .bf16) (xh : Vec F S256x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg10 fullShare xh
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 xh x4) ∗ owns (c : Thread nD τ) arg10 fullShare xh) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8
  have e8 := (View.readAt_full arg10.view (harg10.unread xh) inb_S256x2048_S256x2048_0_0).trans hf8
  have e0 := (View.readAt_full arg2.view (harg2.unread x0) inb_S256x2048_S256x2048_0_0).trans hf0
  have e1 := (View.readAt_full arg3.view (harg3.unread x1) inb_S1x2048_S1x2048_0_0).trans hf1
  have e2 := (View.readAt_full arg4.view (harg4.unread x2) inb_S1x2048_S1x2048_0_0).trans hf2
  have e3 := (View.readAt_full arg5.view (harg5.unread x3) inb_S1x2048_S1x2048_0_0).trans hf3
  have e4 := (View.readAt_full arg6.view (harg6.unread x4) inb_S2048x512_S2048x512_0_0).trans hf4
  have e5 := (View.readAt_full arg7.view (harg7.unread x5) inb_S2048x128_S2048x128_0_0).trans hf5
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_run_names
    exact View.read_writes_full _ _ _ _ _
  iexists _; isplitr; · ipureintro; exact harg10.read_unread _
  iexact H8

end Cert.Kernel8Ideal.Body

end
-- ==== Proof.InProjContextRunIdeal.lean ====
/- The run of the context rows' input projection: the rows normalized at a row block's first point are carried in the scratch through the row block's
   later points, and so is the small projection in its output's buffer, which is written back after the row block's last point. -/
module

public import proofs.«01_k».proof.Proof.InProjContextBodyIdeal
public import proofs.«01_k».proof.Proof.Gen.Kernel8Ideal.Launch
public import proofs.«01_k».proof.Proof.Gen.Kernel8Ideal.Points
public import Idealize.ShloMosaic.Lib.Pipeline.FrameBody
public import Idealize.ShloMosaic.Lib.Pipeline.TableIdle
public import Idealize.ShloMosaic.Lib.Claim
public import Idealize.ShloMosaic.Lib.Tactic
public import Idealize.ShloMosaic.Lib.WordCmp

@[expose] public section

set_option maxRecDepth 16384

noncomputable section

namespace Cert.Kernel8Ideal.Body

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition holds at the first column block of each row block. -/
theorem cond_iff (t : Fin cfg0.N) : k0_cond1 (grid0.coords t) = 1#1 ↔ t.val % 13 = 0 := by
  have ht : t.val < 13 := Nat.lt_of_lt_of_eq t.isLt N_0
  have e0 : (grid0.coords t 0).val = t.val / 13 % 1 := Pipeline.Grid.coords_val t 0 (by decide) rfl
  have e1 : (grid0.coords t 1).val = t.val / 1 % 13 := Pipeline.Grid.coords_val t 1 (by decide) rfl
  simp only [k0_cond1, e0, e1]
  word_cmp

/-- The first point of a point's row block. -/
def base (t : Fin cfg0.N) : Fin cfg0.N := ⟨t.val / 13 * 13, lt_of_le_of_lt (Nat.div_mul_le_self _ _) t.isLt⟩

theorem base_first (t : Fin cfg0.N) (h : t.val % 13 = 0) : base t = t := Fin.ext (by show t.val / 13 * 13 = t.val; omega)

theorem base_later (t : Fin cfg0.N) (h : t.val % 13 ≠ 0) : base t = base ⟨t.val - 1, by omega⟩ :=
  Fin.ext (by show t.val / 13 * 13 = (t.val - 1) / 13 * 13; omega)

/-- The normalized rows of a point's row block. -/
def rows (c : Dev nD) (t : Fin cfg0.N) : Vec F S256x2048 .bf16 :=
  k0_pay2 (iblk m c 0 (base t)) (iblk m c 1 (base t)) (iblk m c 3 (base t)) (iblk m c 2 (base t))

/-- One block of the main projection. -/
def mainOf (c : Dev nD) (t : Fin cfg0.N) : Vec F S256x512 .f32 := k0_pay4 (rows m c t) (iblk m c 4 t)

/-- The small projection of a point's row block. -/
def smallOf (c : Dev nD) (t : Fin cfg0.N) : Vec F S256x128 .f32 :=
  k0_pay3 (iblk m c 0 (base t)) (iblk m c 1 (base t)) (iblk m c 3 (base t)) (iblk m c 2 (base t)) (iblk m c 5 (base t))

theorem rows_later (c : Dev nD) (t : Fin cfg0.N) (h : t.val % 13 ≠ 0) : rows m c t = rows m c ⟨t.val - 1, by omega⟩ := by
  unfold rows; rw [base_later t h]

theorem smallOf_later (c : Dev nD) (t : Fin cfg0.N) (h : t.val % 13 ≠ 0) : smallOf m c t = smallOf m c ⟨t.val - 1, by omega⟩ := by
  unfold smallOf; rw [base_later t h]

/-- The scratch buffer. -/
abbrev scr : Memref sig .tc .vmem S256x2048 .bf16 := Memref.whole cc0_scratch0

theorem scoped_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- What is held between points: before the first, the scratch at anything; afterwards at the rows of the point before. -/
def held (c : Dev nD) : (n : ℕ) → n ≤ cfg0.N → sProp 𝕄
  | 0, _ => Pipeline.ΦA spec0 c
  | n + 1, hn => iprop(owns (c : Thread nD τ) scr fullShare (rows m c ⟨n, hn⟩) ∗ (∃ r, prngReg c r))

theorem held_pos (c : Dev nD) (n : ℕ) (h : n ≤ cfg0.N) (hz : n ≠ 0) :
    held m c n h = iprop(owns (c : Thread nD τ) scr fullShare (rows m c ⟨n - 1, by omega⟩) ∗ (∃ r, prngReg c r)) := by
  cases n with
  | zero => exact absurd rfl hz
  | succ n => rfl

/-- Forgetting what the scratch holds. -/
theorem held_forget (c : Dev nD) (n : ℕ) (h : n ≤ cfg0.N) : held m c n h ⊢ Pipeline.ΦA spec0 c := by
  cases n with
  | zero => exact Idealize.SL.BI.Entails.refl _
  | succ n =>
    rw [scoped_eq]
    show iprop(owns (c : Thread nD τ) scr fullShare (rows m c ⟨n, h⟩) ∗ (∃ r, prngReg c r)) ⊢ _
    iintro ⟨HS, Hg⟩
    isplitl [HS]
    · iexists _; iexact HS
    iexact Hg

/-- The pipeline's data: the inputs' blocks, the two projections, what is held between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => mainOf m c t
    | ⟨7, _⟩ => smallOf m c t
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) : (dats m 0 c).Φ t.castSucc = held m c t.val (Nat.le_of_lt t.isLt) := by
  dsimp only [dats]; exact Pipeline.Dat.Φ_castSucc (held m c) t

/-- Before any point the scratch is held at something. -/
theorem held_start (c : Dev nD) (t : Fin cfg0.N) :
    (dats m 0 c).Φ t.castSucc ⊢ iprop(iprop((∃ d, owns (c : Thread nD τ) scr fullShare d)) ∗ (∃ r, prngReg c r)) := by
  rw [held_castSucc m c t, ← scoped_eq]; exact held_forget m c _ _

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = mainOf m c t := by dsimp only [dats]
theorem after_7 (c : Dev nD) (t : Fin cfg0.N) : (dats m 0 c).after 7 t = smallOf m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

abbrev ms0_0 (t : Fin cfg0.N) : Memref sig .tc .vmem S256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x128 .f32 := win0_7.stage (cfg0.slots t 7)
abbrev hs0_7 (t : Fin cfg0.N) : (ms0_7 t).IsWhole := hstage0_7 ((cfg0.slots t 7).cast nbuf0_7)

/-- The small output's buffer is idle at the later column blocks. -/
theorem idle_iff : ∀ t : Fin cfg0.N, cfg0.idle 7 (grid0.coords t) = !(decide (t.val % 13 = 0)) := by decide +kernel

theorem fresh_step : ∀ t : Fin cfg0.N,
    decide ((t.val + 1) % 13 = 0) = ((cfg0.win 7).flush t || (cfg0.idle 7 (cfg0.grid.coords t) && decide (t.val % 13 = 0))) := by decide +kernel

theorem fresh_eq (t : Fin cfg0.N) : cfg0.fresh 7 t.val = decide (t.val % 13 = 0) :=
  Pipeline.Cfg.fresh_tab cfg0 7 (fun n => decide (n % 13 = 0)) rfl fresh_step t.val (Nat.le_of_lt t.isLt)

/-- At a later column block the small output's buffer still holds the row block's small projection. -/
theorem small_found (c : Dev nD) (t : Fin cfg0.N) (h : t.val % 13 ≠ 0) (d) : (dats m 0 c).before 7 t d = smallOf m c t := by
  rw [Dat.before_out_traj _ 7 rfl (fun _ _ => rfl) (fun t _ hi _ => by
      rw [idle_iff t] at hi
      have h : t.val % 13 ≠ 0 := by simpa using hi
      rw [after_7, after_7, smallOf_later m c t h]) t.val t rfl d,
    if_neg (by rw [fresh_eq t]; simpa using h), after_7, ← smallOf_later m c t h]

/-- What the body leaves in the small output's buffer, at any point. -/
theorem leaves_small (c : Dev nD) (t : Fin cfg0.N) :
    owns (c : Thread nD τ) (ms0_7 t) fullShare (smallOf m c t) ⊢ (dats m 0 c).leavesExact 7 t := by
  unfold Dat.leavesExact
  rw [idle_iff t]
  by_cases h : t.val % 13 = 0
  · rw [decide_eq_true h, after_7]; exact Idealize.SL.BI.Entails.refl _
  · rw [decide_eq_false h]
    cases hf : (cfg0.win 7).flush t
    · simp only [small_found m c t h]
      show _ ⊢ iprop(∃ _d, owns (c : Thread nD τ) (ms0_7 t) fullShare (smallOf m c t))
      iintro H
      iexists (smallOf m c t)
      iexact H
    · simp only [after_7]; exact Idealize.SL.BI.Entails.refl _

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves_0 (c : Dev nD) (t : Fin cfg0.N) : (dats m 0 c).leavesExact 0 t = owns (c : Thread nD τ) (ms0_0 t) fullShare (iblk m c 0 t) := by
  rw [← after_0 m c t]
theorem leaves_1 (c : Dev nD) (t : Fin cfg0.N) : (dats m 0 c).leavesExact 1 t = owns (c : Thread nD τ) (ms0_1 t) fullShare (iblk m c 1 t) := by
  rw [← after_1 m c t]
theorem leaves_2 (c : Dev nD) (t : Fin cfg0.N) : (dats m 0 c).leavesExact 2 t = owns (c : Thread nD τ) (ms0_2 t) fullShare (iblk m c 2 t) := by
  rw [← after_2 m c t]
theorem leaves_3 (c : Dev nD) (t : Fin cfg0.N) : (dats m 0 c).leavesExact 3 t = owns (c : Thread nD τ) (ms0_3 t) fullShare (iblk m c 3 t) := by
  rw [← after_3 m c t]
theorem leaves_4 (c : Dev nD) (t : Fin cfg0.N) : (dats m 0 c).leavesExact 4 t = owns (c : Thread nD τ) (ms0_4 t) fullShare (iblk m c 4 t) := by
  rw [← after_4 m c t]
theorem leaves_5 (c : Dev nD) (t : Fin cfg0.N) : (dats m 0 c).leavesExact 5 t = owns (c : Thread nD τ) (ms0_5 t) fullShare (iblk m c 5 t) := by
  rw [← after_5 m c t]
theorem leaves_6 (c : Dev nD) (t : Fin cfg0.N) : (dats m 0 c).leavesExact 6 t = owns (c : Thread nD τ) (ms0_6 t) fullShare (mainOf m c t) := by
  rw [← after_6 m c t]

set_option maxHeartbeats 3200000 in
/-- The body at a point. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = iprop(owns (c : Thread nD τ) scr fullShare (rows m c t) ∗ (∃ r, prngReg c r)) from rfl]
  rw [leaves_0, leaves_1, leaves_2, leaves_3, leaves_4, leaves_5, leaves_6]
  by_cases h : t.val % 13 = 0
  · refine BIBase.Entails.trans (sep_mono (held_start m c t) .rfl) ?_
    have hm : mainOf m c t = k0_pay4 (k0_pay2 (iblk m c 0 t) (iblk m c 1 t) (iblk m c 3 t) (iblk m c 2 t)) (iblk m c 4 t) := by
      unfold mainOf rows; rw [base_first t h]
    have hr : rows m c t = k0_pay2 (iblk m c 0 t) (iblk m c 1 t) (iblk m c 3 t) (iblk m c 2 t) := by
      unfold rows; rw [base_first t h]
    have hs : smallOf m c t = k0_pay3 (iblk m c 0 t) (iblk m c 1 t) (iblk m c 3 t) (iblk m c 2 t) (iblk m c 5 t) := by
      unfold smallOf; rw [base_first t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (first c (grid0.coords t) _ _ _ _ _ _ _ _ _ _ _ _ _ _ _ _ _ _ ((cond_iff t).mpr h) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]
      · rw [hr]; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · rw [hm]; iexact H6
    iapply (leaves_small m c t)
    rw [hs]; iexact H7
  · rw [held_castSucc m c t, held_pos m c t.val _ (fun hz => h (by rw [hz])), ← rows_later m c t h]
    simp only [small_found m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (later c (grid0.coords t) _ _ _ _ _ _ _ _ _ _ _ _ _ _ (ms0_7 t) (hs0_7 t) _ _ (fun hh => h ((cond_iff t).mp hh)) (iblk m c 0 t) (iblk m c 1 t) (iblk m c 2 t) (iblk m c 3 t) (iblk m c 4 t) (iblk m c 5 t) (rows m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves_small m c t)
    iexact H7

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_at m c t) rfl .rfl fun _ => .rfl

theorem held_in (c : Dev nD) : Pipeline.ΦA spec0 c ⊢ (dats m 0 c).Φ 0 := by
  rw [show (dats m 0 c).Φ 0 = Pipeline.ΦA spec0 c from rfl]

theorem held_out (c : Dev nD) : (dats m 0 c).Φ (Fin.last cfg0.N) ⊢ Pipeline.ΦA spec0 c := by
  rw [show (dats m 0 c).Φ (Fin.last cfg0.N) = held m c (Fin.last cfg0.N).val (Nat.le_of_lt_succ (Fin.last cfg0.N).isLt) from rfl]
  exact held_forget m c _ _

set_option backward.isDefEq.respectTransparency.types false in
/-- The launch: it ends, with the arrays the pipeline computes and every counter at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := held_in m) (hout := held_out m)

theorem run_main : θ_run defs (onTc (τ := τ) (main (F := F))) (s₀ m ρ) (Pipeline.FramePost cfgs (dats m) 0 (V m)) :=
  (θ_run defs _ _).mono (fun _ h => h.1) (run m ρ)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run m ρ))

end Cert.Kernel8Ideal.Body

end
-- ==== Proof.InProjContextColumns.lean ====
/- The columns of the context rows' input projection: both programs regroup the same columns, the kernel those of the weights, the reference those of
   the product. -/
module

public import proofs.«01_k».proof.Proof.InProjContextRunIdeal
public import proofs.«01_k».proof.Proof.Gen.Reference8Ideal.Run
public import Idealize.ShloMosaic.Lib.Pipeline.ValueKit

@[expose] public section

set_option maxRecDepth 16384

noncomputable section

namespace Cert.Kernel8Ideal.Body

open Idealize.ShloMosaic Idealize.ShloMosaic.TcCoe Idealize.SL.Sem

/-- The column of the input weights a column of the main projection comes from. -/
def colMain (j : Fin 6656) : Fin 6720 :=
  ⟨if j.val < 2048 then j.val else if j.val < 5120 then j.val + 32 else j.val + 64, by have := j.isLt; split_ifs <;> omega⟩

/-- The column of the input weights a column of the small projection comes from, for the first 64. -/
def colSmall (j : Fin 128) : Fin 6720 :=
  ⟨if j.val < 32 then j.val + 2048 else j.val + 5120, by have := j.isLt; split_ifs <;> omega⟩

/-- The main projection's weights. -/
def weightsMain (w : FVec Ideal Cert.Kernel8Ideal.S2048x6720 .f32) : FVec Ideal Cert.Kernel8Ideal.S2048x6656 .f32 :=
  concatenate Cert.Kernel8Ideal.S2048x6656 1
    [⟨Cert.Kernel8Ideal.S2048x1536, extractStridedSlice Cert.Kernel8Ideal.S2048x1536 ![0, 0] w Cert.Kernel8Ideal.Gen.slices_S2048x6720_S2048x1536_0_0⟩,
     ⟨Cert.Kernel8Ideal.S2048x512, extractStridedSlice Cert.Kernel8Ideal.S2048x512 ![0, 1536] w Cert.Kernel8Ideal.Gen.slices_S2048x6720_S2048x512_0_1536⟩,
     ⟨Cert.Kernel8Ideal.S2048x512, extractStridedSlice Cert.Kernel8Ideal.S2048x512 ![0, 2080] w Cert.Kernel8Ideal.Gen.slices_S2048x6720_S2048x512_0_2080⟩,
     ⟨Cert.Kernel8Ideal.S2048x512, extractStridedSlice Cert.Kernel8Ideal.S2048x512 ![0, 2592] w Cert.Kernel8Ideal.Gen.slices_S2048x6720_S2048x512_0_2592⟩,
     ⟨Cert.Kernel8Ideal.S2048x512, extractStridedSlice Cert.Kernel8Ideal.S2048x512 ![0, 3104] w Cert.Kernel8Ideal.Gen.slices_S2048x6720_S2048x512_0_3104⟩,
     ⟨Cert.Kernel8Ideal.S2048x256, extractStridedSlice Cert.Kernel8Ideal.S2048x256 ![0, 3616] w Cert.Kernel8Ideal.Gen.slices_S2048x6720_S2048x256_0_3616⟩,
     ⟨Cert.Kernel8Ideal.S2048x256, extractStridedSlice Cert.Kernel8Ideal.S2048x256 ![0, 3872] w Cert.Kernel8Ideal.Gen.slices_S2048x6720_S2048x256_0_3872⟩,
     ⟨Cert.Kernel8Ideal.S2048x512, extractStridedSlice Cert.Kernel8Ideal.S2048x512 ![0, 4128] w Cert.Kernel8Ideal.Gen.slices_S2048x6720_S2048x512_0_4128⟩,
     ⟨Cert.Kernel8Ideal.S2048x512, extractStridedSlice Cert.Kernel8Ideal.S2048x512 ![0, 4640] w Cert.Kernel8Ideal.Gen.slices_S2048x6720_S2048x512_0_4640⟩,
     ⟨Cert.Kernel8Ideal.S2048x512, extractStridedSlice Cert.Kernel8Ideal.S2048x512 ![0, 5184] w Cert.Kernel8Ideal.Gen.slices_S2048x6720_S2048x512_0_5184⟩,
     ⟨Cert.Kernel8Ideal.S2048x512, extractStridedSlice Cert.Kernel8Ideal.S2048x512 ![0, 5696] w Cert.Kernel8Ideal.Gen.slices_S2048x6720_S2048x512_0_5696⟩,
     ⟨Cert.Kernel8Ideal.S2048x512, extractStridedSlice Cert.Kernel8Ideal.S2048x512 ![0, 6208] w Cert.Kernel8Ideal.Gen.slices_S2048x6720_S2048x512_0_6208⟩]
    Cert.Kernel8Ideal.Gen.concatenates_S2048x1536_S2048x512_S2048x512_S2048x512_S2048x512_S2048x256_S2048x256_S2048x512_S2048x512_S2048x512_S2048x512_S2048x512_S2048x6656_d1

/-- The small projection's weights, before the padding. -/
def weightsSmall (w : FVec Ideal Cert.Kernel8Ideal.S2048x6720 .f32) : FVec Ideal Cert.Kernel8Ideal.S2048x64 .f32 :=
  concatenate Cert.Kernel8Ideal.S2048x64 1
    [⟨Cert.Kernel8Ideal.S2048x16, extractStridedSlice Cert.Kernel8Ideal.S2048x16 ![0, 2048] w Cert.Kernel8Ideal.Gen.slices_S2048x6720_S2048x16_0_2048⟩,
     ⟨Cert.Kernel8Ideal.S2048x16, extractStridedSlice Cert.Kernel8Ideal.S2048x16 ![0, 2064] w Cert.Kernel8Ideal.Gen.slices_S2048x6720_S2048x16_0_2064⟩,
     ⟨Cert.Kernel8Ideal.S2048x32, extractStridedSlice Cert.Kernel8Ideal.S2048x32 ![0, 5152] w Cert.Kernel8Ideal.Gen.slices_S2048x6720_S2048x32_0_5152⟩]
    Cert.Kernel8Ideal.Gen.concatenates_S2048x16_S2048x16_S2048x32_S2048x64_d1

/-- The main columns of a product. -/
def columnsMain (p : FVec Ideal Cert.Reference8Ideal.S256x6720 .f32) : FVec Ideal Cert.Reference8Ideal.S256x6656 .f32 :=
  concatenate Cert.Reference8Ideal.S256x6656 1
    [⟨Cert.Reference8Ideal.S256x1536, extractStridedSlice Cert.Reference8Ideal.S256x1536 ![0, 0] p Cert.Reference8Ideal.Gen.slices_S256x6720_S256x1536_0_0⟩,
     ⟨Cert.Reference8Ideal.S256x512, extractStridedSlice Cert.Reference8Ideal.S256x512 ![0, 1536] p Cert.Reference8Ideal.Gen.slices_S256x6720_S256x512_0_1536⟩,
     ⟨Cert.Reference8Ideal.S256x512, extractStridedSlice Cert.Reference8Ideal.S256x512 ![0, 2080] p Cert.Reference8Ideal.Gen.slices_S256x6720_S256x512_0_2080⟩,
     ⟨Cert.Reference8Ideal.S256x512, extractStridedSlice Cert.Reference8Ideal.S256x512 ![0, 2592] p Cert.Reference8Ideal.Gen.slices_S256x6720_S256x512_0_2592⟩,
     ⟨Cert.Reference8Ideal.S256x512, extractStridedSlice Cert.Reference8Ideal.S256x512 ![0, 3104] p Cert.Reference8Ideal.Gen.slices_S256x6720_S256x512_0_3104⟩,
     ⟨Cert.Reference8Ideal.S256x256, extractStridedSlice Cert.Reference8Ideal.S256x256 ![0, 3616] p Cert.Reference8Ideal.Gen.slices_S256x6720_S256x256_0_3616⟩,
     ⟨Cert.Reference8Ideal.S256x256, extractStridedSlice Cert.Reference8Ideal.S256x256 ![0, 3872] p Cert.Reference8Ideal.Gen.slices_S256x6720_S256x256_0_3872⟩,
     ⟨Cert.Reference8Ideal.S256x512, extractStridedSlice Cert.Reference8Ideal.S256x512 ![0, 4128] p Cert.Reference8Ideal.Gen.slices_S256x6720_S256x512_0_4128⟩,
     ⟨Cert.Reference8Ideal.S256x512, extractStridedSlice Cert.Reference8Ideal.S256x512 ![0, 4640] p Cert.Reference8Ideal.Gen.slices_S256x6720_S256x512_0_4640⟩,
     ⟨Cert.Reference8Ideal.S256x512, extractStridedSlice Cert.Reference8Ideal.S256x512 ![0, 5184] p Cert.Reference8Ideal.Gen.slices_S256x6720_S256x512_0_5184⟩,
     ⟨Cert.Reference8Ideal.S256x512, extractStridedSlice Cert.Reference8Ideal.S256x512 ![0, 5696] p Cert.Reference8Ideal.Gen.slices_S256x6720_S256x512_0_5696⟩,
     ⟨Cert.Reference8Ideal.S256x512, extractStridedSlice Cert.Reference8Ideal.S256x512 ![0, 6208] p Cert.Reference8Ideal.Gen.slices_S256x6720_S256x512_0_6208⟩]
    Cert.Reference8Ideal.Gen.concatenates_S256x1536_S256x512_S256x512_S256x512_S256x512_S256x256_S256x256_S256x512_S256x512_S256x512_S256x512_S256x512_S256x6656_d1

/-- The small columns of a product, zeros after them. -/
def columnsSmall (p : FVec Ideal Cert.Reference8Ideal.S256x6720 .f32) : FVec Ideal Cert.Reference8Ideal.S256x128 .f32 :=
  concatenate Cert.Reference8Ideal.S256x128 1
    [⟨Cert.Reference8Ideal.S256x16, extractStridedSlice Cert.Reference8Ideal.S256x16 ![0, 2048] p Cert.Reference8Ideal.Gen.slices_S256x6720_S256x16_0_2048⟩,
     ⟨Cert.Reference8Ideal.S256x16, extractStridedSlice Cert.Reference8Ideal.S256x16 ![0, 2064] p Cert.Reference8Ideal.Gen.slices_S256x6720_S256x16_0_2064⟩,
     ⟨Cert.Reference8Ideal.S256x32, extractStridedSlice Cert.Reference8Ideal.S256x32 ![0, 5152] p Cert.Reference8Ideal.Gen.slices_S256x6720_S256x32_0_5152⟩,
     ⟨Cert.Reference8Ideal.S256x64, broadcastInDim Cert.Reference8Ideal.S256x64 ![] Cert.Reference8Ideal.Gen.bcast_S_S256x64 (constant (F := Ideal) Cert.Reference8Ideal.S_ .f32 0x00000000#32)⟩]
    Cert.Reference8Ideal.Gen.concatenates_S256x16_S256x16_S256x32_S256x64_S256x128_d1

theorem colMain_eq (j : Fin 6656) (v : ℕ) (h : (j.val < 2048 ∧ v = j.val) ∨ (2048 ≤ j.val ∧ j.val < 5120 ∧ v = j.val + 32) ∨ (5120 ≤ j.val ∧ v = j.val + 64)) :
    v = (colMain j).val := by
  show v = if j.val < 2048 then j.val else if j.val < 5120 then j.val + 32 else j.val + 64
  split_ifs <;> omega

theorem colSmall_eq (j : Fin 128) (v : ℕ) (h : (j.val < 32 ∧ v = j.val + 2048) ∨ (32 ≤ j.val ∧ v = j.val + 5120)) :
    v = (colSmall j).val := by
  show v = if j.val < 32 then j.val + 2048 else j.val + 5120
  split_ifs <;> omega

theorem same {n : ℕ} (w : (⟨2, ![n, 6720]⟩ : Shape).Idx → EReal) (i : Fin n) (a b : Fin 6720) (h : a.val = b.val) : w (ix2 i a) = w (ix2 i b) :=
  congrArg w (congrArg (ix2 i) (Fin.ext h))

theorem either {α : Type} {p : Prop} [Decidable p] {a : p → α} {b : ¬p → α} {z : α} (ha : ∀ h, a h = z) (hb : ∀ h, b h = z) : dite p a b = z := by
  by_cases h : p
  · rw [dif_pos h]; exact ha h
  · rw [dif_neg h]; exact hb h

theorem weightsMain_at (w : FVec Ideal Cert.Kernel8Ideal.S2048x6720 .f32) (i : Fin 2048) (j : Fin 6656) : weightsMain w (ix2 i j) = w (ix2 i (colMain j)) := by
  pointwise [weightsMain]
  have := j.isLt
  refine either (fun h => same w i _ _ (colMain_eq _ _ (by dsimp only; omega))) fun h => ?_
  refine either (fun h => same w i _ _ (colMain_eq _ _ (by dsimp only; omega))) fun h => ?_
  refine either (fun h => same w i _ _ (colMain_eq _ _ (by dsimp only; omega))) fun h => ?_
  refine either (fun h => same w i _ _ (colMain_eq _ _ (by dsimp only; omega))) fun h => ?_
  refine either (fun h => same w i _ _ (colMain_eq _ _ (by dsimp only; omega))) fun h => ?_
  refine either (fun h => same w i _ _ (colMain_eq _ _ (by dsimp only; omega))) fun h => ?_
  refine either (fun h => same w i _ _ (colMain_eq _ _ (by dsimp only; omega))) fun h => ?_
  refine either (fun h => same w i _ _ (colMain_eq _ _ (by dsimp only; omega))) fun h => ?_
  refine either (fun h => same w i _ _ (colMain_eq _ _ (by dsimp only; omega))) fun h => ?_
  refine either (fun h => same w i _ _ (colMain_eq _ _ (by dsimp only; omega))) fun h => ?_
  refine either (fun h => same w i _ _ (colMain_eq _ _ (by dsimp only; omega))) fun h => ?_
  exact same w i _ _ (colMain_eq _ _ (by dsimp only; omega))

theorem columnsMain_at (p : FVec Ideal Cert.Reference8Ideal.S256x6720 .f32) (i : Fin 256) (j : Fin 6656) : columnsMain p (ix2 i j) = p (ix2 i (colMain j)) := by
  pointwise [columnsMain]
  have := j.isLt
  refine either (fun h => same p i _ _ (colMain_eq _ _ (by dsimp only; omega))) fun h => ?_
  refine either (fun h => same p i _ _ (colMain_eq _ _ (by dsimp only; omega))) fun h => ?_
  refine either (fun h => same p i _ _ (colMain_eq _ _ (by dsimp only; omega))) fun h => ?_
  refine either (fun h => same p i _ _ (colMain_eq _ _ (by dsimp only; omega))) fun h => ?_
  refine either (fun h => same p i _ _ (colMain_eq _ _ (by dsimp only; omega))) fun h => ?_
  refine either (fun h => same p i _ _ (colMain_eq _ _ (by dsimp only; omega))) fun h => ?_
  refine either (fun h => same p i _ _ (colMain_eq _ _ (by dsimp only; omega))) fun h => ?_
  refine either (fun h => same p i _ _ (colMain_eq _ _ (by dsimp only; omega))) fun h => ?_
  refine either (fun h => same p i _ _ (colMain_eq _ _ (by dsimp only; omega))) fun h => ?_
  refine either (fun h => same p i _ _ (colMain_eq _ _ (by dsimp only; omega))) fun h => ?_
  refine either (fun h => same p i _ _ (colMain_eq _ _ (by dsimp only; omega))) fun h => ?_
  exact same p i _ _ (colMain_eq _ _ (by dsimp only; omega))

theorem weightsSmall_at (w : FVec Ideal Cert.Kernel8Ideal.S2048x6720 .f32) (i : Fin 2048) (j : Fin 64) :
    weightsSmall w (ix2 i j) = w (ix2 i (colSmall ⟨j.val, by omega⟩)) := by
  pointwise [weightsSmall]
  have := j.isLt
  refine either (fun h => same w i _ _ (colSmall_eq _ _ (by dsimp only; omega))) fun h => ?_
  refine either (fun h => same w i _ _ (colSmall_eq _ _ (by dsimp only; omega))) fun h => ?_
  exact same w i _ _ (colSmall_eq _ _ (by dsimp only; omega))

theorem columnsSmall_at (p : FVec Ideal Cert.Reference8Ideal.S256x6720 .f32) (i : Fin 256) (j : Fin 128) :
    columnsSmall p (ix2 i j) = if j.val < 64 then p (ix2 i (colSmall j)) else 0 := by
  by_cases h : j.val < 64
  · rw [if_pos h]
    pointwise [columnsSmall]
    have := j.isLt
    refine either (fun h => same p i _ _ (colSmall_eq _ _ (by dsimp only; omega))) fun h => ?_
    refine either (fun h => same p i _ _ (colSmall_eq _ _ (by dsimp only; omega))) fun h => ?_
    rw [dif_pos (by omega)]
    exact same p i _ _ (colSmall_eq _ _ (by dsimp only; omega))
  · rw [if_neg h]
    pointwise [columnsSmall]
    have := j.isLt
    rw [dif_neg (by omega), dif_neg (by omega), dif_neg (by omega)]

end Cert.Kernel8Ideal.Body

end
-- ==== Proof.InProjContextValue.lean ====
/- The input projection of the context rows: every grid point writes one block of each of the reference's arrays. -/
module

public import proofs.«01_k».proof.Proof.InProjContextColumns
public import proofs.«01_k».proof.Defs
public import proofs.«01_k».proof.Proof.Gen.Kernel8
public import Idealize.ShloMosaic.Lib.Quiescent
public import Idealize.ShloMosaic.Lib.Claim

@[expose] public section

set_option maxRecDepth 16384

noncomputable section

namespace Cert.Kernel8Ideal.Body

open Idealize.ShloMosaic Idealize.ShloMosaic.TcCoe Idealize.SL.Sem
open Idealize.ShloMosaic.Pipeline (Dat)
open Cert.Kernel8Ideal Cert.Kernel8Ideal.Gen

variable (m : (ℓ : Loc nD τ sig) → Buf (Elt Ideal) ℓ) (c : Dev nD)

/-- The blocks' places. -/
theorem idx : ∀ t : Fin cfg0.N, win0_0.index t = ![t.val / 13, 0] ∧ win0_1.index t = ![0, 0] ∧ win0_2.index t = ![0, 0]
    ∧ win0_3.index t = ![0, 0] ∧ win0_4.index t = ![0, t.val % 13] ∧ win0_5.index t = ![0, 0]
    ∧ win0_6.index t = ![t.val / 13, t.val % 13] ∧ win0_7.index t = ![t.val / 13, 0] :=
  (by decide +kernel : ∀ t : Fin grid0.N, _)

theorem entry_main : V m c main_v18 = truncf .bf16 (weightsMain (m ((c : Thread nD τ).loc main_arg4))) bitsLt_bf16_f32 := by
  entry_read
  rfl

theorem entry_small : V m c main_v19 = truncf .bf16 (pad S2048x128 ![0, 0] ![0, 64] ![0, 0] (weightsSmall (m ((c : Thread nD τ).loc main_arg4)))
    (sitofp (F := Ideal) .f32 (constantI S_ 32 0#32)) pads_S2048x64_S2048x128_000_0640 h_S_) bitsLt_bf16_f32 := by
  entry_read
  rfl

/-- A block of the main weights. -/
theorem block_main (t : Fin cfg0.N) (k : Fin 2048) (j : Fin 512) :
    iblk m c 4 t (ix2 k j) = m ((c : Thread nD τ).loc main_arg4) (ix2 k (colMain ⟨t.val % 13 * 512 + j.val, by have := j.isLt; have := Nat.mod_lt t.val (show 13 > 0 by decide); omega⟩)) := by
  refine Eq.trans ?_ (weightsMain_at _ _ _)
  unfold iblk
  blk_simp
  refine (congrFun (entry_main m c) _).trans ?_
  pointwise
  blk_ext [idx t]

/-- A block of the small weights: the padding is zero. -/
theorem block_small (t : Fin cfg0.N) (k : Fin 2048) (j : Fin 128) :
    iblk m c 5 t (ix2 k j) = if j.val < 64 then m ((c : Thread nD τ).loc main_arg4) (ix2 k (colSmall j)) else (0 : EReal) := by
  unfold iblk
  have e : (win0_5.blk t).view.emb (ix2 k j) = ix2 k j := by blk_ext [idx t]
  blk_simp
  refine (congrArg (V m c main_v19) e).trans ((congrFun (entry_small m c) _).trans ?_)
  pointwise
  by_cases h : j.val < 64
  · rw [dif_pos h, if_pos h, weightsSmall_at]
  · rw [dif_neg h, if_neg h]
    simp [FloatOps.sitofp]

theorem idx_base (t : Fin cfg0.N) : win0_0.index (base t) = ![t.val / 13, 0] ∧ win0_1.index (base t) = ![0, 0] ∧ win0_2.index (base t) = ![0, 0]
    ∧ win0_3.index (base t) = ![0, 0] := by
  have h : (base t).val / 13 = t.val / 13 := by show t.val / 13 * 13 / 13 = t.val / 13; omega
  exact ⟨h ▸ (idx (base t)).1, (idx (base t)).2.1, (idx (base t)).2.2.1, (idx (base t)).2.2.2.1⟩

/-- The reference's normalized rows. -/
def hRef (x : FVec Ideal S256x2048 .f32) (gain shift scale : FVec Ideal S1x2048 .f32) : FVec Ideal S256x2048 .f32 :=
  addf (mulf (mulf (mulf x (broadcastInDim S256x2048 ![0, 1] Cert.Reference8Ideal.Gen.bcast_S256x1_S256x2048_0_1
      (Host.rsqrt (addf (Host.divf (broadcastInDim Cert.Reference8Ideal.S256x1 ![0] Cert.Reference8Ideal.Gen.bcast_S256_S256x1_0
        (Host.reduceAdd (mulf x x) (constant Cert.Reference8Ideal.S_ .f32 0x00000000#32) Cert.Reference8Ideal.Gen.reducesTo_S256x2048_S256_d1 Cert.Reference8Ideal.Gen.h_S_))
        (broadcastInDim Cert.Reference8Ideal.S256x1 ![] Cert.Reference8Ideal.Gen.bcast_S_S256x1 (constant Cert.Reference8Ideal.S_ .f32 0x45000000#32)))
        (broadcastInDim Cert.Reference8Ideal.S256x1 ![] Cert.Reference8Ideal.Gen.bcast_S_S256x1 (constant Cert.Reference8Ideal.S_ .f32 0x358637BD#32))))))
      (broadcastInDim S256x2048 ![0, 1] Cert.Reference8Ideal.Gen.bcast_S1x2048_S256x2048_0_1 gain))
      (broadcastInDim S256x2048 ![0, 1] Cert.Reference8Ideal.Gen.bcast_S1x2048_S256x2048_0_1
        (addf (broadcastInDim S1x2048 ![] Cert.Reference8Ideal.Gen.bcast_S_S1x2048 (constant Cert.Reference8Ideal.S_ .f32 0x3F800000#32)) scale)))
    (broadcastInDim S256x2048 ![0, 1] Cert.Reference8Ideal.Gen.bcast_S1x2048_S256x2048_0_1 shift)

/-- The reference's product with the input weights. -/
def product (x : FVec Ideal S256x2048 .f32) (gain shift scale : FVec Ideal S1x2048 .f32) (w : FVec Ideal S2048x6720 .f32) :
    FVec Ideal Cert.Reference8Ideal.S256x6720 .f32 :=
  Host.dotGeneral Cert.Reference8Ideal.dot_S256x2048_S2048x6720_S256x6720_1_0_0_1_n_n none (hRef x gain shift scale) w

/-- The product the reference forms of this program's arguments. -/
abbrev prod : FVec Ideal Cert.Reference8Ideal.S256x6720 .f32 :=
  product (m ((c : Thread nD τ).loc main_arg0)) (m ((c : Thread nD τ).loc main_arg1)) (m ((c : Thread nD τ).loc main_arg2))
    (m ((c : Thread nD τ).loc main_arg3)) (m ((c : Thread nD τ).loc main_arg4))

theorem point_main (t : Fin cfg0.N) (y : S256x512.Idx) : mainOf m c t y = columnsMain (prod m c) (((cfg0.win 6).blk t).view.emb y) := by
  have hy0 : (y 0).val < 256 := (y 0).isLt
  have hy1 : (y 1).val < 512 := (y 1).isLt
  have ht : t.val < 13 := Nat.lt_of_lt_of_eq t.isLt N_0
  have e : ((cfg0.win 6).blk t).view.emb y = ix2 (⟨t.val / 13 * 256 + (y 0).val, by omega⟩ : Fin 256) (⟨t.val % 13 * 512 + (y 1).val, by omega⟩ : Fin 6656) := by
    blk_ext [idx t]
  rw [e]
  refine Eq.trans ?_ (columnsMain_at _ _ _).symm
  unfold mainOf rows prod
  idx_vars y
  pointwise [k0_pay4, k0_pay2, k0_pay1, product, hRef]
  simp only [block_main]
  blk_point [iblk, V, idx_base t]

theorem point_small (t : Fin cfg0.N) (y : S256x128.Idx) : smallOf m c t y = columnsSmall (prod m c) (((cfg0.win 7).blk t).view.emb y) := by
  have hy0 : (y 0).val < 256 := (y 0).isLt
  have hy1 : (y 1).val < 128 := (y 1).isLt
  have ht : t.val < 13 := Nat.lt_of_lt_of_eq t.isLt N_0
  have e : ((cfg0.win 7).blk t).view.emb y = ix2 (⟨t.val / 13 * 256 + (y 0).val, by omega⟩ : Fin 256) (⟨(y 1).val, hy1⟩ : Fin 128) := by
    blk_ext [idx t]
  rw [e]
  refine Eq.trans ?_ (columnsSmall_at _ _ _).symm
  unfold smallOf prod
  idx_vars y
  pointwise [k0_pay3, k0_pay1, product, hRef]
  simp only [block_small]
  by_cases h : y1.val < 64
  · simp only [h, if_true]
    blk_point [iblk, V, idx_base t]
  · simp only [h, if_false, mul_zero, Finset.sum_const_zero]

/-- The main array after the run. -/
theorem final_main : (dats m 0 c).arrAt 6 (cfgs 0).N = columnsMain (prod m c) := by
  refine (dats m 0 c).arrAt_eq_of_covers 6 _ (by decide +kernel) fun t _ y => ?_
  blk_simp
  rw [after_6]
  exact point_main m c t y

/-- The small array after the run. -/
theorem final_small : (dats m 0 c).arrAt 7 (cfgs 0).N = columnsSmall (prod m c) := by
  refine (dats m 0 c).arrAt_eq_of_covers 7 _ (by decide +kernel) fun t _ y => ?_
  blk_simp
  rw [after_7]
  exact point_small m c t y

end Cert.Kernel8Ideal.Body

namespace Cert.Proof

open Idealize.ShloMosaic Idealize.ShloMosaic.TcCoe Idealize.SL.Sem

theorem algebraic8 : Cert.algebraic_Kernel8Ideal_Reference8Ideal (hKernel8Ideal := Cert.Kernel8Ideal.Gen.facts)
    (hReference8Ideal := Cert.Reference8Ideal.Gen.facts) := by
  pair_intro
  · run_from Cert.Kernel8Ideal.Body.run_main m g
    exact Cert.Kernel8Ideal.Gen.V_main_arg4 m c
  · refine (θ_run _ _ _).mono (fun r h c => ⟨?_, ?_, (h c).2.2⟩) (Cert.Reference8Ideal.Value.run m' g')
    · obtain ⟨g0, g1, g2, g3, g4⟩ := hagree c
      rw [(h c).1, Cert.Kernel8Ideal.Body.final_main m c, Cert.Kernel8Ideal.Body.prod, ← g0, ← g1, ← g2, ← g3, ← g4]
      rfl
    · obtain ⟨g0, g1, g2, g3, g4⟩ := hagree c
      rw [(h c).2.1, Cert.Kernel8Ideal.Body.final_small m c, Cert.Kernel8Ideal.Body.prod, ← g0, ← g1, ← g2, ← g3, ← g4]
      rfl

theorem frame_reference8 : Cert.quiescent_Reference8Ideal (hReference8Ideal := Cert.Reference8Ideal.Gen.facts) := fun m g _ =>
  (θ_run _ _ _).mono (fun r h => ⟨fun c => (h c).2.2, sem_eq_zero_of_no_sems rfl r.2⟩) (Cert.Reference8Ideal.Value.run m g)

end Cert.Proof

end
-- ==== Proof.PrepContextBody.lean ====
/- The preparation of the context rows' queries and keys: what the body computes of a block, lane by lane. -/
module

public import proofs.«01_k».proof.Proof.Gen.Kernel9Ideal.Value
public import Idealize.ShloMosaic.Lib.Pipeline.ValueKit
public import proofs.«01_k».proof.Proof.PrepBody

@[expose] public section

set_option maxRecDepth 16384

noncomputable section

namespace Cert.Kernel9Ideal.Body

open Idealize.ShloMosaic Idealize.ShloMosaic.TcCoe Idealize.SL.Sem
open Cert.Kernel9Ideal Cert.Kernel9Ideal.Gen
open Cert.Kernel5Ideal.Body (mul_64th group_lane same_group first_lane)

/-- A row's group of 64 lanes. -/
theorem group_row (i j : Fin 512) : k0_pay5 (ix2 i j) = BitVec.ofNat 32 (i.val / 64) := by
  unfold k0_pay5
  pointwise
  revert i
  decide +kernel

/-- The same, of the keys. -/
theorem group_row' : k0_pay21 = k0_pay5 := rfl

/-- The first 64 lanes of a head. -/
theorem first_map (i : Fin 256) (j : Fin 512) : k0_pay16 (ix2 i j) = if j.val % 128 < 64 then 1#1 else 0#1 := by
  unfold k0_pay16
  pointwise
  revert j
  decide +kernel

theorem lane32 (i : Fin 256) (j : Fin 512) : k0_pay26 (ix2 i j) = BitVec.ofNat 32 (j.val % 32) := by
  unfold k0_pay26
  pointwise
  revert j
  decide +kernel

/-- A group's mean square, its gain: a block's normalized row. -/
def normed (x : Vec Ideal S256x512 .f32) (g : FVec Ideal S1x512 .f32) (i : Fin 256) (j : Fin 512) : EReal :=
  x (ix2 i j) * Ideal.rsqrt (Ideal.div (∑ k : Fin 512, if k.val / 64 = j.val / 64 then x (ix2 i k) * x (ix2 i k) else 0) (Ideal.ofBits .f32 0x42800000#32)
    + Ideal.ofBits .f32 0x358637BD#32) * g (ix2 0 j)

/-- What the body takes for a block's normalized row. -/
theorem normed_eq (x : Vec Ideal S256x512 .f32) (g : FVec Ideal S1x512 .f32) (i : Fin 256) (j : Fin 512) :
    k0_pay9 x g k0_pay5 (iota .tc S512x512 32 [1] iota_S512x512_d1_w32) 64#32 k0_pay6 k0_pay7 k0_pay8 (ix2 i j) = normed x g i j := by
  unfold k0_pay9
  pointwise
  simp only [group_row, mul_64th]
  unfold k0_pay6 k0_pay7 k0_pay8
  pointwise
  simp only [group_lane]
  unfold normed
  refine congrArg (fun z => x (ix2 i j) * Ideal.rsqrt (Ideal.div z _ + _) * g (ix2 0 j)) (Finset.sum_congr rfl fun k _ => ?_)
  refine (congrArg (fun z => Scalar.select z _ _) (same_group ⟨k.val / 64, by have := k.isLt; omega⟩ ⟨j.val / 64, by have := j.isLt; omega⟩)).trans ?_
  by_cases h : k.val / 64 = j.val / 64
  · rw [if_pos h, if_pos h]; rfl
  · rw [if_neg h, if_neg h]; rfl

/-- The same, of the keys. -/
theorem normed_keys (x : Vec Ideal S256x512 .f32) (g : FVec Ideal S1x512 .f32) :
    k0_pay24 x g k0_pay21 (iota .tc S512x512 32 [1] iota_S512x512_d1_w32) 64#32 k0_pay22 k0_pay23 (Scalar.cmpi .sgt 64#32 0#32)
    = k0_pay9 x g k0_pay5 (iota .tc S512x512 32 [1] iota_S512x512_d1_w32) 64#32 k0_pay6 k0_pay7 k0_pay8 := rfl

/-- The tables of a head, of every head. -/
theorem table_at (v : Vec Ideal S256x128 .f32) (i : Fin 256) (j : Fin 512) : k0_pay2 v (ix2 i j) = v (ix2 i ⟨j.val % 128, Nat.mod_lt _ (by decide)⟩) := by
  unfold k0_pay2
  pointwise
  have hj := j.isLt
  have e : ∀ (k l : Fin 128), k.val = l.val → v (ix2 i k) = v (ix2 i l) := fun k l h => congrArg v (congrArg (ix2 i) (Fin.ext h))
  by_cases h1 : j.val < 128
  · rw [dif_pos h1]
    exact e _ _ (by show j.val = j.val % 128; omega)
  rw [dif_neg h1]
  by_cases h2 : j.val - 128 < 128
  · rw [dif_pos h2]
    exact e _ _ (by show j.val - 128 = j.val % 128; omega)
  rw [dif_neg h2]
  by_cases h3 : j.val - 128 - 128 < 128
  · rw [dif_pos h3]
    exact e _ _ (by show j.val - 128 - 128 = j.val % 128; omega)
  rw [dif_neg h3]
  exact e _ _ (by show j.val - 128 - 128 - 128 = j.val % 128; omega)

/-- A row turned by its place: its lanes by the first table, their partners by the second. -/
def turned (n : FVec Ideal S256x512 .f32) (c s : Vec Ideal S256x128 .f32) (i : Fin 256) (j : Fin 512) : EReal :=
  n (ix2 i j) * c (ix2 i ⟨j.val % 128, Nat.mod_lt _ (by decide)⟩)
    + (if j.val % 32 < 16 then n (ix2 i ⟨(j.val + 16) % 512, Nat.mod_lt _ (by decide)⟩) else n (ix2 i ⟨(j.val + 496) % 512, Nat.mod_lt _ (by decide)⟩))
      * s (ix2 i ⟨j.val % 128, Nat.mod_lt _ (by decide)⟩)

theorem turned_keys (n : FVec Ideal S256x512 .f32) (c s : Vec Ideal S256x128 .f32) (i : Fin 256) (j : Fin 512) :
    k0_pay27 (k0_pay3 s) n (mulf n (k0_pay2 c)) k0_pay26 (ix2 i j) = turned n c s i j := by
  have hs : k0_pay3 s = k0_pay2 s := rfl
  unfold k0_pay27
  rw [hs]
  pointwise
  simp only [table_at, lane32, first_lane]
  unfold turned
  by_cases h : j.val % 32 < 16
  · rw [if_pos h, if_pos h]; rfl
  · rw [if_neg h, if_neg h]; rfl

theorem turned_queries (n : FVec Ideal S256x512 .f32) (c s : Vec Ideal S256x128 .f32) (i : Fin 256) (j : Fin 512) :
    k0_pay15 (k0_pay3 s) n (mulf n (k0_pay2 c)) (Scalar.select (Scalar.cmpi .eq 32#32 0#32) 1#32 32#32) k0_pay11 k0_pay12 k0_pay13 k0_pay14 (ix2 i j)
      = turned n c s i j * Ideal.ofBits .f32 0x3E000000#32 := by
  refine Eq.trans ?_ (congrArg (· * Ideal.ofBits .f32 0x3E000000#32) (turned_keys n c s i j))
  rfl

/-- The normalized rows of a block, as one array. -/
def normedBlock (x : Vec Ideal S256x512 .f32) (g : FVec Ideal S1x512 .f32) : FVec Ideal S256x512 .f32 :=
  fun y => normed x g (y 0) (y 1)

theorem normedBlock_eq (x : Vec Ideal S256x512 .f32) (g : FVec Ideal S1x512 .f32) :
    k0_pay9 x g k0_pay5 (iota .tc S512x512 32 [1] iota_S512x512_d1_w32) 64#32 k0_pay6 k0_pay7 k0_pay8 = normedBlock x g := by
  funext y
  rw [eq_ix2 y]
  exact normed_eq x g _ _

/-- The whole block, read at its own index. -/
theorem at_block (y : S256x512.Idx) : r0_1.idx y = y := by
  funext a
  refine Fin.ext ?_
  match a with
  | ⟨0, _⟩ => show 0 + 1 * (y 0).val = (y 0).val; omega
  | ⟨1, _⟩ => show 0 + 1 * (y 1).val = (y 1).val; omega

theorem at_table (y : S256x128.Idx) : r0_0.idx y = y := by
  funext a
  refine Fin.ext ?_
  match a with
  | ⟨0, _⟩ => show 0 + 1 * (y 0).val = (y 0).val; omega
  | ⟨1, _⟩ => show 0 + 1 * (y 1).val = (y 1).val; omega

theorem at_gain (y : S1x512.Idx) : r0_2.idx y = y := by
  funext a
  refine Fin.ext ?_
  match a with
  | ⟨0, _⟩ => show 0 + 1 * (y 0).val = (y 0).val; omega
  | ⟨1, _⟩ => show 0 + 1 * (y 1).val = (y 1).val; omega

/-- The first copy of the queries' block, and the second. -/
theorem at_first (x : S1x256x512.Idx) : r0_3.idx x = ix3 (0 : Fin 2) (x 1) (x 2) := by
  have h0 : (x 0).val < 1 := (x 0).isLt
  funext a
  refine Fin.ext ?_
  match a with
  | ⟨0, _⟩ => show 0 + 1 * (x 0).val = 0; omega
  | ⟨1, _⟩ => show 0 + 1 * (x 1).val = (x 1).val; omega
  | ⟨2, _⟩ => show 0 + 1 * (x 2).val = (x 2).val; omega

theorem at_second (x : S1x256x512.Idx) : r0_4.idx x = ix3 (1 : Fin 2) (x 1) (x 2) := by
  have h0 : (x 0).val < 1 := (x 0).isLt
  funext a
  refine Fin.ext ?_
  match a with
  | ⟨0, _⟩ => show 1 + 1 * (x 0).val = 1; omega
  | ⟨1, _⟩ => show 0 + 1 * (x 1).val = (x 1).val; omega
  | ⟨2, _⟩ => show 0 + 1 * (x 2).val = (x 2).val; omega

theorem ld_block (x : Vec Ideal S256x512 .f32) : View.ld x r0_1 = x := by
  funext y
  exact congrArg x (at_block y)

theorem ld_table (x : Vec Ideal S256x128 .f32) : View.ld x r0_0 = x := by
  funext y
  exact congrArg x (at_table y)

theorem ld_gain (x : Vec Ideal S1x512 .f32) : k0_pay4 (View.ld x r0_2) = x := by
  have e : (View.ld x r0_2 : Vec Ideal S1x512 .f32) = x := by
    funext y
    exact congrArg x (at_gain y)
  rw [e]
  unfold k0_pay4
  funext y
  rw [eq_ix2 y]
  pointwise

/-- What a point leaves of the keys, as one array. -/
def keys (x1 : Vec Ideal S256x512 .f32) (x3 x4 : Vec Ideal S256x128 .f32) (x6 : Vec Ideal S1x512 .f32) : Vec Ideal S256x512 .bf16 :=
  k0_pay27 (k0_pay3 x4) (normedBlock x1 x6) (mulf (normedBlock x1 x6) (k0_pay2 x3)) k0_pay26

theorem pay_keys (x0 x1 x2 : Vec Ideal S256x512 .f32) (x3 x4 : Vec Ideal S256x128 .f32) (x5 x6 : Vec Ideal S1x512 .f32) :
    out0_8 x0 x1 x2 x3 x4 x5 x6 = View.canon [⟨r0_1, keys x1 x3 x4 x6⟩] := by
  unfold keys
  rw [← normedBlock_eq]
  unfold_out out0_8
  rw [ld_block, ld_table, ld_table, show k0_pay20 (View.ld x6 r0_2) = x6 from ld_gain x6]
  rfl

/-- What a point leaves of the keys. -/
theorem out8_at (x0 x1 x2 : Vec Ideal S256x512 .f32) (x3 x4 : Vec Ideal S256x128 .f32) (x5 x6 : Vec Ideal S1x512 .f32) (i : Fin 256) (j : Fin 512) :
    out0_8 x0 x1 x2 x3 x4 x5 x6 (ix2 i j) = turned (normedBlock x1 x6) x3 x4 i j := by
  refine Eq.trans ?_ (turned_keys _ _ _ _ _)
  rw [pay_keys]
  refine View.canon_apply_of_pieces (keys x1 x3 x4 x6) _ ?_ _ (cover0_8 _ _)
  intro pc hpc
  rcases List.mem_cons.mp hpc with rfl | hpc
  · intro x
    exact congrArg (keys x1 x3 x4 x6) (at_block x).symm
  nomatch hpc

/-- What a point leaves of the queries. -/
def queries (x0 : Vec Ideal S256x512 .f32) (x3 x4 : Vec Ideal S256x128 .f32) (x5 : Vec Ideal S1x512 .f32) : Vec Ideal S2x256x512 .bf16 :=
  fun y => if (y 2).val % 128 / 64 = (y 0).val then turned (normedBlock x0 x5) x3 x4 (y 1) (y 2) * Ideal.ofBits .f32 0x3E000000#32 else 0

theorem piece7_0 (n : FVec Ideal S256x512 .f32) (c s : Vec Ideal S256x128 .f32) (u : Fin 1) (i : Fin 256) (j : Fin 512) :
    k0_pay17 (k0_pay3 s) n (mulf n (k0_pay2 c)) (Scalar.select (Scalar.cmpi .eq 32#32 0#32) 1#32 32#32) k0_pay11 k0_pay12 k0_pay13 k0_pay14 (ix3 u i j)
      = if j.val % 128 / 64 = 0 then turned n c s i j * Ideal.ofBits .f32 0x3E000000#32 else 0 := by
  unfold k0_pay17
  pointwise
  simp only [first_map, turned_queries]
  by_cases h : j.val % 128 < 64
  · rw [if_pos h, if_pos (by omega)]; rfl
  · rw [if_neg h, if_neg (by omega)]; rfl

theorem piece7_1 (n : FVec Ideal S256x512 .f32) (c s : Vec Ideal S256x128 .f32) (u : Fin 1) (i : Fin 256) (j : Fin 512) :
    k0_pay19 (k0_pay18 (k0_pay3 s) n (mulf n (k0_pay2 c)) (Scalar.select (Scalar.cmpi .eq 32#32 0#32) 1#32 32#32) k0_pay11 k0_pay12 k0_pay13 k0_pay14) (ix3 u i j)
      = if j.val % 128 / 64 = 1 then turned n c s i j * Ideal.ofBits .f32 0x3E000000#32 else 0 := by
  unfold k0_pay19 k0_pay18
  pointwise
  simp only [first_map, turned_queries]
  by_cases h : j.val % 128 < 64
  · rw [if_pos h, if_neg (by omega)]; rfl
  · rw [if_neg h, if_pos (by omega)]; rfl

/-- What a point leaves of the queries: a head's first half in the first copy, its second half in the second. -/
theorem out7_eq (x0 x1 x2 : Vec Ideal S256x512 .f32) (x3 x4 : Vec Ideal S256x128 .f32) (x5 x6 : Vec Ideal S1x512 .f32) (y : S2x256x512.Idx) :
    out0_7 x0 x1 x2 x3 x4 x5 x6 y = queries x0 x3 x4 x5 y := by
  have e : out0_7 x0 x1 x2 x3 x4 x5 x6 = View.canon [
      ⟨r0_4, k0_pay19 (k0_pay18 (k0_pay3 x4) (normedBlock x0 x5) (mulf (normedBlock x0 x5) (k0_pay2 x3)) (Scalar.select (Scalar.cmpi .eq 32#32 0#32) 1#32 32#32) k0_pay11 k0_pay12 k0_pay13 k0_pay14)⟩,
      ⟨r0_3, k0_pay17 (k0_pay3 x4) (normedBlock x0 x5) (mulf (normedBlock x0 x5) (k0_pay2 x3)) (Scalar.select (Scalar.cmpi .eq 32#32 0#32) 1#32 32#32) k0_pay11 k0_pay12 k0_pay13 k0_pay14⟩] := by
    rw [← normedBlock_eq]
    unfold_out out0_7
    rw [ld_block, ld_table, ld_table, ld_gain]
    rfl
  rw [e]
  refine View.canon_apply_of_pieces (queries x0 x3 x4 x5) _ ?_ _ (cover0_7 _ _ _)
  intro pc hpc
  rcases List.mem_cons.mp hpc with rfl | hpc
  · intro x
    refine (congrArg _ (eq_ix3 x)).trans ((piece7_1 _ _ _ _ _ _).trans ?_)
    refine (congrArg (queries x0 x3 x4 x5) (at_second x)).symm
  rcases List.mem_cons.mp hpc with rfl | hpc
  · intro x
    refine (congrArg _ (eq_ix3 x)).trans ((piece7_0 _ _ _ _ _ _).trans ?_)
    refine (congrArg (queries x0 x3 x4 x5) (at_first x)).symm
  nomatch hpc

end Cert.Kernel9Ideal.Body

end
-- ==== Proof.PrepContextRef.lean ====
/- The preparation of the context rows' queries and keys as the reference states it, entry by entry. -/
module

public import proofs.«01_k».proof.Proof.Gen.Reference9Ideal.Run
public import proofs.«01_k».proof.Proof.PrepRef
public import Idealize.ShloMosaic.Lib.Pipeline.ValueKit

@[expose] public section

set_option maxRecDepth 16384

noncomputable section

namespace Cert.Reference9Ideal.Body

open Idealize.ShloMosaic Idealize.ShloMosaic.TcCoe Idealize.SL.Sem
open Cert.Reference9Ideal Cert.Reference9Ideal.Gen
open Cert.Reference5Ideal.Body (lane second)

/-- Each half head divided by its root mean square, its gain on it. -/
def normRef (x : FVec Ideal S256x512 .f32) (g : FVec Ideal S64 .f32) : FVec Ideal S256x4x2x64 .f32 :=
  mulf (mulf (shapeCast _ x shapeCasts_S256x512_S256x4x2x64) (broadcastInDim S256x4x2x64 ![0, 1, 2, 3] bcast_S256x4x2x1_S256x4x2x64_0_1_2_3 (Host.rsqrt (addf (Host.divf (broadcastInDim S256x4x2x1 ![0, 1, 2] bcast_S256x4x2_S256x4x2x1_0_1_2 (Host.reduceAdd (mulf (shapeCast _ x shapeCasts_S256x512_S256x4x2x64) (shapeCast _ x shapeCasts_S256x512_S256x4x2x64)) (constant S_ .f32 0x00000000#32) reducesTo_S256x4x2x64_S256x4x2_d3 h_S_)) (broadcastInDim S256x4x2x1 ![] bcast_S_S256x4x2x1 (constant S_ .f32 0x42800000#32))) (broadcastInDim S256x4x2x1 ![] bcast_S_S256x4x2x1 (constant S_ .f32 0x358637BD#32)))))) (broadcastInDim S256x4x2x64 ![0, 1, 2, 3] bcast_S1x1x1x64_S256x4x2x64_0_1_2_3 (broadcastInDim S1x1x1x64 ![3] bcast_S64_S1x1x1x64_3 g))

/-- The queries in their two copies: a head's first half in the first, its second half in the second. -/
def halves (q : FVec Ideal S256x4x2x64 .f32) : FVec Ideal S2x256x4x2x64 .f32 :=
  concatenate S2x256x4x2x64 0 [⟨S1x256x4x2x64, (broadcastInDim S1x256x4x2x64 ![1, 2, 3, 4] bcast_S256x4x2x64_S1x256x4x2x64_1_2_3_4 (concatenate S256x4x2x64 2 [⟨S256x4x1x64, (extractStridedSlice S256x4x1x64 ![0, 0, 0, 0] (mulf q (broadcastInDim S256x4x2x64 ![] bcast_S_S256x4x2x64 (constant S_ .f32 0x3E000000#32))) slices_S256x4x2x64_S256x4x1x64_0_0_0_0)⟩, ⟨S256x4x1x64, (broadcastInDim S256x4x1x64 ![] bcast_S_S256x4x1x64 (constant S_ .f32 0x00000000#32))⟩] concatenates_S256x4x1x64_S256x4x1x64_S256x4x2x64_d2))⟩, ⟨S1x256x4x2x64, (broadcastInDim S1x256x4x2x64 ![1, 2, 3, 4] bcast_S256x4x2x64_S1x256x4x2x64_1_2_3_4 (concatenate S256x4x2x64 2 [⟨S256x4x1x64, (broadcastInDim S256x4x1x64 ![] bcast_S_S256x4x1x64 (constant S_ .f32 0x00000000#32))⟩, ⟨S256x4x1x64, (extractStridedSlice S256x4x1x64 ![0, 0, 1, 0] (mulf q (broadcastInDim S256x4x2x64 ![] bcast_S_S256x4x2x64 (constant S_ .f32 0x3E000000#32))) slices_S256x4x2x64_S256x4x1x64_0_0_1_0)⟩] concatenates_S256x4x1x64_S256x4x1x64_S256x4x2x64_d2))⟩] concatenates_S1x256x4x2x64_S1x256x4x2x64_S2x256x4x2x64_d0

/-- The copies, a place's lanes in one row. -/
def copies (q : FVec Ideal S256x4x2x64 .f32) : FVec Ideal S2x256x512 .bf16 :=
  truncf .bf16 (shapeCast S2x256x512 (halves q) shapeCasts_S2x256x4x2x64_S2x256x512) bitsLt_bf16_f32

theorem normRef_at (x : FVec Ideal S256x512 .f32) (g : FVec Ideal S64 .f32) (r : Fin 256) (a : Fin 4) (b : Fin 2) (d : Fin 64) :
    normRef x g (ix4 r a b d) = x (ix2 r (lane a b d))
      * Ideal.rsqrt (Ideal.div (∑ e : Fin 64, x (ix2 r (lane a b e)) * x (ix2 r (lane a b e))) (Ideal.ofBits .f32 0x42800000#32) + Ideal.ofBits .f32 0x358637BD#32)
      * g (ix1 d) := by
  unfold normRef
  pointwise

/-- The same lanes, of the keys. -/
theorem rows_at (k : FVec Ideal S256x4x2x64 .f32) (r : Fin 256) (a : Fin 4) (b : Fin 2) (d : Fin 64) :
    (truncf .bf16 (shapeCast S256x512 k shapeCasts_S256x4x2x64_S256x512) bitsLt_bf16_f32 : FVec Ideal S256x512 .bf16) (ix2 r (lane a b d)) = k (ix4 r a b d) := by
  show shapeCast S256x512 k shapeCasts_S256x4x2x64_S256x512 (ix2 r (lane a b d)) = _
  refine (shapeCast_apply _ _ (ix2 r (lane a b d)) (ix4 r a b d) ?_)
  rw [Shape.rowMajor_val_four, Shape.rowMajor_val_two]
  show ((r.val * 4 + a.val) * 2 + b.val) * 64 + d.val = r.val * 512 + (a.val * 128 + b.val * 64 + d.val)
  omega

theorem halves_at (q : FVec Ideal S256x4x2x64 .f32) (h : Fin 2) (r : Fin 256) (a : Fin 4) (b : Fin 2) (d : Fin 64) :
    halves q (ix5 h r a b d) = if b.val = h.val then q (ix4 r a b d) * Ideal.ofBits .f32 0x3E000000#32 else 0 := by
  unfold halves
  pointwise
  have hh := h.isLt
  have hb := b.isLt
  by_cases h1 : h.val < 1
  · rw [dif_pos h1]
    by_cases h2 : b.val < 1
    · rw [dif_pos h2, if_pos (by omega)]
    · rw [dif_neg h2, if_neg (by omega)]
  · rw [dif_neg h1]
    by_cases h2 : b.val < 1
    · rw [dif_pos h2, if_neg (by omega)]
    · refine Eq.trans ?_ (if_pos (show b.val = h.val by omega)).symm
      refine (dif_neg h2).trans ?_
      exact congrArg (fun k => q (ix4 r a k d) * _) (Fin.ext (second b h2))

theorem copies_at (q : FVec Ideal S256x4x2x64 .f32) (h : Fin 2) (r : Fin 256) (a : Fin 4) (b : Fin 2) (d : Fin 64) :
    copies q (ix3 h r (lane a b d)) = if b.val = h.val then q (ix4 r a b d) * Ideal.ofBits .f32 0x3E000000#32 else 0 := by
  refine Eq.trans ?_ (halves_at q h r a b d)
  unfold copies
  generalize halves q = y
  refine (truncf_apply _ _ _ _).trans ?_
  refine (shapeCast_apply y _ (ix3 h r (lane a b d)) (ix5 h r a b d) ?_)
  have e5 : (S2x256x4x2x64.rowMajor (ix5 h r a b d)).val = (((h.val * 256 + r.val) * 4 + a.val) * 2 + b.val) * 64 + d.val := Shape.rowMajor_val_five _
  have e3 : (S2x256x512.rowMajor (ix3 h r (lane a b d))).val = (h.val * 256 + r.val) * 512 + (a.val * 128 + b.val * 64 + d.val) := Shape.rowMajor_val_three _
  exact (e5.trans (by omega)).trans e3.symm

end Cert.Reference9Ideal.Body

end
-- ==== Proof.PrepContextValue.lean ====
/- The preparation of the context rows' queries, keys and values: the one grid point writes the reference's three arrays. The
   context has no positions, so the tables are ones and zeros and turn nothing. -/
module

public import proofs.«01_k».proof.Proof.PrepContextBody
public import proofs.«01_k».proof.Proof.PrepContextRef
public import proofs.«01_k».proof.Proof.PrepTurn
public import proofs.«01_k».proof.Defs
public import proofs.«01_k».proof.Proof.Gen.Kernel9
public import Idealize.ShloMosaic.Lib.Claim
public import Idealize.ShloMosaic.Lib.Quiescent

@[expose] public section

set_option maxRecDepth 16384

noncomputable section

namespace Cert.Kernel9Ideal.Body

open Idealize.ShloMosaic Idealize.ShloMosaic.TcCoe Idealize.SL.Sem
open Idealize.ShloMosaic.Pipeline (Dat)
open Cert.Kernel9Ideal Cert.Kernel9Ideal.Gen
open Cert.Kernel5Ideal.Body (group_sum)
open Cert.Reference5Ideal.Body (lane)
open Cert.Reference9Ideal.Body (normRef copies copies_at normRef_at rows_at)

/-- A gain, for every half head. -/
def eight (g : FVec Ideal S64 .f32) : FVec Ideal S1x512 .f32 :=
  broadcastInDim S1x512 ![1] bcast_S512_S1x512_1 (shapeCast S512 (broadcastInDim S8x64 ![0, 1] bcast_S1x64_S8x64_0_1 (shapeCast S1x64 g shapeCasts_S64_S1x64)) shapeCasts_S8x64_S512)

theorem row_at (y : FVec Ideal S512 .f32) (l : Fin 512) : broadcastInDim S1x512 ![1] bcast_S512_S1x512_1 y (ix2 0 l) = y (ix1 l) := by
  pointwise

theorem tall_at (y : FVec Ideal S1x64 .f32) (u : Fin 8) (d : Fin 64) : broadcastInDim S8x64 ![0, 1] bcast_S1x64_S8x64_0_1 y (ix2 u d) = y (ix2 0 d) := by
  pointwise

theorem flat_at (g : FVec Ideal S64 .f32) (d : Fin 64) : shapeCast S1x64 g shapeCasts_S64_S1x64 (ix2 0 d) = g (ix1 d) := by
  pointwise

theorem eight_at (g : FVec Ideal S64 .f32) (l : Fin 512) (u : Fin 8) (d : Fin 64) (h : l.val = u.val * 64 + d.val) :
    eight g (ix2 0 l) = g (ix1 d) := by
  unfold eight
  refine Eq.trans (b := shapeCast S512 (broadcastInDim S8x64 ![0, 1] bcast_S1x64_S8x64_0_1 (shapeCast S1x64 g shapeCasts_S64_S1x64)) shapeCasts_S8x64_S512 (ix1 l)) ?_ ?_
  · exact row_at _ l
  have e1 : (S512.rowMajor (ix1 l)).val = l.val := Shape.rowMajor_val_one _
  have e2 : (S8x64.rowMajor (ix2 u d)).val = u.val * 64 + d.val := Shape.rowMajor_val_two _
  refine (shapeCast_apply _ _ (ix1 l) (ix2 u d) ((e2.trans h.symm).trans e1.symm)).trans ?_
  exact (tall_at _ u d).trans (flat_at g d)

theorem normed_lane (x : Vec Ideal S256x512 .f32) (g : FVec Ideal S1x512 .f32) (i : Fin 256) (a : Fin 4) (b : Fin 2) (d : Fin 64) :
    normed x g i (lane a b d) = x (ix2 i (lane a b d))
      * Ideal.rsqrt (Ideal.div (∑ e : Fin 64, x (ix2 i (lane a b e)) * x (ix2 i (lane a b e))) (Ideal.ofBits .f32 0x42800000#32) + Ideal.ofBits .f32 0x358637BD#32)
      * g (ix2 0 (lane a b d)) := by
  unfold normed
  rw [group_sum (fun k => x (ix2 i k) * x (ix2 i k)) a b d]

/-- Where the first table is one and the second zero, a row stays as it is. -/
theorem turned_still (n : FVec Ideal S256x512 .f32) (c s : Vec Ideal S256x128 .f32) (i : Fin 256) (j : Fin 512)
    (hc : ∀ l, c (ix2 i l) = 1) (hs : ∀ l, s (ix2 i l) = 0) : turned n c s i j = n (ix2 i j) := by
  unfold turned
  rw [hc, hs, mul_one, mul_zero, add_zero]

variable (m : (ℓ : Loc nD τ sig) → Buf (Elt Ideal) ℓ) (c : Dev nD)

theorem entry_gainQ : V m c main_v44 = eight (m ((c : Thread nD τ).loc main_arg1)) := by
  entry_read
  rfl

theorem entry_gainK : V m c main_v48 = eight (m ((c : Thread nD τ).loc main_arg2)) := by
  entry_read
  rfl

theorem entry_ones : V m c main_v39 = broadcastInDim S256x128 ![] bcast_S_S256x128 (constant (F := Ideal) S_ .f32 0x3F800000#32) := by
  entry_read
  rfl

theorem entry_zeros : V m c main_v40 = broadcastInDim S256x128 ![] bcast_S_S256x128 (constant (F := Ideal) S_ .f32 0x00000000#32) := by
  entry_read
  rfl

/-- The blocks' places. -/
theorem idx : ∀ t : Fin cfg0.N, win0_0.index t = ![0, 10] ∧ win0_1.index t = ![0, 11] ∧ win0_2.index t = ![0, 12]
    ∧ win0_3.index t = ![0, 0] ∧ win0_4.index t = ![0, 0] ∧ win0_5.index t = ![0, 0] ∧ win0_6.index t = ![0, 0]
    ∧ win0_7.index t = ![0, 0, 0] ∧ win0_8.index t = ![0, 0] ∧ win0_9.index t = ![0, 0, 0, 0] :=
  (by decide +kernel : ∀ t : Fin grid0.N, _)

/-- The columns of the projected rows the queries, the keys and the values are read from. -/
def colsQ (x : FVec Ideal S256x6656 .f32) : FVec Ideal S256x512 .f32 :=
  extractStridedSlice S256x512 ![0, 5120] x Cert.Reference9Ideal.Gen.slices_S256x6656_S256x512_0_5120
@[inherit_doc colsQ] def colsK (x : FVec Ideal S256x6656 .f32) : FVec Ideal S256x512 .f32 :=
  extractStridedSlice S256x512 ![0, 5632] x Cert.Reference9Ideal.Gen.slices_S256x6656_S256x512_0_5632
@[inherit_doc colsQ] def colsV (x : FVec Ideal S256x6656 .f32) : FVec Ideal S256x512 .f32 :=
  extractStridedSlice S256x512 ![0, 6144] x Cert.Reference9Ideal.Gen.slices_S256x6656_S256x512_0_6144

theorem block_q (t : Fin cfg0.N) (i : Fin 256) (k : Fin 512) : iblk m c 0 t (ix2 i k) = colsQ (m ((c : Thread nD τ).loc main_arg0)) (ix2 i k) := by
  unfold iblk colsQ
  blk_simp
  refine (congrFun (V_main_arg0 m c) _).trans ?_
  pointwise
  blk_ext [idx t]

theorem block_k (t : Fin cfg0.N) (i : Fin 256) (k : Fin 512) : iblk m c 1 t (ix2 i k) = colsK (m ((c : Thread nD τ).loc main_arg0)) (ix2 i k) := by
  unfold iblk colsK
  blk_simp
  refine (congrFun (V_main_arg0 m c) _).trans ?_
  pointwise
  blk_ext [idx t]

theorem block_v (t : Fin cfg0.N) (i : Fin 256) (k : Fin 512) : iblk m c 2 t (ix2 i k) = colsV (m ((c : Thread nD τ).loc main_arg0)) (ix2 i k) := by
  unfold iblk colsV
  blk_simp
  refine (congrFun (V_main_arg0 m c) _).trans ?_
  pointwise
  blk_ext [idx t]

theorem block_ones (t : Fin cfg0.N) (i : Fin 256) (l : Fin 128) : iblk m c 3 t (ix2 i l) = (1 : EReal) := by
  have p : (win0_3.blk t).view.emb (ix2 i l) = ix2 i l := by blk_ext [idx t]
  unfold iblk
  blk_simp
  refine (congrArg (V m c main_v39) p).trans ((congrFun (entry_ones m c) _).trans ?_)
  pointwise

theorem block_zeros (t : Fin cfg0.N) (i : Fin 256) (l : Fin 128) : iblk m c 4 t (ix2 i l) = (0 : EReal) := by
  have p : (win0_4.blk t).view.emb (ix2 i l) = ix2 i l := by blk_ext [idx t]
  unfold iblk
  blk_simp
  refine (congrArg (V m c main_v40) p).trans ((congrFun (entry_zeros m c) _).trans ?_)
  pointwise

theorem block_gainQ (t : Fin cfg0.N) (a : Fin 4) (b : Fin 2) (d : Fin 64) :
    iblk m c 5 t (ix2 0 (lane a b d)) = m ((c : Thread nD τ).loc main_arg1) (ix1 d) := by
  have p : (win0_5.blk t).view.emb (ix2 0 (lane a b d)) = ix2 0 (lane a b d) := by blk_ext [idx t]
  unfold iblk
  blk_simp
  refine (congrArg (V m c main_v44) p).trans ((congrFun (entry_gainQ m c) _).trans ?_)
  exact eight_at _ _ ⟨a.val * 2 + b.val, by omega⟩ d (by show a.val * 128 + b.val * 64 + d.val = (a.val * 2 + b.val) * 64 + d.val; omega)

theorem block_gainK (t : Fin cfg0.N) (a : Fin 4) (b : Fin 2) (d : Fin 64) :
    iblk m c 6 t (ix2 0 (lane a b d)) = m ((c : Thread nD τ).loc main_arg2) (ix1 d) := by
  have p : (win0_6.blk t).view.emb (ix2 0 (lane a b d)) = ix2 0 (lane a b d) := by blk_ext [idx t]
  unfold iblk
  blk_simp
  refine (congrArg (V m c main_v48) p).trans ((congrFun (entry_gainK m c) _).trans ?_)
  exact eight_at _ _ ⟨a.val * 2 + b.val, by omega⟩ d (by show a.val * 128 + b.val * 64 + d.val = (a.val * 2 + b.val) * 64 + d.val; omega)

/-- The values, each head's rows turned into columns. -/
def valuesRef (x : FVec Ideal S256x512 .f32) : FVec Ideal Cert.Reference9Ideal.S4x1x128x256 .bf16 :=
  truncf .bf16 (transpose Cert.Reference9Ideal.S4x1x128x256 [2, 0, 3, 1] (shapeCast Cert.Reference9Ideal.S1x256x4x128 x
    Cert.Reference9Ideal.Gen.shapeCasts_S256x512_S1x256x4x128) Cert.Reference9Ideal.Gen.transposes_S1x256x4x128_S4x1x128x256_2_0_3_1) Cert.Reference9Ideal.Gen.bitsLt_bf16_f32

theorem turn_at (y : FVec Ideal Cert.Reference9Ideal.S1x256x4x128 .f32) (a : Fin 4) (t : Fin 1) (l : Fin 128) (i : Fin 256) :
    transpose Cert.Reference9Ideal.S4x1x128x256 [2, 0, 3, 1] y Cert.Reference9Ideal.Gen.transposes_S1x256x4x128_S4x1x128x256_2_0_3_1 (ix4 a t l i) = y (ix4 t i a l) := by
  pointwise
  exact congrArg (fun u => y (ix4 u i a l)) (Subsingleton.elim 0 t)

theorem valuesRef_at (x : FVec Ideal S256x512 .f32) (a : Fin 4) (t : Fin 1) (l : Fin 128) (i : Fin 256) :
    valuesRef x (ix4 a t l i) = x (ix2 i ⟨a.val * 128 + l.val, by omega⟩) := by
  unfold valuesRef
  refine (truncf_apply _ _ _ _).trans ((turn_at _ a t l i).trans ?_)
  have e4 : (Cert.Reference9Ideal.S1x256x4x128.rowMajor (ix4 t i a l)).val = ((t.val * 256 + i.val) * 4 + a.val) * 128 + l.val := Shape.rowMajor_val_four _
  have e2 : (S256x512.rowMajor (ix2 i (⟨a.val * 128 + l.val, by omega⟩ : Fin 512))).val
      = i.val * 512 + (a.val * 128 + l.val) := Shape.rowMajor_val_two _
  exact shapeCast_apply _ _ (ix4 t i a l) _ ((e2.trans (by have := t.isLt; omega)).trans e4.symm)

/-- The queries' normalized rows, as the reference states them. -/
abbrev normQ : FVec Ideal Cert.Reference9Ideal.S256x4x2x64 .f32 := normRef (colsQ (m ((c : Thread nD τ).loc main_arg0))) (m ((c : Thread nD τ).loc main_arg1))

/-- The keys' normalized rows, as the reference states them. -/
abbrev normK : FVec Ideal Cert.Reference9Ideal.S256x4x2x64 .f32 := normRef (colsK (m ((c : Thread nD τ).loc main_arg0))) (m ((c : Thread nD τ).loc main_arg2))

/-- The keys, as the reference states them. -/
def keysRef (k : FVec Ideal Cert.Reference9Ideal.S256x4x2x64 .f32) : FVec Ideal S256x512 .bf16 :=
  truncf .bf16 (shapeCast S256x512 k Cert.Reference9Ideal.Gen.shapeCasts_S256x4x2x64_S256x512) Cert.Reference9Ideal.Gen.bitsLt_bf16_f32

theorem lanes (j : Fin 512) : ∃ (a : Fin 4) (b : Fin 2) (d : Fin 64), j = lane a b d :=
  ⟨⟨j.val / 128, by omega⟩, ⟨j.val % 128 / 64, by omega⟩, ⟨j.val % 64, by omega⟩,
    Fin.ext (by show j.val = j.val / 128 * 128 + j.val % 128 / 64 * 64 + j.val % 64; omega)⟩

theorem norm_q (t : Fin cfg0.N) (i : Fin 256) (a : Fin 4) (b : Fin 2) (d : Fin 64) :
    normedBlock (iblk m c 0 t) (iblk m c 5 t) (ix2 i (lane a b d)) = normQ m c (ix4 i a b d) := by
  refine (normed_lane (iblk m c 0 t) (iblk m c 5 t) i a b d).trans ?_
  refine Eq.trans ?_ (normRef_at _ _ _ _ _ _).symm
  simp only [block_q]
  rw [block_gainQ]

theorem turn_q (t : Fin cfg0.N) (i : Fin 256) (a : Fin 4) (b : Fin 2) (d : Fin 64) :
    turned (normedBlock (iblk m c 0 t) (iblk m c 5 t)) (iblk m c 3 t) (iblk m c 4 t) i (lane a b d) = normQ m c (ix4 i a b d) :=
  (turned_still _ _ _ i (lane a b d) (block_ones m c t i) (block_zeros m c t i)).trans (norm_q m c t i a b d)

theorem norm_k (t : Fin cfg0.N) (i : Fin 256) (a : Fin 4) (b : Fin 2) (d : Fin 64) :
    normedBlock (iblk m c 1 t) (iblk m c 6 t) (ix2 i (lane a b d)) = normK m c (ix4 i a b d) := by
  refine (normed_lane (iblk m c 1 t) (iblk m c 6 t) i a b d).trans ?_
  refine Eq.trans ?_ (normRef_at _ _ _ _ _ _).symm
  simp only [block_k]
  rw [block_gainK]

theorem turn_k (t : Fin cfg0.N) (i : Fin 256) (a : Fin 4) (b : Fin 2) (d : Fin 64) :
    turned (normedBlock (iblk m c 1 t) (iblk m c 6 t)) (iblk m c 3 t) (iblk m c 4 t) i (lane a b d) = normK m c (ix4 i a b d) :=
  (turned_still _ _ _ i (lane a b d) (block_ones m c t i) (block_zeros m c t i)).trans (norm_k m c t i a b d)

theorem point_q (t : Fin cfg0.N) (h : Fin 2) (i : Fin 256) (j : Fin 512) :
    queries (iblk m c 0 t) (iblk m c 3 t) (iblk m c 4 t) (iblk m c 5 t) (ix3 h i j) = copies (normQ m c) (ix3 h i j) := by
  obtain ⟨a, b, d, rfl⟩ := lanes j
  rw [copies_at]
  show (if (a.val * 128 + b.val * 64 + d.val) % 128 / 64 = h.val then turned (normedBlock (iblk m c 0 t) (iblk m c 5 t)) (iblk m c 3 t) (iblk m c 4 t) i (lane a b d)
    * Ideal.ofBits .f32 0x3E000000#32 else 0) = _
  rw [turn_q, show (a.val * 128 + b.val * 64 + d.val) % 128 / 64 = b.val by omega]

theorem point_k (t : Fin cfg0.N) (i : Fin 256) (j : Fin 512) :
    turned (normedBlock (iblk m c 1 t) (iblk m c 6 t)) (iblk m c 3 t) (iblk m c 4 t) i j = keysRef (normK m c) (ix2 i j) := by
  obtain ⟨a, b, d, rfl⟩ := lanes j
  rw [turn_k]
  exact (rows_at _ _ _ _ _).symm

theorem point_v (t : Fin cfg0.N) (y : S4x1x128x256.Idx) :
    Value.E9 (iblk m c 2 t) y = valuesRef (colsV (m ((c : Thread nD τ).loc main_arg0)))
      (ix4 (y 0) (0 : Fin 1) (y 2) (y 3)) := by
  have h0 : (y 0).val < 4 := (y 0).isLt
  have h2 : (y 2).val < 128 := (y 2).isLt
  refine Eq.trans ?_ (valuesRef_at _ (y 0) 0 (y 2) (y 3)).symm
  refine Eq.trans ?_ (block_v m c t (y 3) ⟨(y 0).val * 128 + (y 2).val, by omega⟩)
  show iblk m c 2 t (Value.ix9_0 y) = _
  refine congrArg (iblk m c 2 t) ?_
  funext a
  refine Fin.ext ?_
  match a with
  | ⟨0, _⟩ => rfl
  | ⟨1, _⟩ => show Fin.val (Value.ix9_0 y 1) = (y 0).val * 128 + (y 2).val; dsimp only [Value.ix9_0]; try omega

/-- The queries' array after the run. -/
theorem final_q : (dats m 0 c).arrAt 7 (cfgs 0).N = copies (normQ m c) := by
  refine (dats m 0 c).arrAt_eq_of_covers 7 _ (by decide +kernel) fun t _ y => ?_
  blk_simp
  rw [after0_7, out7_eq]
  have e : ((cfg0.win 7).blk t).view.emb y = ix3 (y 0) (y 1) (y 2) := by blk_ext [idx t]
  refine Eq.trans ?_ (congrArg (copies (normQ m c)) e).symm
  refine Eq.trans ?_ (point_q m c t (y 0) (y 1) (y 2))
  exact congrArg _ (eq_ix3 y)

/-- The keys' array after the run. -/
theorem final_k : (dats m 0 c).arrAt 8 (cfgs 0).N = keysRef (normK m c) := by
  refine (dats m 0 c).arrAt_eq_of_covers 8 _ (by decide +kernel) fun t _ y => ?_
  blk_simp
  rw [after0_8]
  have e : ((cfg0.win 8).blk t).view.emb y = ix2 (y 0) (y 1) := by blk_ext [idx t]
  refine Eq.trans ?_ (congrArg (keysRef (normK m c)) e).symm
  refine (congrArg _ (eq_ix2 y)).trans ((out8_at _ _ _ _ _ _ _ (y 0) (y 1)).trans ?_)
  exact point_k m c t (y 0) (y 1)

/-- The values' array after the run. -/
theorem final_v : (dats m 0 c).arrAt 9 (cfgs 0).N = valuesRef (colsV (m ((c : Thread nD τ).loc main_arg0))) := by
  refine (dats m 0 c).arrAt_eq_of_covers 9 _ (by decide +kernel) fun t _ y => ?_
  blk_simp
  rw [after0_9]
  have e : ((cfg0.win 9).blk t).view.emb y = ix4 (y 0) (0 : Fin 1) (y 2) (y 3) := by
    have h1 : (y 1).val < 1 := (y 1).isLt
    blk_ext [idx t]
  refine Eq.trans ?_ (congrArg (valuesRef (colsV (m ((c : Thread nD τ).loc main_arg0)))) e).symm
  unfold_out out0_9
  refine (Value.canon9_eq _ y).trans ?_
  rw [ld_block]
  exact point_v m c t y

end Cert.Kernel9Ideal.Body

namespace Cert.Proof

open Idealize.ShloMosaic Idealize.ShloMosaic.TcCoe Idealize.SL.Sem

theorem algebraic9 : Cert.algebraic_Kernel9Ideal_Reference9Ideal (hKernel9Ideal := Cert.Kernel9Ideal.Gen.facts)
    (hReference9Ideal := Cert.Reference9Ideal.Gen.facts) := by
  pair_intro
  · run_from Cert.Kernel9Ideal.Value.run_blocks m g
  · refine (θ_run _ _ _).mono (fun r h c => ⟨?_, ?_, ?_, (h c).2.2.2⟩) (Cert.Reference9Ideal.Value.run m' g')
    · obtain ⟨g0, g1, g2⟩ := hagree c
      rw [(h c).1, Cert.Kernel9Ideal.Body.final_q m c, g0, g1]
      rfl
    · obtain ⟨g0, g1, g2⟩ := hagree c
      rw [(h c).2.1, Cert.Kernel9Ideal.Body.final_k m c, g0, g2]
      rfl
    · obtain ⟨g0, g1, g2⟩ := hagree c
      rw [(h c).2.2.1, Cert.Kernel9Ideal.Body.final_v m c, g0]
      rfl

theorem frame_reference9 : Cert.quiescent_Reference9Ideal (hReference9Ideal := Cert.Reference9Ideal.Gen.facts) := fun m g _ =>
  (θ_run _ _ _).mono (fun r h => ⟨fun c => (h c).2.2.2, sem_eq_zero_of_no_sems rfl r.2⟩) (Cert.Reference9Ideal.Value.run m g)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Algebraic
public import proofs.«01_k».proof.Proof.Gen.Kernel2Ideal.Frame
public import proofs.«01_k».proof.Proof.Gen.Kernel2.Frame
public import proofs.«01_k».proof.Proof.Gen.Kernel3.Frame
public import proofs.«01_k».proof.Proof.OutProj
public import proofs.«01_k».proof.Proof.InProjRun
public import proofs.«01_k».proof.Proof.InProjValue
public import proofs.«01_k».proof.Proof.Gen.Kernel2Ideal.Skeleton
public import proofs.«01_k».proof.Proof.Gen.Kernel2.Skeleton
public import proofs.«01_k».proof.Proof.Gen.Pre_experts
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import Idealize.ShloMosaic.Lib.Claim
public import Idealize.ShloMosaic.Adequacy
public import Idealize.ShloMosaic.Init
public import proofs.«01_k».proof.Proof.ExpertsRun
public import proofs.«01_k».proof.Proof.ExpertsValue
public import proofs.«01_k».proof.Proof.PrepValue
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Pre_finite_ctx
public import proofs.«01_k».proof.Proof.ContextValue
public import proofs.«01_k».proof.Proof.OutProjContext
public import proofs.«01_k».proof.Proof.InProjContextRun
public import proofs.«01_k».proof.Proof.InProjContextValue
public import proofs.«01_k».proof.Proof.PrepContextValue

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite.Gen.facts, Cert.Pre_experts.Gen.facts, Cert.Pre_finite_ctx.Gen.facts,
  fun m g _ => Cert.Kernel.Gen.frame m g, fun m g _ => Cert.KernelIdeal.Gen.frame m g, fun m g _ => Cert.KernelIdeal.Gen.frame m g,
  frame_reference, fun m g _ => frame_reference m g trivial,
  fun m g _ => Cert.Kernel2.Body.frame m g, fun m g _ => Cert.Kernel2Ideal.Body.frame m g, frame_reference2,
  fun m g _ => Cert.Kernel3.Gen.frame m g, fun m g _ => Cert.Kernel3Ideal.Gen.frame m g, frame_reference3,
  fun m g h => Cert.Kernel4.Body.frame m g fun x => Cert.Pre_experts.Read.inRange _ _ _ _ _ _ (h 0) x,
  fun m g h => Cert.Kernel4Ideal.Body.frame m g fun x => Cert.Pre_experts.Read.inRange _ _ _ _ _ _ (h 0) x,
  frame_reference4, fun m g _ => frame_reference4 m g trivial,
  fun m g _ => Cert.Kernel5.Gen.frame m g, fun m g _ => Cert.Kernel5Ideal.Gen.frame m g, frame_reference5,
  fun m g _ => Cert.Kernel6.Gen.frame m g, fun m g _ => Cert.Kernel6Ideal.Gen.frame m g, fun m g _ => Cert.Kernel6Ideal.Gen.frame m g,
  frame_reference6, fun m g _ => frame_reference6 m g trivial,
  fun m g _ => Cert.Kernel7.Gen.frame m g, fun m g _ => Cert.Kernel7Ideal.Gen.frame m g, frame_reference7,
  fun m g _ => Cert.Kernel8.Body.frame m g, fun m g _ => Cert.Kernel8Ideal.Body.frame m g, frame_reference8,
  fun m g _ => Cert.Kernel9.Gen.frame m g, fun m g _ => Cert.Kernel9Ideal.Gen.frame m g, frame_reference9,
  trivial, algebraic, trivial, algebraic2, trivial, algebraic3, trivial, algebraic4, trivial, algebraic5,
  trivial, algebraic6, trivial, algebraic7, trivial, algebraic8, trivial, algebraic9⟩

end Cert.Proof

end
